-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_v24) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts) (hPre_tame : Cert.Pre_tame.Facts),
    quiescent_Kernel (hKernel := hKernel) (hPre_in_range := hPre_in_range)
    ∧ quiescent_KernelIdeal (hKernelIdeal := hKernelIdeal) (hPre_in_range := hPre_in_range)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_in_range.lean ====
abbrev S4x384x2048 : Shape := ⟨3, ![4, 384, 2048]⟩
abbrev S4x384 : Shape := ⟨2, ![4, 384]⟩
abbrev S4x384x8192 : Shape := ⟨3, ![4, 384, 8192]⟩
abbrev S2048x8192 : Shape := ⟨2, ![2048, 8192]⟩
abbrev S8192 : Shape := ⟨1, ![8192]⟩
abbrev S5x2048x32 : Shape := ⟨3, ![5, 2048, 32]⟩
abbrev S5x32x8192 : Shape := ⟨3, ![5, 32, 8192]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : IVec S4x384x2048 8) (main_arg1 : FVec F S4x384 .f32) (main_arg2 : IVec S4x384x8192 8) (main_arg3 : FVec F S4x384 .f32) (main_arg4 : FVec F S2048x8192 .fp8e4m3) (main_arg5 : FVec F S8192 .f32) (main_arg6 : FVec F S5x2048x32 .bf16) (main_arg7 : FVec F S5x32x8192 .bf16) (main_arg8 : IVec S4 32) : IVec S_ 1 :=
  let main_c : IVec S_ 32 := constantI S_ 32 0#32
  let main_v0 : IVec S4 32 := broadcastInDim S4 ![] bcast_S_S4 main_c
  let main_v1 : IVec S4 1 := cmpi .sge main_arg8 main_v0
  let main_c_0 : IVec S_ 32 := constantI S_ 32 5#32
  let main_v2 : IVec S4 32 := broadcastInDim S4 ![] bcast_S_S4 main_c_0
  let main_v3 : IVec S4 1 := cmpi .slt main_arg8 main_v2
  let main_v4 : IVec S4 1 := andi main_v1 main_v3
  let main_c_1 : IVec S_ 1 := constantI S_ 1 1#1
  let main_v5 : IVec S_ 1 := (fun x v => Host.reduce IntOp.andi x v reducesTo_S4_S_d0 h_S_) main_v4 main_c_1
  main_v5
-- ==== Pre_tame.lean ====
abbrev S4x384x2048 : Shape := ⟨3, ![4, 384, 2048]⟩
abbrev S4x384 : Shape := ⟨2, ![4, 384]⟩
abbrev S4x384x8192 : Shape := ⟨3, ![4, 384, 8192]⟩
abbrev S2048x8192 : Shape := ⟨2, ![2048, 8192]⟩
abbrev S8192 : Shape := ⟨1, ![8192]⟩
abbrev S5x2048x32 : Shape := ⟨3, ![5, 2048, 32]⟩
abbrev S5x32x8192 : Shape := ⟨3, ![5, 32, 8192]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel
  natLt_8_32 : 8 < 32
  bcast_S_S4x384x2048 : S_.BroadcastsInDim S4x384x2048 (![] : Fin 0 → Fin S4x384x2048.rank)
  reducesTo_S4x384x2048_S_d0_1_2 : S4x384x2048.ReducesTo [0, 1, 2] S_
  bcast_S_S4x384 : S_.BroadcastsInDim S4x384 (![] : Fin 0 → Fin S4x384.rank)
  reducesTo_S4x384_S_d0_1 : S4x384.ReducesTo [0, 1] S_
  bcast_S_S4x384x8192 : S_.BroadcastsInDim S4x384x8192 (![] : Fin 0 → Fin S4x384x8192.rank)
  reducesTo_S4x384x8192_S_d0_1_2 : S4x384x8192.ReducesTo [0, 1, 2] S_
  bcast_S_S5x2048x32 : S_.BroadcastsInDim S5x2048x32 (![] : Fin 0 → Fin S5x2048x32.rank)
  reducesTo_S5x2048x32_S_d0_1_2 : S5x2048x32.ReducesTo [0, 1, 2] S_
  bcast_S_S5x32x8192 : S_.BroadcastsInDim S5x32x8192 (![] : Fin 0 → Fin S5x32x8192.rank)
  reducesTo_S5x32x8192_S_d0_1_2 : S5x32x8192.ReducesTo [0, 1, 2] S_

variable [Facts]

def fn_part2 {F : FTy → Type} [FloatOps F] (main_arg7 : FVec F S5x32x8192 .bf16) (main_v29 : IVec S_ 1) (main_v32 : IVec S5x2048x32 1) (main_c_12 : IVec S_ 1) : IVec S_ 1 :=
  let main_v33 : IVec S_ 1 := (fun x v => Host.reduce IntOp.andi x v reducesTo_S5x2048x32_S_d0_1_2 h_S_) main_v32 main_c_12
  let main_v34 : IVec S_ 1 := andi main_v29 main_v33
  let main_v35 : FVec F S5x32x8192 .bf16 := Host.absf main_arg7
  let main_cst_13 : FVec F S_ .bf16 := constant S_ .bf16 0x7F80#16
  let main_v36 : FVec F S5x32x8192 .bf16 := broadcastInDim S5x32x8192 ![] bcast_S_S5x32x8192 main_cst_13
  let main_v37 : IVec S5x32x8192 1 := cmpf .olt main_v35 main_v36
  let main_c_14 : IVec S_ 1 := constantI S_ 1 1#1
  let main_v38 : IVec S_ 1 := (fun x v => Host.reduce IntOp.andi x v reducesTo_S5x32x8192_S_d0_1_2 h_S_) main_v37 main_c_14
  let main_v39 : IVec S_ 1 := andi main_v34 main_v38
  main_v39

def fn_part1 {F : FTy → Type} [FloatOps F] (main_arg2 : IVec S4x384x8192 8) (main_arg3 : FVec F S4x384 .f32) (main_arg6 : FVec F S5x2048x32 .bf16) (main_arg7 : FVec F S5x32x8192 .bf16) (main_v12 : IVec S_ 1) (main_v15 : IVec S4x384 1) (main_c_5 : IVec S_ 1) : IVec S_ 1 :=
  let main_v16 : IVec S_ 1 := (fun x v => Host.reduce IntOp.andi x v reducesTo_S4x384_S_d0_1 h_S_) main_v15 main_c_5
  let main_v17 : IVec S_ 1 := andi main_v12 main_v16
  let main_v18 : IVec S4x384x8192 32 := (extui 32 · natLt_8_32) main_arg2
  let main_c_6 : IVec S_ 32 := constantI S_ 32 124#32
  let main_v19 : IVec S4x384x8192 32 := broadcastInDim S4x384x8192 ![] bcast_S_S4x384x8192 main_c_6
  let main_v20 : IVec S4x384x8192 32 := andi main_v18 main_v19
  let main_c_7 : IVec S_ 32 := constantI S_ 32 124#32
  let main_v21 : IVec S4x384x8192 32 := broadcastInDim S4x384x8192 ![] bcast_S_S4x384x8192 main_c_7
  let main_v22 : IVec S4x384x8192 1 := cmpi .ne main_v20 main_v21
  let main_c_8 : IVec S_ 1 := constantI S_ 1 1#1
  let main_v23 : IVec S_ 1 := (fun x v => Host.reduce IntOp.andi x v reducesTo_S4x384x8192_S_d0_1_2 h_S_) main_v22 main_c_8
  let main_v24 : IVec S_ 1 := andi main_v17 main_v23
  let main_v25 : FVec F S4x384 .f32 := Host.absf main_arg3
  let main_cst_9 : FVec F S_ .f32 := constant S_ .f32 0x7F800000#32
  let main_v26 : FVec F S4x384 .f32 := broadcastInDim S4x384 ![] bcast_S_S4x384 main_cst_9
  let main_v27 : IVec S4x384 1 := cmpf .olt main_v25 main_v26
  let main_c_10 : IVec S_ 1 := constantI S_ 1 1#1
  let main_v28 : IVec S_ 1 := (fun x v => Host.reduce IntOp.andi x v reducesTo_S4x384_S_d0_1 h_S_) main_v27 main_c_10
  let main_v29 : IVec S_ 1 := andi main_v24 main_v28
  let main_v30 : FVec F S5x2048x32 .bf16 := Host.absf main_arg6
  let main_cst_11 : FVec F S_ .bf16 := constant S_ .bf16 0x7F80#16
  let main_v31 : FVec F S5x2048x32 .bf16 := broadcastInDim S5x2048x32 ![] bcast_S_S5x2048x32 main_cst_11
  let main_v32 : IVec S5x2048x32 1 := cmpf .olt main_v30 main_v31
  let main_c_12 : IVec S_ 1 := constantI S_ 1 1#1
  fn_part2 (F := F) main_arg7 main_v29 main_v32 main_c_12

def fn {F : FTy → Type} [FloatOps F] (main_arg0 : IVec S4x384x2048 8) (main_arg1 : FVec F S4x384 .f32) (main_arg2 : IVec S4x384x8192 8) (main_arg3 : FVec F S4x384 .f32) (main_arg4 : FVec F S2048x8192 .fp8e4m3) (main_arg5 : FVec F S8192 .f32) (main_arg6 : FVec F S5x2048x32 .bf16) (main_arg7 : FVec F S5x32x8192 .bf16) (main_arg8 : IVec S4 32) : IVec S_ 1 :=
  let main_c : IVec S_ 32 := constantI S_ 32 0#32
  let main_v0 : IVec S4 32 := broadcastInDim S4 ![] bcast_S_S4 main_c
  let main_v1 : IVec S4 1 := cmpi .sge main_arg8 main_v0
  let main_c_0 : IVec S_ 32 := constantI S_ 32 5#32
  let main_v2 : IVec S4 32 := broadcastInDim S4 ![] bcast_S_S4 main_c_0
  let main_v3 : IVec S4 1 := cmpi .slt main_arg8 main_v2
  let main_v4 : IVec S4 1 := andi main_v1 main_v3
  let main_c_1 : IVec S_ 1 := constantI S_ 1 1#1
  let main_v5 : IVec S_ 1 := (fun x v => Host.reduce IntOp.andi x v reducesTo_S4_S_d0 h_S_) main_v4 main_c_1
  let main_v6 : IVec S4x384x2048 32 := (extui 32 · natLt_8_32) main_arg0
  let main_c_2 : IVec S_ 32 := constantI S_ 32 127#32
  let main_v7 : IVec S4x384x2048 32 := broadcastInDim S4x384x2048 ![] bcast_S_S4x384x2048 main_c_2
  let main_v8 : IVec S4x384x2048 32 := andi main_v6 main_v7
  let main_c_3 : IVec S_ 32 := constantI S_ 32 127#32
  let main_v9 : IVec S4x384x2048 32 := broadcastInDim S4x384x2048 ![] bcast_S_S4x384x2048 main_c_3
  let main_v10 : IVec S4x384x2048 1 := cmpi .ne main_v8 main_v9
  let main_c_4 : IVec S_ 1 := constantI S_ 1 1#1
  let main_v11 : IVec S_ 1 := (fun x v => Host.reduce IntOp.andi x v reducesTo_S4x384x2048_S_d0_1_2 h_S_) main_v10 main_c_4
  let main_v12 : IVec S_ 1 := andi main_v5 main_v11
  let main_v13 : FVec F S4x384 .f32 := Host.absf main_arg1
  let main_cst : FVec F S_ .f32 := constant S_ .f32 0x7F800000#32
  let main_v14 : FVec F S4x384 .f32 := broadcastInDim S4x384 ![] bcast_S_S4x384 main_cst
  let main_v15 : IVec S4x384 1 := cmpf .olt main_v13 main_v14
  let main_c_5 : IVec S_ 1 := constantI S_ 1 1#1
  fn_part1 (F := F) main_arg2 main_arg3 main_arg6 main_arg7 main_v12 main_v15 main_c_5
-- ==== Kernel.lean ====
abbrev S4x384x2048 : Shape := ⟨3, ![4, 384, 2048]⟩
abbrev S4x384 : Shape := ⟨2, ![4, 384]⟩
abbrev S4x384x8192 : Shape := ⟨3, ![4, 384, 8192]⟩
abbrev S2048x8192 : Shape := ⟨2, ![2048, 8192]⟩
abbrev S8192 : Shape := ⟨1, ![8192]⟩
abbrev S5x2048x32 : Shape := ⟨3, ![5, 2048, 32]⟩
abbrev S5x32x8192 : Shape := ⟨3, ![5, 32, 8192]⟩
abbrev S4 : Shape := ⟨1, ![4]⟩
abbrev S1536x2048 : Shape := ⟨2, ![1536, 2048]⟩
abbrev S1x1536 : Shape := ⟨2, ![1, 1536]⟩
abbrev S1536x8192 : Shape := ⟨2, ![1536, 8192]⟩
abbrev S1x8192 : Shape := ⟨2, ![1, 8192]⟩
abbrev S5x32x2048 : Shape := ⟨3, ![5, 32, 2048]⟩
abbrev S4x32x384 : Shape := ⟨3, ![4, 32, 384]⟩
abbrev S1536x512 : Shape := ⟨2, ![1536, 512]⟩
abbrev S2048x512 : Shape := ⟨2, ![2048, 512]⟩
abbrev S1x512 : Shape := ⟨2, ![1, 512]⟩
abbrev S5x32x512 : Shape := ⟨3, ![5, 32, 512]⟩
abbrev S2048x1536 : Shape := ⟨2, ![2048, 1536]⟩
abbrev S4x96x384 : Shape := ⟨3, ![4, 96, 384]⟩
abbrev S1 : Shape := ⟨1, ![1]⟩
abbrev S1x32x2048 : Shape := ⟨3, ![1, 32, 2048]⟩
abbrev S32x2048 : Shape := ⟨2, ![32, 2048]⟩
abbrev S384x2048 : Shape := ⟨2, ![384, 2048]⟩
abbrev S32x384 : Shape := ⟨2, ![32, 384]⟩
abbrev S1x384 : Shape := ⟨2, ![1, 384]⟩
abbrev S1x32x384 : Shape := ⟨3, ![1, 32, 384]⟩
abbrev S384x512 : Shape := ⟨2, ![384, 512]⟩
abbrev S1x32x512 : Shape := ⟨3, ![1, 32, 512]⟩
abbrev S32x512 : Shape := ⟨2, ![32, 512]⟩
abbrev S1x96x384 : Shape := ⟨3, ![1, 96, 384]⟩
abbrev S96x384 : Shape := ⟨2, ![96, 384]⟩
abbrev S96x512 : Shape := ⟨2, ![96, 512]⟩
abbrev S96x2048 : Shape := ⟨2, ![96, 2048]⟩
abbrev S2048x32 : Shape := ⟨2, ![2048, 32]⟩
abbrev S2048x96 : Shape := ⟨2, ![2048, 96]⟩
abbrev S2048x384 : Shape := ⟨2, ![2048, 384]⟩
abbrev S4x384x32 : Shape := ⟨3, ![4, 384, 32]⟩

abbrev nBuf : Space → Nat
  | .hbm => 25
  | .vmem => 21
  | .smem => 1
  | _ => 0

abbrev bufTy : (tb : Table) → Fin (tcTables nBuf tb) → BufTy
  | .hbm, ⟨0, _⟩ => ⟨S4x384x2048, .i8⟩
  | .hbm, ⟨1, _⟩ => ⟨S4x384, .f32⟩
  | .hbm, ⟨2, _⟩ => ⟨S4x384x8192, .i8⟩
  | .hbm, ⟨3, _⟩ => ⟨S4x384, .f32⟩
  | .hbm, ⟨4, _⟩ => ⟨S2048x8192, .fp8e4m3⟩
  | .hbm, ⟨5, _⟩ => ⟨S8192, .f32⟩
  | .hbm, ⟨6, _⟩ => ⟨S5x2048x32, .bf16⟩
  | .hbm, ⟨7, _⟩ => ⟨S5x32x8192, .bf16⟩
  | .hbm, ⟨8, _⟩ => ⟨S4x384x2048, .fp8e4m3⟩
  | .hbm, ⟨9, _⟩ => ⟨S4x384x8192, .fp8e5m2⟩
  | .hbm, ⟨10, _⟩ => ⟨S1536x2048, .fp8e4m3⟩
  | .hbm, ⟨11, _⟩ => ⟨S1x1536, .f32⟩
  | .hbm, ⟨12, _⟩ => ⟨S1536x8192, .fp8e5m2⟩
  | .hbm, ⟨13, _⟩ => ⟨S1x1536, .f32⟩
  | .hbm, ⟨14, _⟩ => ⟨S1x8192, .f32⟩
  | .hbm, ⟨15, _⟩ => ⟨S5x32x2048, .bf16⟩
  | .hbm, ⟨16, _⟩ => ⟨S1536x2048, .bf16⟩
  | .hbm, ⟨17, _⟩ => ⟨S5x32x2048, .f32⟩
  | .hbm, ⟨18, _⟩ => ⟨S5x32x8192, .f32⟩
  | .hbm, ⟨19, _⟩ => ⟨S4x32x384, .f32⟩
  | .hbm, ⟨20, _⟩ => ⟨S4x32x384, .f32⟩
  | .hbm, ⟨21, _⟩ => ⟨S4x384x2048, .bf16⟩
  | .hbm, ⟨22, _⟩ => ⟨S5x2048x32, .f32⟩
  | .hbm, ⟨23, _⟩ => ⟨S4x384x32, .f32⟩
  | .hbm, ⟨24, _⟩ => ⟨S4x384x32, .f32⟩
  | .local _ .vmem, ⟨0, _⟩ => ⟨S1536x2048, .fp8e4m3⟩
  | .local _ .vmem, ⟨1, _⟩ => ⟨S1x1536, .f32⟩
  | .local _ .vmem, ⟨2, _⟩ => ⟨S1536x512, .fp8e5m2⟩
  | .local _ .vmem, ⟨3, _⟩ => ⟨S1536x512, .fp8e5m2⟩
  | .local _ .vmem, ⟨4, _⟩ => ⟨S1x1536, .f32⟩
  | .local _ .vmem, ⟨5, _⟩ => ⟨S2048x512, .fp8e4m3⟩
  | .local _ .vmem, ⟨6, _⟩ => ⟨S2048x512, .fp8e4m3⟩
  | .local _ .vmem, ⟨7, _⟩ => ⟨S1x512, .f32⟩
  | .local _ .vmem, ⟨8, _⟩ => ⟨S1x512, .f32⟩
  | .local _ .vmem, ⟨9, _⟩ => ⟨S5x32x2048, .bf16⟩
  | .local _ .vmem, ⟨10, _⟩ => ⟨S5x32x512, .bf16⟩
  | .local _ .vmem, ⟨11, _⟩ => ⟨S5x32x512, .bf16⟩
  | .local _ .vmem, ⟨12, _⟩ => ⟨S1536x2048, .bf16⟩
  | .local _ .vmem, ⟨13, _⟩ => ⟨S5x32x2048, .f32⟩
  | .local _ .vmem, ⟨14, _⟩ => ⟨S5x32x512, .f32⟩
  | .local _ .vmem, ⟨15, _⟩ => ⟨S5x32x512, .f32⟩
  | .local _ .vmem, ⟨16, _⟩ => ⟨S4x32x384, .f32⟩
  | .local _ .vmem, ⟨17, _⟩ => ⟨S4x32x384, .f32⟩
  | .local _ .vmem, ⟨18, _⟩ => ⟨S2048x1536, .f32⟩
  | .local _ .vmem, ⟨19, _⟩ => ⟨S4x32x384, .f32⟩
  | .local _ .vmem, ⟨20, _⟩ => ⟨S4x96x384, .bf16⟩
  | .local _ .smem, ⟨0, _⟩ => ⟨S4, .i32⟩
  | _, _ => ⟨S4x384x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_arg8 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v156 : BitVec 32) : Fin 3 → Nat :=
  let v157 : Index := Scalar.indexCast v156
  let c0_98 : Index := 0#32
  let c0_99 : Index := 0#32
  ![v157.toNat, 0, 0]

def k0_chk1 (i : grid0.Coords) (v156 : BitVec 32) : Prop :=
  (∀ (k0_h1 : k0_cond1 i = 1#1), ∀ a, (k0_off1 v156) a + S1x32x2048.size a ≤ S5x32x2048.size a)
theorem k0_off1_inb : ∀ (i : grid0.Coords) (v156 : BitVec 32) (k0_hw1 : k0_chk1 i v156), ∀ (k0_h1 : k0_cond1 i = 1#1), ∀ a, (k0_off1 v156) a + S1x32x2048.size a ≤ S5x32x2048.size a := fun i v156 k0_hw1 k0_h1 => k0_hw1 k0_h1

def k0_off2 (v191 : BitVec 32) : Fin 3 → Nat :=
  let v192 : Index := Scalar.indexCast v191
  let c0_118 : Index := 0#32
  let c0_119 : Index := 0#32
  ![v192.toNat, 0, 0]

def k0_chk2 (i : grid0.Coords) (v191 : BitVec 32) : Prop :=
  (∀ (k0_h1 : k0_cond1 i = 1#1), ∀ a, (k0_off2 v191) a + S1x32x2048.size a ≤ S5x32x2048.size a)
theorem k0_off2_inb : ∀ (i : grid0.Coords) (v191 : BitVec 32) (k0_hw2 : k0_chk2 i v191), ∀ (k0_h1 : k0_cond1 i = 1#1), ∀ a, (k0_off2 v191) a + S1x32x2048.size a ≤ S5x32x2048.size a := fun i v191 k0_hw2 k0_h1 => k0_hw2 k0_h1

def k0_off3 (v226 : BitVec 32) : Fin 3 → Nat :=
  let v227 : Index := Scalar.indexCast v226
  let c0_140 : Index := 0#32
  let c0_141 : Index := 0#32
  ![v227.toNat, 0, 0]

def k0_chk3 (i : grid0.Coords) (v226 : BitVec 32) : Prop :=
  (∀ (k0_h1 : k0_cond1 i = 1#1), ∀ a, (k0_off3 v226) a + S1x32x2048.size a ≤ S5x32x2048.size a)
theorem k0_off3_inb : ∀ (i : grid0.Coords) (v226 : BitVec 32) (k0_hw3 : k0_chk3 i v226), ∀ (k0_h1 : k0_cond1 i = 1#1), ∀ a, (k0_off3 v226) a + S1x32x2048.size a ≤ S5x32x2048.size a := fun i v226 k0_hw3 k0_h1 => k0_hw3 k0_h1

def k0_off4 (v261 : BitVec 32) : Fin 3 → Nat :=
  let v262 : Index := Scalar.indexCast v261
  let c0_162 : Index := 0#32
  let c0_163 : Index := 0#32
  ![v262.toNat, 0, 0]

def k0_chk4 (i : grid0.Coords) (v261 : BitVec 32) : Prop :=
  (∀ (k0_h1 : k0_cond1 i = 1#1), ∀ a, (k0_off4 v261) a + S1x32x2048.size a ≤ S5x32x2048.size a)
theorem k0_off4_inb : ∀ (i : grid0.Coords) (v261 : BitVec 32) (k0_hw4 : k0_chk4 i v261), ∀ (k0_h1 : k0_cond1 i = 1#1), ∀ a, (k0_off4 v261) a + S1x32x2048.size a ≤ S5x32x2048.size a := fun i v261 k0_hw4 k0_h1 => k0_hw4 k0_h1

def k0_off5 (v26 : BitVec 32) : Fin 3 → Nat :=
  let v27 : Index := Scalar.indexCast v26
  let c0_20 : Index := 0#32
  let c0_21 : Index := 0#32
  ![v27.toNat, 0, 0]

def k0_chk5 (v26 : BitVec 32) : Prop :=
  (∀ a, (k0_off5 v26) a + S1x32x512.size a ≤ S5x32x512.size a)
theorem k0_off5_inb : ∀ (v26 : BitVec 32) (k0_hw5 : k0_chk5 v26), ∀ a, (k0_off5 v26) a + S1x32x512.size a ≤ S5x32x512.size a := fun v26 k0_hw5 => k0_hw5

def k0_off6 (v43 : BitVec 32) : Fin 3 → Nat :=
  let v44 : Index := Scalar.indexCast v43
  let c0_31 : Index := 0#32
  let c0_32 : Index := 0#32
  ![v44.toNat, 0, 0]

def k0_chk6 (v43 : BitVec 32) : Prop :=
  (∀ a, (k0_off6 v43) a + S1x32x512.size a ≤ S5x32x512.size a)
theorem k0_off6_inb : ∀ (v43 : BitVec 32) (k0_hw6 : k0_chk6 v43), ∀ a, (k0_off6 v43) a + S1x32x512.size a ≤ S5x32x512.size a := fun v43 k0_hw6 => k0_hw6

def k0_off7 (v59 : BitVec 32) : Fin 3 → Nat :=
  let v60 : Index := Scalar.indexCast v59
  let c0_40 : Index := 0#32
  let c0_41 : Index := 0#32
  ![v60.toNat, 0, 0]

def k0_chk7 (v59 : BitVec 32) : Prop :=
  (∀ a, (k0_off7 v59) a + S1x32x512.size a ≤ S5x32x512.size a)
theorem k0_off7_inb : ∀ (v59 : BitVec 32) (k0_hw7 : k0_chk7 v59), ∀ a, (k0_off7 v59) a + S1x32x512.size a ≤ S5x32x512.size a := fun v59 k0_hw7 => k0_hw7

def k0_off8 (v76 : BitVec 32) : Fin 3 → Nat :=
  let v77 : Index := Scalar.indexCast v76
  let c0_51 : Index := 0#32
  let c0_52 : Index := 0#32
  ![v77.toNat, 0, 0]

def k0_chk8 (v76 : BitVec 32) : Prop :=
  (∀ a, (k0_off8 v76) a + S1x32x512.size a ≤ S5x32x512.size a)
theorem k0_off8_inb : ∀ (v76 : BitVec 32) (k0_hw8 : k0_chk8 v76), ∀ a, (k0_off8 v76) a + S1x32x512.size a ≤ S5x32x512.size a := fun v76 k0_hw8 => k0_hw8

def k0_off9 (v92 : BitVec 32) : Fin 3 → Nat :=
  let v93 : Index := Scalar.indexCast v92
  let c0_60 : Index := 0#32
  let c0_61 : Index := 0#32
  ![v93.toNat, 0, 0]

def k0_chk9 (v92 : BitVec 32) : Prop :=
  (∀ a, (k0_off9 v92) a + S1x32x512.size a ≤ S5x32x512.size a)
theorem k0_off9_inb : ∀ (v92 : BitVec 32) (k0_hw9 : k0_chk9 v92), ∀ a, (k0_off9 v92) a + S1x32x512.size a ≤ S5x32x512.size a := fun v92 k0_hw9 => k0_hw9

def k0_off10 (v109 : BitVec 32) : Fin 3 → Nat :=
  let v110 : Index := Scalar.indexCast v109
  let c0_71 : Index := 0#32
  let c0_72 : Index := 0#32
  ![v110.toNat, 0, 0]

def k0_chk10 (v109 : BitVec 32) : Prop :=
  (∀ a, (k0_off10 v109) a + S1x32x512.size a ≤ S5x32x512.size a)
theorem k0_off10_inb : ∀ (v109 : BitVec 32) (k0_hw10 : k0_chk10 v109), ∀ a, (k0_off10 v109) a + S1x32x512.size a ≤ S5x32x512.size a := fun v109 k0_hw10 => k0_hw10

def k0_off11 (v125 : BitVec 32) : Fin 3 → Nat :=
  let v126 : Index := Scalar.indexCast v125
  let c0_80 : Index := 0#32
  let c0_81 : Index := 0#32
  ![v126.toNat, 0, 0]

def k0_chk11 (v125 : BitVec 32) : Prop :=
  (∀ a, (k0_off11 v125) a + S1x32x512.size a ≤ S5x32x512.size a)
theorem k0_off11_inb : ∀ (v125 : BitVec 32) (k0_hw11 : k0_chk11 v125), ∀ a, (k0_off11 v125) a + S1x32x512.size a ≤ S5x32x512.size a := fun v125 k0_hw11 => k0_hw11

def k0_off12 (v142 : BitVec 32) : Fin 3 → Nat :=
  let v143 : Index := Scalar.indexCast v142
  let c0_91 : Index := 0#32
  let c0_92 : Index := 0#32
  ![v143.toNat, 0, 0]

def k0_chk12 (v142 : BitVec 32) : Prop :=
  (∀ a, (k0_off12 v142) a + S1x32x512.size a ≤ S5x32x512.size a)
theorem k0_off12_inb : ∀ (v142 : BitVec 32) (k0_hw12 : k0_chk12 v142), ∀ a, (k0_off12 v142) a + S1x32x512.size a ≤ S5x32x512.size a := fun v142 k0_hw12 => k0_hw12

def k0_cond2 (i : grid0.Coords) : BitVec 1 :=
  let arg0 : BitVec 32 := BitVec.ofNat 32 (i 0).val
  let c15_i32 : BitVec 32 := 15#32
  let v153 : BitVec 1 := Scalar.cmpi .eq arg0 c15_i32
  let v154 : BitVec 32 := Scalar.extui v153
  let c0_i32_96 : BitVec 32 := 0#32
  let v155 : BitVec 1 := Scalar.cmpi .ne v154 c0_i32_96
  v155

def k0_off13 (v188 : BitVec 32) : Fin 3 → Nat :=
  let v189 : Index := Scalar.indexCast v188
  let c0_115 : Index := 0#32
  let c0_116 : Index := 0#32
  ![v189.toNat, 0, 0]

def k0_chk13 (i : grid0.Coords) (v188 : BitVec 32) : Prop :=
  (∀ (k0_h2 : k0_cond2 i = 1#1), ∀ a, (k0_off13 v188) a + S1x32x2048.size a ≤ S5x32x2048.size a)
theorem k0_off13_inb : ∀ (i : grid0.Coords) (v188 : BitVec 32) (k0_hw13 : k0_chk13 i v188), ∀ (k0_h2 : k0_cond2 i = 1#1), ∀ a, (k0_off13 v188) a + S1x32x2048.size a ≤ S5x32x2048.size a := fun i v188 k0_hw13 k0_h2 => k0_hw13 k0_h2

def k0_off14 (v199 : BitVec 32) : Fin 3 → Nat :=
  let v200 : Index := Scalar.indexCast v199
  let c0_121 : Index := 0#32
  let c0_122 : Index := 0#32
  ![v200.toNat, 0, 0]

def k0_chk14 (i : grid0.Coords) (v199 : BitVec 32) : Prop :=
  (∀ (k0_h2 : k0_cond2 i = 1#1), ∀ a, (k0_off14 v199) a + S1x32x2048.size a ≤ S5x32x2048.size a)
theorem k0_off14_inb : ∀ (i : grid0.Coords) (v199 : BitVec 32) (k0_hw14 : k0_chk14 i v199), ∀ (k0_h2 : k0_cond2 i = 1#1), ∀ a, (k0_off14 v199) a + S1x32x2048.size a ≤ S5x32x2048.size a := fun i v199 k0_hw14 k0_h2 => k0_hw14 k0_h2

def k0_off15 (v255 : BitVec 32) : Fin 3 → Nat :=
  let v256 : Index := Scalar.indexCast v255
  let c0_145 : Index := 0#32
  let c0_146 : Index := 0#32
  ![v256.toNat, 0, 0]

def k0_chk15 (i : grid0.Coords) (v255 : BitVec 32) : Prop :=
  (∀ (k0_h2 : k0_cond2 i = 1#1), ∀ a, (k0_off15 v255) a + S1x32x2048.size a ≤ S5x32x2048.size a)
theorem k0_off15_inb : ∀ (i : grid0.Coords) (v255 : BitVec 32) (k0_hw15 : k0_chk15 i v255), ∀ (k0_h2 : k0_cond2 i = 1#1), ∀ a, (k0_off15 v255) a + S1x32x2048.size a ≤ S5x32x2048.size a := fun i v255 k0_hw15 k0_h2 => k0_hw15 k0_h2

def k0_off16 (v266 : BitVec 32) : Fin 3 → Nat :=
  let v267 : Index := Scalar.indexCast v266
  let c0_151 : Index := 0#32
  let c0_152 : Index := 0#32
  ![v267.toNat, 0, 0]

def k0_chk16 (i : grid0.Coords) (v266 : BitVec 32) : Prop :=
  (∀ (k0_h2 : k0_cond2 i = 1#1), ∀ a, (k0_off16 v266) a + S1x32x2048.size a ≤ S5x32x2048.size a)
theorem k0_off16_inb : ∀ (i : grid0.Coords) (v266 : BitVec 32) (k0_hw16 : k0_chk16 i v266), ∀ (k0_h2 : k0_cond2 i = 1#1), ∀ a, (k0_off16 v266) a + S1x32x2048.size a ≤ S5x32x2048.size a := fun i v266 k0_hw16 k0_h2 => k0_hw16 k0_h2

def k0_off17 (v322 : BitVec 32) : Fin 3 → Nat :=
  let v323 : Index := Scalar.indexCast v322
  let c0_175 : Index := 0#32
  let c0_176 : Index := 0#32
  ![v323.toNat, 0, 0]

def k0_chk17 (i : grid0.Coords) (v322 : BitVec 32) : Prop :=
  (∀ (k0_h2 : k0_cond2 i = 1#1), ∀ a, (k0_off17 v322) a + S1x32x2048.size a ≤ S5x32x2048.size a)
theorem k0_off17_inb : ∀ (i : grid0.Coords) (v322 : BitVec 32) (k0_hw17 : k0_chk17 i v322), ∀ (k0_h2 : k0_cond2 i = 1#1), ∀ a, (k0_off17 v322) a + S1x32x2048.size a ≤ S5x32x2048.size a := fun i v322 k0_hw17 k0_h2 => k0_hw17 k0_h2

def k0_off18 (v333 : BitVec 32) : Fin 3 → Nat :=
  let v334 : Index := Scalar.indexCast v333
  let c0_181 : Index := 0#32
  let c0_182 : Index := 0#32
  ![v334.toNat, 0, 0]

def k0_chk18 (i : grid0.Coords) (v333 : BitVec 32) : Prop :=
  (∀ (k0_h2 : k0_cond2 i = 1#1), ∀ a, (k0_off18 v333) a + S1x32x2048.size a ≤ S5x32x2048.size a)
theorem k0_off18_inb : ∀ (i : grid0.Coords) (v333 : BitVec 32) (k0_hw18 : k0_chk18 i v333), ∀ (k0_h2 : k0_cond2 i = 1#1), ∀ a, (k0_off18 v333) a + S1x32x2048.size a ≤ S5x32x2048.size a := fun i v333 k0_hw18 k0_h2 => k0_hw18 k0_h2

def k0_off19 (v389 : BitVec 32) : Fin 3 → Nat :=
  let v390 : Index := Scalar.indexCast v389
  let c0_205 : Index := 0#32
  let c0_206 : Index := 0#32
  ![v390.toNat, 0, 0]

def k0_chk19 (i : grid0.Coords) (v389 : BitVec 32) : Prop :=
  (∀ (k0_h2 : k0_cond2 i = 1#1), ∀ a, (k0_off19 v389) a + S1x32x2048.size a ≤ S5x32x2048.size a)
theorem k0_off19_inb : ∀ (i : grid0.Coords) (v389 : BitVec 32) (k0_hw19 : k0_chk19 i v389), ∀ (k0_h2 : k0_cond2 i = 1#1), ∀ a, (k0_off19 v389) a + S1x32x2048.size a ≤ S5x32x2048.size a := fun i v389 k0_hw19 k0_h2 => k0_hw19 k0_h2

def k0_off20 (v400 : BitVec 32) : Fin 3 → Nat :=
  let v401 : Index := Scalar.indexCast v400
  let c0_211 : Index := 0#32
  let c0_212 : Index := 0#32
  ![v401.toNat, 0, 0]

def k0_chk20 (i : grid0.Coords) (v400 : BitVec 32) : Prop :=
  (∀ (k0_h2 : k0_cond2 i = 1#1), ∀ a, (k0_off20 v400) a + S1x32x2048.size a ≤ S5x32x2048.size a)
theorem k0_off20_inb : ∀ (i : grid0.Coords) (v400 : BitVec 32) (k0_hw20 : k0_chk20 i v400), ∀ (k0_h2 : k0_cond2 i = 1#1), ∀ a, (k0_off20 v400) a + S1x32x2048.size a ≤ S5x32x2048.size a := fun i v400 k0_hw20 k0_h2 => k0_hw20 k0_h2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1536x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x512 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S5x32x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5x32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1536x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x32x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5x32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x32x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x32x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4x384x2048 : Shape := ⟨3, ![4, 384, 2048]⟩
abbrev S4x384 : Shape := ⟨2, ![4, 384]⟩
abbrev S4x384x8192 : Shape := ⟨3, ![4, 384, 8192]⟩
abbrev S2048x8192 : Shape := ⟨2, ![2048, 8192]⟩
abbrev S8192 : Shape := ⟨1, ![8192]⟩
abbrev S5x2048x32 : Shape := ⟨3, ![5, 2048, 32]⟩
abbrev S5x32x8192 : Shape := ⟨3, ![5, 32, 8192]⟩
abbrev S4 : Shape := ⟨1, ![4]⟩
abbrev S_ : Shape := ⟨0, ![]⟩
abbrev S4x1 : Shape := ⟨2, ![4, 1]⟩
abbrev S4x2048x32 : Shape := ⟨3, ![4, 2048, 32]⟩
abbrev S4x32x8192 : Shape := ⟨3, ![4, 32, 8192]⟩
abbrev S4x384x1 : Shape := ⟨3, ![4, 384, 1]⟩
abbrev S4x384x32 : Shape := ⟨3, ![4, 384, 32]⟩
abbrev S1x8192 : Shape := ⟨2, ![1, 8192]⟩

abbrev nBuf : Space → Nat
  | .hbm => 76
  | .vmem => 6
  | .smem => 0
  | _ => 0

abbrev bufTy : (tb : Table) → Fin (tcTables nBuf tb) → BufTy
  | .hbm, ⟨0, _⟩ => ⟨S4x384x2048, .i8⟩
  | .hbm, ⟨1, _⟩ => ⟨S4x384, .f32⟩
  | .hbm, ⟨2, _⟩ => ⟨S4x384x8192, .i8⟩
  | .hbm, ⟨3, _⟩ => ⟨S4x384, .f32⟩
  | .hbm, ⟨4, _⟩ => ⟨S2048x8192, .fp8e4m3⟩
  | .hbm, ⟨5, _⟩ => ⟨S8192, .f32⟩
  | .hbm, ⟨6, _⟩ => ⟨S5x2048x32, .bf16⟩
  | .hbm, ⟨7, _⟩ => ⟨S5x32x8192, .bf16⟩
  | .hbm, ⟨8, _⟩ => ⟨S4, .i32⟩
  | .hbm, ⟨9, _⟩ => ⟨S4x384x2048, .fp8e4m3⟩
  | .hbm, ⟨10, _⟩ => ⟨S4x384x8192, .fp8e5m2⟩
  | .hbm, ⟨11, _⟩ => ⟨S4x384x2048, .bf16⟩
  | .hbm, ⟨12, _⟩ => ⟨S4x384x8192, .bf16⟩
  | .hbm, ⟨13, _⟩ => ⟨S2048x8192, .bf16⟩
  | .hbm, ⟨14, _⟩ => ⟨S_, .i32⟩
  | .hbm, ⟨15, _⟩ => ⟨S4, .i32⟩
  | .hbm, ⟨16, _⟩ => ⟨S4, .i1⟩
  | .hbm, ⟨17, _⟩ => ⟨S_, .i32⟩
  | .hbm, ⟨18, _⟩ => ⟨S4, .i32⟩
  | .hbm, ⟨19, _⟩ => ⟨S4, .i32⟩
  | .hbm, ⟨20, _⟩ => ⟨S4, .i32⟩
  | .hbm, ⟨21, _⟩ => ⟨S4x1, .i32⟩
  | .hbm, ⟨22, _⟩ => ⟨S4x2048x32, .bf16⟩
  | .hbm, ⟨23, _⟩ => ⟨S_, .i32⟩
  | .hbm, ⟨24, _⟩ => ⟨S4, .i32⟩
  | .hbm, ⟨25, _⟩ => ⟨S4, .i1⟩
  | .hbm, ⟨26, _⟩ => ⟨S_, .i32⟩
  | .hbm, ⟨27, _⟩ => ⟨S4, .i32⟩
  | .hbm, ⟨28, _⟩ => ⟨S4, .i32⟩
  | .hbm, ⟨29, _⟩ => ⟨S4, .i32⟩
  | .hbm, ⟨30, _⟩ => ⟨S4x1, .i32⟩
  | .hbm, ⟨31, _⟩ => ⟨S4x32x8192, .bf16⟩
  | .hbm, ⟨32, _⟩ => ⟨S4x384x1, .f32⟩
  | .hbm, ⟨33, _⟩ => ⟨S4x384x1, .f32⟩
  | .hbm, ⟨34, _⟩ => ⟨S4x384x32, .f32⟩
  | .hbm, ⟨35, _⟩ => ⟨S4x384x32, .f32⟩
  | .hbm, ⟨36, _⟩ => ⟨S4x384x32, .f32⟩
  | .hbm, ⟨37, _⟩ => ⟨S4x384x32, .f32⟩
  | .hbm, ⟨38, _⟩ => ⟨S4x384x32, .f32⟩
  | .hbm, ⟨39, _⟩ => ⟨S4x384x32, .f32⟩
  | .hbm, ⟨40, _⟩ => ⟨S8192, .bf16⟩
  | .hbm, ⟨41, _⟩ => ⟨S1x8192, .bf16⟩
  | .hbm, ⟨42, _⟩ => ⟨S2048x8192, .bf16⟩
  | .hbm, ⟨43, _⟩ => ⟨S2048x8192, .bf16⟩
  | .hbm, ⟨44, _⟩ => ⟨S4x384x2048, .f32⟩
  | .hbm, ⟨45, _⟩ => ⟨S4x384x2048, .f32⟩
  | .hbm, ⟨46, _⟩ => ⟨S4x384x2048, .f32⟩
  | .hbm, ⟨47, _⟩ => ⟨S4x2048x32, .f32⟩
  | .hbm, ⟨48, _⟩ => ⟨S4x384x2048, .f32⟩
  | .hbm, ⟨49, _⟩ => ⟨S_, .f32⟩
  | .hbm, ⟨50, _⟩ => ⟨S4x384x2048, .f32⟩
  | .hbm, ⟨51, _⟩ => ⟨S4x384x2048, .f32⟩
  | .hbm, ⟨52, _⟩ => ⟨S4x384x2048, .f32⟩
  | .hbm, ⟨53, _⟩ => ⟨S4x384x2048, .bf16⟩
  | .hbm, ⟨54, _⟩ => ⟨S4x384x2048, .f32⟩
  | .hbm, ⟨55, _⟩ => ⟨S4x384x32, .f32⟩
  | .hbm, ⟨56, _⟩ => ⟨S4x384x32, .f32⟩
  | .hbm, ⟨57, _⟩ => ⟨S4x2048x32, .f32⟩
  | .hbm, ⟨58, _⟩ => ⟨S_, .f32⟩
  | .hbm, ⟨59, _⟩ => ⟨S4x2048x32, .f32⟩
  | .hbm, ⟨60, _⟩ => ⟨S4x2048x32, .f32⟩
  | .hbm, ⟨61, _⟩ => ⟨S4x384x32, .f32⟩
  | .hbm, ⟨62, _⟩ => ⟨S4x384x32, .f32⟩
  | .hbm, ⟨63, _⟩ => ⟨S4x384x8192, .f32⟩
  | .hbm, ⟨64, _⟩ => ⟨S4x32x8192, .f32⟩
  | .hbm, ⟨65, _⟩ => ⟨S_, .f32⟩
  | .hbm, ⟨66, _⟩ => ⟨S4x32x8192, .f32⟩
  | .hbm, ⟨67, _⟩ => ⟨S4x32x8192, .f32⟩
  | .hbm, ⟨68, _⟩ => ⟨S_, .f32⟩
  | .hbm, ⟨69, _⟩ => ⟨S5x2048x32, .f32⟩
  | .hbm, ⟨70, _⟩ => ⟨S4x1, .i32⟩
  | .hbm, ⟨71, _⟩ => ⟨S5x2048x32, .f32⟩
  | .hbm, ⟨72, _⟩ => ⟨S_, .f32⟩
  | .hbm, ⟨73, _⟩ => ⟨S5x32x8192, .f32⟩
  | .hbm, ⟨74, _⟩ => ⟨S4x1, .i32⟩
  | .hbm, ⟨75, _⟩ => ⟨S5x32x8192, .f32⟩
  | .local _ .vmem, ⟨0, _⟩ => ⟨S4x384x2048, .fp8e4m3⟩
  | .local _ .vmem, ⟨1, _⟩ => ⟨S4x384x8192, .fp8e5m2⟩
  | .local _ .vmem, ⟨2, _⟩ => ⟨S2048x8192, .fp8e4m3⟩
  | .local _ .vmem, ⟨3, _⟩ => ⟨S4x384x2048, .bf16⟩
  | .local _ .vmem, ⟨4, _⟩ => ⟨S4x384x8192, .bf16⟩
  | .local _ .vmem, ⟨5, _⟩ => ⟨S2048x8192, .bf16⟩
  | _, _ => ⟨S4x384x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_3 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_6 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x384x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x384x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x384x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x384x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.RunK.Points.lean ====
/- The schedule of the idealized kernel's pipeline: at which grid points each window is fetched and written back, the current
   staging buffers at a point, and the kernel's body as the pipeline calls it there. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%2)) is fetched at the first point only, at any contents of the tables (its index map reads none). -/
theorem fetch0_0 (a : (pcfg0 (F := F)).Adm) : ∀ t : Fin (cfg0 a).N, ((cfg0 a).win 0).fetch t = true ↔ t.val % 16 = 0 :=
  (fun t => Pipeline.Window.fetchOf_const cc0_transform_0 (fun _ _ => rfl) (n := 16) (by decide) t : ∀ t : Fin grid0.N, Pipeline.Window.fetchOf grid0 false cc0_transform_0 t = true ↔ t.val % 16 = 0)
/-- Window 1 (operand 2 (%3)) is fetched at the first point only, at any contents of the tables (its index map reads none). -/
theorem fetch0_1 (a : (pcfg0 (F := F)).Adm) : ∀ t : Fin (cfg0 a).N, ((cfg0 a).win 1).fetch t = true ↔ t.val % 16 = 0 :=
  (fun t => Pipeline.Window.fetchOf_const cc0_transform_1 (fun _ _ => rfl) (n := 16) (by decide) t : ∀ t : Fin grid0.N, Pipeline.Window.fetchOf grid0 false cc0_transform_1 t = true ↔ t.val % 16 = 0)
/-- Window 2 (operand 3 (%4)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 1 (fun _ => rfl) (by decide)) (P := 1) (by decide) t).mpr (Nat.mod_one _) : ∀ t : Fin grid0.N, Pipeline.Window.fetchOf grid0 false cc0_transform_2 t = true)
/-- Window 3 (operand 4 (%5)) is fetched at the first point only, at any contents of the tables (its index map reads none). -/
theorem fetch0_3 (a : (pcfg0 (F := F)).Adm) : ∀ t : Fin (cfg0 a).N, ((cfg0 a).win 3).fetch t = true ↔ t.val % 16 = 0 :=
  (fun t => Pipeline.Window.fetchOf_const cc0_transform_3 (fun _ _ => rfl) (n := 16) (by decide) t : ∀ t : Fin grid0.N, Pipeline.Window.fetchOf grid0 false cc0_transform_3 t = true ↔ t.val % 16 = 0)
/-- Window 4 (operand 5 (%arg4)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 1 (fun _ => rfl) (by decide)) (P := 1) (by decide) t).mpr (Nat.mod_one _) : ∀ t : Fin grid0.N, Pipeline.Window.fetchOf grid0 false cc0_transform_4 t = true)
/-- Window 5 (operand 6 (%6)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 1 (fun _ => rfl) (by decide)) (P := 1) (by decide) t).mpr (Nat.mod_one _) : ∀ t : Fin grid0.N, Pipeline.Window.fetchOf grid0 false cc0_transform_5 t = true)
/-- Window 6 (operand 7 (%7)) is fetched at the first point only, at any contents of the tables (its index map reads none). -/
theorem fetch0_6 (a : (pcfg0 (F := F)).Adm) : ∀ t : Fin (cfg0 a).N, ((cfg0 a).win 6).fetch t = true ↔ t.val % 16 = 0 :=
  (fun t => Pipeline.Window.fetchOf_const cc0_transform_6 (fun _ _ => rfl) (n := 16) (by decide) t : ∀ t : Fin grid0.N, Pipeline.Window.fetchOf grid0 false cc0_transform_6 t = true ↔ t.val % 16 = 0)
/-- Window 7 (operand 8 (%arg7)) is fetched at every point, at any contents of the tables (its index map reads none). -/
theorem fetch0_7 (a : (pcfg0 (F := F)).Adm) : ∀ t : Fin (cfg0 a).N, ((cfg0 a).win 7).fetch t = true :=
  (fun t => (Pipeline.Window.fetchOf_reads cc0_transform_7 reads0_7 hreads0_7 0 (by decide) (by decide) (Pipeline.Window.sep_of_coord cc0_transform_7 0 2 (fun _ => rfl) (by decide)) (P := 1) (by decide) t).mpr (Nat.mod_one _) : ∀ t : Fin grid0.N, Pipeline.Window.fetchOf grid0 false cc0_transform_7 t = true)
/-- Window 8 (result 0 (%8#0)) is written back at the last point only, at any contents of the tables (its index map reads none). -/
theorem flush0_8 (a : (pcfg0 (F := F)).Adm) : ∀ t : Fin (cfg0 a).N, ((cfg0 a).win 8).flush t = true ↔ t.val % 16 = 15 :=
  (fun t => Pipeline.Window.flushOf_const cc0_transform_8 (fun _ _ => rfl) (n := 16) (by decide) rfl t : ∀ t : Fin grid0.N, Pipeline.Window.flushOf grid0 true cc0_transform_8 t = true ↔ t.val % 16 = 15)
/-- Window 9 (result 1 (%8#1)) is written back at the last point only, at any contents of the tables (its index map reads none). -/
theorem flush0_9 (a : (pcfg0 (F := F)).Adm) : ∀ t : Fin (cfg0 a).N, ((cfg0 a).win 9).flush t = true ↔ t.val % 16 = 15 :=
  (fun t => Pipeline.Window.flushOf_const cc0_transform_9 (fun _ _ => rfl) (n := 16) (by decide) rfl t : ∀ t : Fin grid0.N, Pipeline.Window.flushOf grid0 true cc0_transform_9 t = true ↔ t.val % 16 = 15)
/-- Window 10 (result 2 (%8#2)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 0 (by decide) (by decide) (Pipeline.Window.sep_of_coord cc0_transform_10 0 2 (fun _ => rfl) (by decide)) (P := 1) (m := 0) (by decide) rfl t).mpr (Nat.mod_one _) : ∀ t : Fin grid0.N, Pipeline.Window.flushOf grid0 true cc0_transform_10 t = true)
/-- Window 11 (result 3 (%8#3)) is written back at the last point only, at any contents of the tables (its index map reads none). -/
theorem flush0_11 (a : (pcfg0 (F := F)).Adm) : ∀ t : Fin (cfg0 a).N, ((cfg0 a).win 11).flush t = true ↔ t.val % 16 = 15 :=
  (fun t => Pipeline.Window.flushOf_const cc0_transform_11 (fun _ _ => rfl) (n := 16) (by decide) rfl t : ∀ t : Fin grid0.N, Pipeline.Window.flushOf grid0 true cc0_transform_11 t = true ↔ t.val % 16 = 15)
/-- Window 12 (result 4 (%8#4)) is written back at the last point only, at any contents of the tables (its index map reads none). -/
theorem flush0_12 (a : (pcfg0 (F := F)).Adm) : ∀ t : Fin (cfg0 a).N, ((cfg0 a).win 12).flush t = true ↔ t.val % 16 = 15 :=
  (fun t => Pipeline.Window.flushOf_const cc0_transform_12 (fun _ _ => rfl) (n := 16) (by decide) rfl t : ∀ t : Fin grid0.N, Pipeline.Window.flushOf grid0 true cc0_transform_12 t = true ↔ t.val % 16 = 15)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_lora_bwd (grid0.coords t) (Memref.whole main_arg8) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _)

end Cert.Kernel.Gen

end
-- ==== Proof.RunK.Kit.lean ====
/- What the runs of the idealized kernel's body share: @main around the region, the prefetched table, the windows' blocks, the
   body's branch conditions, the idle points, the staging and scratch memrefs, and the side conditions assumed of the table. -/
module

public import proofs.«01_k».proof.Proof.Gen.Kernel.Launch
public import proofs.«01_k».proof.Proof.Gen.Kernel.Skeleton
public import proofs.«01_k».proof.Proof.RunK.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v10, main_v11, main_v12, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4 .i32 := Memref.whole main_arg8
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg8`: it ends as launched. -/
theorem W_main_arg8 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg8 = m ((c : Thread nD τ).loc main_arg8) := by
  unfold Pipeline.afterTail
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0 \ T0)).trans (V_main_arg0 m c),
      ((h c).2 main_arg1 (by decide : main_arg1 ∈ Pipeline.restRefs sig spec0 \ T0)).trans (V_main_arg1 m c),
      ((h c).2 main_arg2 (by decide : main_arg2 ∈ Pipeline.restRefs sig spec0 \ T0)).trans (V_main_arg2 m c),
      ((h c).2 main_arg3 (by decide : main_arg3 ∈ Pipeline.restRefs sig spec0 \ T0)).trans (V_main_arg3 m c),
      (Pipeline.RDat.FramePostR.arr_in h c 4 rfl).trans ((hA c 4).trans (V_main_arg4 m c)),
      ((h c).2 main_arg5 (by decide : main_arg5 ∈ Pipeline.restRefs sig spec0 \ T0)).trans (V_main_arg5 m c),
      ((h c).2 main_arg6 (by decide : main_arg6 ∈ Pipeline.restRefs sig spec0 \ T0)).trans (V_main_arg6 m c),
      (Pipeline.RDat.FramePostR.arr_in h c 7 rfl).trans ((hA c 7).trans (V_main_arg7 m c)),
      ((h c).2 main_arg8 (by decide : main_arg8 ∈ Pipeline.restRefs sig spec0 \ T0)).trans (V_main_arg8 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin grid0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1536x2048 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1536 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1536x512 .fp8e5m2 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1536 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S2048x512 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x512 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S5x32x2048 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S5x32x512 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1536x2048 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S5x32x2048 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S5x32x512 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S4x32x384 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S4x32x384 .f32 := spec0_12.stage ((cfgM m hO).slots t 12)
abbrev hs0_12 (hO : Ok m) (t : Fin (cfgM m hO).N) : (ms0_12 m hO t).IsWhole := hstage0_12 (((cfgM m hO).slots t 12).cast nbuf0_12)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    (cond0_0 (grid0.coords t) → k0_chk1 (grid0.coords t) (tbM0_0.view.readAt (Elt F) (Rect.unit (s := S4) ![0] S1.size inb_S4_S1_0).toLoadRect (tbl m 0) (Shape.Idx.first (numel1_S1.symm ▸ Nat.one_pos))))
    ∧ (cond0_0 (grid0.coords t) → k0_chk2 (grid0.coords t) (tbM0_0.view.readAt (Elt F) (Rect.unit (s := S4) ![1] S1.size inb_S4_S1_1).toLoadRect (tbl m 0) (Shape.Idx.first (numel1_S1.symm ▸ Nat.one_pos))))
    ∧ (cond0_0 (grid0.coords t) → k0_chk3 (grid0.coords t) (tbM0_0.view.readAt (Elt F) (Rect.unit (s := S4) ![2] S1.size inb_S4_S1_2).toLoadRect (tbl m 0) (Shape.Idx.first (numel1_S1.symm ▸ Nat.one_pos))))
    ∧ (cond0_0 (grid0.coords t) → k0_chk4 (grid0.coords t) (tbM0_0.view.readAt (Elt F) (Rect.unit (s := S4) ![3] S1.size inb_S4_S1_3).toLoadRect (tbl m 0) (Shape.Idx.first (numel1_S1.symm ▸ Nat.one_pos))))
    ∧ k0_chk5 (tbM0_0.view.readAt (Elt F) (Rect.unit (s := S4) ![0] S1.size inb_S4_S1_0).toLoadRect (tbl m 0) (Shape.Idx.first (numel1_S1.symm ▸ Nat.one_pos)))
    ∧ k0_chk6 (tbM0_0.view.readAt (Elt F) (Rect.unit (s := S4) ![0] S1.size inb_S4_S1_0).toLoadRect (tbl m 0) (Shape.Idx.first (numel1_S1.symm ▸ Nat.one_pos)))
    ∧ k0_chk7 (tbM0_0.view.readAt (Elt F) (Rect.unit (s := S4) ![1] S1.size inb_S4_S1_1).toLoadRect (tbl m 0) (Shape.Idx.first (numel1_S1.symm ▸ Nat.one_pos)))
    ∧ k0_chk8 (tbM0_0.view.readAt (Elt F) (Rect.unit (s := S4) ![1] S1.size inb_S4_S1_1).toLoadRect (tbl m 0) (Shape.Idx.first (numel1_S1.symm ▸ Nat.one_pos)))
    ∧ k0_chk9 (tbM0_0.view.readAt (Elt F) (Rect.unit (s := S4) ![2] S1.size inb_S4_S1_2).toLoadRect (tbl m 0) (Shape.Idx.first (numel1_S1.symm ▸ Nat.one_pos)))
    ∧ k0_chk10 (tbM0_0.view.readAt (Elt F) (Rect.unit (s := S4) ![2] S1.size inb_S4_S1_2).toLoadRect (tbl m 0) (Shape.Idx.first (numel1_S1.symm ▸ Nat.one_pos)))
    ∧ k0_chk11 (tbM0_0.view.readAt (Elt F) (Rect.unit (s := S4) ![3] S1.size inb_S4_S1_3).toLoadRect (tbl m 0) (Shape.Idx.first (numel1_S1.symm ▸ Nat.one_pos)))
    ∧ k0_chk12 (tbM0_0.view.readAt (Elt F) (Rect.unit (s := S4) ![3] S1.size inb_S4_S1_3).toLoadRect (tbl m 0) (Shape.Idx.first (numel1_S1.symm ▸ Nat.one_pos)))
    ∧ (cond0_1 (grid0.coords t) → k0_chk13 (grid0.coords t) (tbM0_0.view.readAt (Elt F) (Rect.unit (s := S4) ![0] S1.size inb_S4_S1_0).toLoadRect (tbl m 0) (Shape.Idx.first (numel1_S1.symm ▸ Nat.one_pos))))
    ∧ (cond0_1 (grid0.coords t) → k0_chk14 (grid0.coords t) (tbM0_0.view.readAt (Elt F) (Rect.unit (s := S4) ![0] S1.size inb_S4_S1_0).toLoadRect (tbl m 0) (Shape.Idx.first (numel1_S1.symm ▸ Nat.one_pos))))
    ∧ (cond0_1 (grid0.coords t) → k0_chk15 (grid0.coords t) (tbM0_0.view.readAt (Elt F) (Rect.unit (s := S4) ![1] S1.size inb_S4_S1_1).toLoadRect (tbl m 0) (Shape.Idx.first (numel1_S1.symm ▸ Nat.one_pos))))
    ∧ (cond0_1 (grid0.coords t) → k0_chk16 (grid0.coords t) (tbM0_0.view.readAt (Elt F) (Rect.unit (s := S4) ![1] S1.size inb_S4_S1_1).toLoadRect (tbl m 0) (Shape.Idx.first (numel1_S1.symm ▸ Nat.one_pos))))
    ∧ (cond0_1 (grid0.coords t) → k0_chk17 (grid0.coords t) (tbM0_0.view.readAt (Elt F) (Rect.unit (s := S4) ![2] S1.size inb_S4_S1_2).toLoadRect (tbl m 0) (Shape.Idx.first (numel1_S1.symm ▸ Nat.one_pos))))
    ∧ (cond0_1 (grid0.coords t) → k0_chk18 (grid0.coords t) (tbM0_0.view.readAt (Elt F) (Rect.unit (s := S4) ![2] S1.size inb_S4_S1_2).toLoadRect (tbl m 0) (Shape.Idx.first (numel1_S1.symm ▸ Nat.one_pos))))
    ∧ (cond0_1 (grid0.coords t) → k0_chk19 (grid0.coords t) (tbM0_0.view.readAt (Elt F) (Rect.unit (s := S4) ![3] S1.size inb_S4_S1_3).toLoadRect (tbl m 0) (Shape.Idx.first (numel1_S1.symm ▸ Nat.one_pos))))
    ∧ (cond0_1 (grid0.coords t) → k0_chk20 (grid0.coords t) (tbM0_0.view.readAt (Elt F) (Rect.unit (s := S4) ![3] S1.size inb_S4_S1_3).toLoadRect (tbl m 0) (Shape.Idx.first (numel1_S1.symm ▸ Nat.one_pos))))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`, under the conditions of the branches it sits inside. -/
abbrev Hyps.p0 (m : (ℓ : Loc nD τ sig) → Buf (Elt F) ℓ) (hO : Ok m) (c : Dev nD) (t : Fin (cfgM m hO).N) : Prop :=
  (cond0_0 (grid0.coords t) → k0_chk1 (grid0.coords t) (tbM0_0.view.readAt (Elt F) (Rect.unit (s := S4) ![0] S1.size inb_S4_S1_0).toLoadRect (tbl m 0) (Shape.Idx.first (numel1_S1.symm ▸ Nat.one_pos))))
variable {m} in
theorem Hyps.c0 {hO : Ok m} (hH : Hyps m hO) (c : Dev nD) (t : Fin (cfgM m hO).N) :
    (cond0_0 (grid0.coords t) → k0_chk1 (grid0.coords t) (tbM0_0.view.readAt (Elt F) (Rect.unit (s := S4) ![0] S1.size inb_S4_S1_0).toLoadRect (tbl m 0) (Shape.Idx.first (numel1_S1.symm ▸ Nat.one_pos)))) := (hH c t).1
/-- Conjunct 1 of `Gen.Hyps` at point `t`: the side condition `k0_chk2` the body assumes as `k0_hw2`, under the conditions of the branches it sits inside. -/
abbrev Hyps.p1 (m : (ℓ : Loc nD τ sig) → Buf (Elt F) ℓ) (hO : Ok m) (c : Dev nD) (t : Fin (cfgM m hO).N) : Prop :=
  (cond0_0 (grid0.coords t) → k0_chk2 (grid0.coords t) (tbM0_0.view.readAt (Elt F) (Rect.unit (s := S4) ![1] S1.size inb_S4_S1_1).toLoadRect (tbl m 0) (Shape.Idx.first (numel1_S1.symm ▸ Nat.one_pos))))
variable {m} in
theorem Hyps.c1 {hO : Ok m} (hH : Hyps m hO) (c : Dev nD) (t : Fin (cfgM m hO).N) :
    (cond0_0 (grid0.coords t) → k0_chk2 (grid0.coords t) (tbM0_0.view.readAt (Elt F) (Rect.unit (s := S4) ![1] S1.size inb_S4_S1_1).toLoadRect (tbl m 0) (Shape.Idx.first (numel1_S1.symm ▸ Nat.one_pos)))) := (hH c t).2.1
/-- Conjunct 2 of `Gen.Hyps` at point `t`: the side condition `k0_chk3` the body assumes as `k0_hw3`, under the conditions of the branches it sits inside. -/
abbrev Hyps.p2 (m : (ℓ : Loc nD τ sig) → Buf (Elt F) ℓ) (hO : Ok m) (c : Dev nD) (t : Fin (cfgM m hO).N) : Prop :=
  (cond0_0 (grid0.coords t) → k0_chk3 (grid0.coords t) (tbM0_0.view.readAt (Elt F) (Rect.unit (s := S4) ![2] S1.size inb_S4_S1_2).toLoadRect (tbl m 0) (Shape.Idx.first (numel1_S1.symm ▸ Nat.one_pos))))
variable {m} in
theorem Hyps.c2 {hO : Ok m} (hH : Hyps m hO) (c : Dev nD) (t : Fin (cfgM m hO).N) :
    (cond0_0 (grid0.coords t) → k0_chk3 (grid0.coords t) (tbM0_0.view.readAt (Elt F) (Rect.unit (s := S4) ![2] S1.size inb_S4_S1_2).toLoadRect (tbl m 0) (Shape.Idx.first (numel1_S1.symm ▸ Nat.one_pos)))) := (hH c t).2.2.1
/-- Conjunct 3 of `Gen.Hyps` at point `t`: the side condition `k0_chk4` the body assumes as `k0_hw4`, under the conditions of the branches it sits inside. -/
abbrev Hyps.p3 (m : (ℓ : Loc nD τ sig) → Buf (Elt F) ℓ) (hO : Ok m) (c : Dev nD) (t : Fin (cfgM m hO).N) : Prop :=
  (cond0_0 (grid0.coords t) → k0_chk4 (grid0.coords t) (tbM0_0.view.readAt (Elt F) (Rect.unit (s := S4) ![3] S1.size inb_S4_S1_3).toLoadRect (tbl m 0) (Shape.Idx.first (numel1_S1.symm ▸ Nat.one_pos))))
variable {m} in
theorem Hyps.c3 {hO : Ok m} (hH : Hyps m hO) (c : Dev nD) (t : Fin (cfgM m hO).N) :
    (cond0_0 (grid0.coords t) → k0_chk4 (grid0.coords t) (tbM0_0.view.readAt (Elt F) (Rect.unit (s := S4) ![3] S1.size inb_S4_S1_3).toLoadRect (tbl m 0) (Shape.Idx.first (numel1_S1.symm ▸ Nat.one_pos)))) := (hH c t).2.2.2.1
/-- Conjunct 4 of `Gen.Hyps` at point `t`: the side condition `k0_chk5` the body assumes as `k0_hw5`. -/
abbrev Hyps.p4 (m : (ℓ : Loc nD τ sig) → Buf (Elt F) ℓ) (hO : Ok m) (c : Dev nD) (t : Fin (cfgM m hO).N) : Prop :=
  k0_chk5 (tbM0_0.view.readAt (Elt F) (Rect.unit (s := S4) ![0] S1.size inb_S4_S1_0).toLoadRect (tbl m 0) (Shape.Idx.first (numel1_S1.symm ▸ Nat.one_pos)))
variable {m} in
theorem Hyps.c4 {hO : Ok m} (hH : Hyps m hO) (c : Dev nD) (t : Fin (cfgM m hO).N) :
    k0_chk5 (tbM0_0.view.readAt (Elt F) (Rect.unit (s := S4) ![0] S1.size inb_S4_S1_0).toLoadRect (tbl m 0) (Shape.Idx.first (numel1_S1.symm ▸ Nat.one_pos))) := (hH c t).2.2.2.2.1
/-- Conjunct 5 of `Gen.Hyps` at point `t`: the side condition `k0_chk6` the body assumes as `k0_hw6`. -/
abbrev Hyps.p5 (m : (ℓ : Loc nD τ sig) → Buf (Elt F) ℓ) (hO : Ok m) (c : Dev nD) (t : Fin (cfgM m hO).N) : Prop :=
  k0_chk6 (tbM0_0.view.readAt (Elt F) (Rect.unit (s := S4) ![0] S1.size inb_S4_S1_0).toLoadRect (tbl m 0) (Shape.Idx.first (numel1_S1.symm ▸ Nat.one_pos)))
variable {m} in
theorem Hyps.c5 {hO : Ok m} (hH : Hyps m hO) (c : Dev nD) (t : Fin (cfgM m hO).N) :
    k0_chk6 (tbM0_0.view.readAt (Elt F) (Rect.unit (s := S4) ![0] S1.size inb_S4_S1_0).toLoadRect (tbl m 0) (Shape.Idx.first (numel1_S1.symm ▸ Nat.one_pos))) := (hH c t).2.2.2.2.2.1
/-- Conjunct 6 of `Gen.Hyps` at point `t`: the side condition `k0_chk7` the body assumes as `k0_hw7`. -/
abbrev Hyps.p6 (m : (ℓ : Loc nD τ sig) → Buf (Elt F) ℓ) (hO : Ok m) (c : Dev nD) (t : Fin (cfgM m hO).N) : Prop :=
  k0_chk7 (tbM0_0.view.readAt (Elt F) (Rect.unit (s := S4) ![1] S1.size inb_S4_S1_1).toLoadRect (tbl m 0) (Shape.Idx.first (numel1_S1.symm ▸ Nat.one_pos)))
variable {m} in
theorem Hyps.c6 {hO : Ok m} (hH : Hyps m hO) (c : Dev nD) (t : Fin (cfgM m hO).N) :
    k0_chk7 (tbM0_0.view.readAt (Elt F) (Rect.unit (s := S4) ![1] S1.size inb_S4_S1_1).toLoadRect (tbl m 0) (Shape.Idx.first (numel1_S1.symm ▸ Nat.one_pos))) := (hH c t).2.2.2.2.2.2.1
/-- Conjunct 7 of `Gen.Hyps` at point `t`: the side condition `k0_chk8` the body assumes as `k0_hw8`. -/
abbrev Hyps.p7 (m : (ℓ : Loc nD τ sig) → Buf (Elt F) ℓ) (hO : Ok m) (c : Dev nD) (t : Fin (cfgM m hO).N) : Prop :=
  k0_chk8 (tbM0_0.view.readAt (Elt F) (Rect.unit (s := S4) ![1] S1.size inb_S4_S1_1).toLoadRect (tbl m 0) (Shape.Idx.first (numel1_S1.symm ▸ Nat.one_pos)))
variable {m} in
theorem Hyps.c7 {hO : Ok m} (hH : Hyps m hO) (c : Dev nD) (t : Fin (cfgM m hO).N) :
    k0_chk8 (tbM0_0.view.readAt (Elt F) (Rect.unit (s := S4) ![1] S1.size inb_S4_S1_1).toLoadRect (tbl m 0) (Shape.Idx.first (numel1_S1.symm ▸ Nat.one_pos))) := (hH c t).2.2.2.2.2.2.2.1
/-- Conjunct 8 of `Gen.Hyps` at point `t`: the side condition `k0_chk9` the body assumes as `k0_hw9`. -/
abbrev Hyps.p8 (m : (ℓ : Loc nD τ sig) → Buf (Elt F) ℓ) (hO : Ok m) (c : Dev nD) (t : Fin (cfgM m hO).N) : Prop :=
  k0_chk9 (tbM0_0.view.readAt (Elt F) (Rect.unit (s := S4) ![2] S1.size inb_S4_S1_2).toLoadRect (tbl m 0) (Shape.Idx.first (numel1_S1.symm ▸ Nat.one_pos)))
variable {m} in
theorem Hyps.c8 {hO : Ok m} (hH : Hyps m hO) (c : Dev nD) (t : Fin (cfgM m hO).N) :
    k0_chk9 (tbM0_0.view.readAt (Elt F) (Rect.unit (s := S4) ![2] S1.size inb_S4_S1_2).toLoadRect (tbl m 0) (Shape.Idx.first (numel1_S1.symm ▸ Nat.one_pos))) := (hH c t).2.2.2.2.2.2.2.2.1
/-- Conjunct 9 of `Gen.Hyps` at point `t`: the side condition `k0_chk10` the body assumes as `k0_hw10`. -/
abbrev Hyps.p9 (m : (ℓ : Loc nD τ sig) → Buf (Elt F) ℓ) (hO : Ok m) (c : Dev nD) (t : Fin (cfgM m hO).N) : Prop :=
  k0_chk10 (tbM0_0.view.readAt (Elt F) (Rect.unit (s := S4) ![2] S1.size inb_S4_S1_2).toLoadRect (tbl m 0) (Shape.Idx.first (numel1_S1.symm ▸ Nat.one_pos)))
variable {m} in
theorem Hyps.c9 {hO : Ok m} (hH : Hyps m hO) (c : Dev nD) (t : Fin (cfgM m hO).N) :
    k0_chk10 (tbM0_0.view.readAt (Elt F) (Rect.unit (s := S4) ![2] S1.size inb_S4_S1_2).toLoadRect (tbl m 0) (Shape.Idx.first (numel1_S1.symm ▸ Nat.one_pos))) := (hH c t).2.2.2.2.2.2.2.2.2.1
/-- Conjunct 10 of `Gen.Hyps` at point `t`: the side condition `k0_chk11` the body assumes as `k0_hw11`. -/
abbrev Hyps.p10 (m : (ℓ : Loc nD τ sig) → Buf (Elt F) ℓ) (hO : Ok m) (c : Dev nD) (t : Fin (cfgM m hO).N) : Prop :=
  k0_chk11 (tbM0_0.view.readAt (Elt F) (Rect.unit (s := S4) ![3] S1.size inb_S4_S1_3).toLoadRect (tbl m 0) (Shape.Idx.first (numel1_S1.symm ▸ Nat.one_pos)))
variable {m} in
theorem Hyps.c10 {hO : Ok m} (hH : Hyps m hO) (c : Dev nD) (t : Fin (cfgM m hO).N) :
    k0_chk11 (tbM0_0.view.readAt (Elt F) (Rect.unit (s := S4) ![3] S1.size inb_S4_S1_3).toLoadRect (tbl m 0) (Shape.Idx.first (numel1_S1.symm ▸ Nat.one_pos))) := (hH c t).2.2.2.2.2.2.2.2.2.2.1
/-- Conjunct 11 of `Gen.Hyps` at point `t`: the side condition `k0_chk12` the body assumes as `k0_hw12`. -/
abbrev Hyps.p11 (m : (ℓ : Loc nD τ sig) → Buf (Elt F) ℓ) (hO : Ok m) (c : Dev nD) (t : Fin (cfgM m hO).N) : Prop :=
  k0_chk12 (tbM0_0.view.readAt (Elt F) (Rect.unit (s := S4) ![3] S1.size inb_S4_S1_3).toLoadRect (tbl m 0) (Shape.Idx.first (numel1_S1.symm ▸ Nat.one_pos)))
variable {m} in
theorem Hyps.c11 {hO : Ok m} (hH : Hyps m hO) (c : Dev nD) (t : Fin (cfgM m hO).N) :
    k0_chk12 (tbM0_0.view.readAt (Elt F) (Rect.unit (s := S4) ![3] S1.size inb_S4_S1_3).toLoadRect (tbl m 0) (Shape.Idx.first (numel1_S1.symm ▸ Nat.one_pos))) := (hH c t).2.2.2.2.2.2.2.2.2.2.2.1
/-- Conjunct 12 of `Gen.Hyps` at point `t`: the side condition `k0_chk13` the body assumes as `k0_hw13`, under the conditions of the branches it sits inside. -/
abbrev Hyps.p12 (m : (ℓ : Loc nD τ sig) → Buf (Elt F) ℓ) (hO : Ok m) (c : Dev nD) (t : Fin (cfgM m hO).N) : Prop :=
  (cond0_1 (grid0.coords t) → k0_chk13 (grid0.coords t) (tbM0_0.view.readAt (Elt F) (Rect.unit (s := S4) ![0] S1.size inb_S4_S1_0).toLoadRect (tbl m 0) (Shape.Idx.first (numel1_S1.symm ▸ Nat.one_pos))))
variable {m} in
theorem Hyps.c12 {hO : Ok m} (hH : Hyps m hO) (c : Dev nD) (t : Fin (cfgM m hO).N) :
    (cond0_1 (grid0.coords t) → k0_chk13 (grid0.coords t) (tbM0_0.view.readAt (Elt F) (Rect.unit (s := S4) ![0] S1.size inb_S4_S1_0).toLoadRect (tbl m 0) (Shape.Idx.first (numel1_S1.symm ▸ Nat.one_pos)))) := (hH c t).2.2.2.2.2.2.2.2.2.2.2.2.1
/-- Conjunct 13 of `Gen.Hyps` at point `t`: the side condition `k0_chk14` the body assumes as `k0_hw14`, under the conditions of the branches it sits inside. -/
abbrev Hyps.p13 (m : (ℓ : Loc nD τ sig) → Buf (Elt F) ℓ) (hO : Ok m) (c : Dev nD) (t : Fin (cfgM m hO).N) : Prop :=
  (cond0_1 (grid0.coords t) → k0_chk14 (grid0.coords t) (tbM0_0.view.readAt (Elt F) (Rect.unit (s := S4) ![0] S1.size inb_S4_S1_0).toLoadRect (tbl m 0) (Shape.Idx.first (numel1_S1.symm ▸ Nat.one_pos))))
variable {m} in
theorem Hyps.c13 {hO : Ok m} (hH : Hyps m hO) (c : Dev nD) (t : Fin (cfgM m hO).N) :
    (cond0_1 (grid0.coords t) → k0_chk14 (grid0.coords t) (tbM0_0.view.readAt (Elt F) (Rect.unit (s := S4) ![0] S1.size inb_S4_S1_0).toLoadRect (tbl m 0) (Shape.Idx.first (numel1_S1.symm ▸ Nat.one_pos)))) := (hH c t).2.2.2.2.2.2.2.2.2.2.2.2.2.1
/-- Conjunct 14 of `Gen.Hyps` at point `t`: the side condition `k0_chk15` the body assumes as `k0_hw15`, under the conditions of the branches it sits inside. -/
abbrev Hyps.p14 (m : (ℓ : Loc nD τ sig) → Buf (Elt F) ℓ) (hO : Ok m) (c : Dev nD) (t : Fin (cfgM m hO).N) : Prop :=
  (cond0_1 (grid0.coords t) → k0_chk15 (grid0.coords t) (tbM0_0.view.readAt (Elt F) (Rect.unit (s := S4) ![1] S1.size inb_S4_S1_1).toLoadRect (tbl m 0) (Shape.Idx.first (numel1_S1.symm ▸ Nat.one_pos))))
variable {m} in
theorem Hyps.c14 {hO : Ok m} (hH : Hyps m hO) (c : Dev nD) (t : Fin (cfgM m hO).N) :
    (cond0_1 (grid0.coords t) → k0_chk15 (grid0.coords t) (tbM0_0.view.readAt (Elt F) (Rect.unit (s := S4) ![1] S1.size inb_S4_S1_1).toLoadRect (tbl m 0) (Shape.Idx.first (numel1_S1.symm ▸ Nat.one_pos)))) := (hH c t).2.2.2.2.2.2.2.2.2.2.2.2.2.2.1
/-- Conjunct 15 of `Gen.Hyps` at point `t`: the side condition `k0_chk16` the body assumes as `k0_hw16`, under the conditions of the branches it sits inside. -/
abbrev Hyps.p15 (m : (ℓ : Loc nD τ sig) → Buf (Elt F) ℓ) (hO : Ok m) (c : Dev nD) (t : Fin (cfgM m hO).N) : Prop :=
  (cond0_1 (grid0.coords t) → k0_chk16 (grid0.coords t) (tbM0_0.view.readAt (Elt F) (Rect.unit (s := S4) ![1] S1.size inb_S4_S1_1).toLoadRect (tbl m 0) (Shape.Idx.first (numel1_S1.symm ▸ Nat.one_pos))))
variable {m} in
theorem Hyps.c15 {hO : Ok m} (hH : Hyps m hO) (c : Dev nD) (t : Fin (cfgM m hO).N) :
    (cond0_1 (grid0.coords t) → k0_chk16 (grid0.coords t) (tbM0_0.view.readAt (Elt F) (Rect.unit (s := S4) ![1] S1.size inb_S4_S1_1).toLoadRect (tbl m 0) (Shape.Idx.first (numel1_S1.symm ▸ Nat.one_pos)))) := (hH c t).2.2.2.2.2.2.2.2.2.2.2.2.2.2.2.1
/-- Conjunct 16 of `Gen.Hyps` at point `t`: the side condition `k0_chk17` the body assumes as `k0_hw17`, under the conditions of the branches it sits inside. -/
abbrev Hyps.p16 (m : (ℓ : Loc nD τ sig) → Buf (Elt F) ℓ) (hO : Ok m) (c : Dev nD) (t : Fin (cfgM m hO).N) : Prop :=
  (cond0_1 (grid0.coords t) → k0_chk17 (grid0.coords t) (tbM0_0.view.readAt (Elt F) (Rect.unit (s := S4) ![2] S1.size inb_S4_S1_2).toLoadRect (tbl m 0) (Shape.Idx.first (numel1_S1.symm ▸ Nat.one_pos))))
variable {m} in
theorem Hyps.c16 {hO : Ok m} (hH : Hyps m hO) (c : Dev nD) (t : Fin (cfgM m hO).N) :
    (cond0_1 (grid0.coords t) → k0_chk17 (grid0.coords t) (tbM0_0.view.readAt (Elt F) (Rect.unit (s := S4) ![2] S1.size inb_S4_S1_2).toLoadRect (tbl m 0) (Shape.Idx.first (numel1_S1.symm ▸ Nat.one_pos)))) := (hH c t).2.2.2.2.2.2.2.2.2.2.2.2.2.2.2.2.1
/-- Conjunct 17 of `Gen.Hyps` at point `t`: the side condition `k0_chk18` the body assumes as `k0_hw18`, under the conditions of the branches it sits inside. -/
abbrev Hyps.p17 (m : (ℓ : Loc nD τ sig) → Buf (Elt F) ℓ) (hO : Ok m) (c : Dev nD) (t : Fin (cfgM m hO).N) : Prop :=
  (cond0_1 (grid0.coords t) → k0_chk18 (grid0.coords t) (tbM0_0.view.readAt (Elt F) (Rect.unit (s := S4) ![2] S1.size inb_S4_S1_2).toLoadRect (tbl m 0) (Shape.Idx.first (numel1_S1.symm ▸ Nat.one_pos))))
variable {m} in
theorem Hyps.c17 {hO : Ok m} (hH : Hyps m hO) (c : Dev nD) (t : Fin (cfgM m hO).N) :
    (cond0_1 (grid0.coords t) → k0_chk18 (grid0.coords t) (tbM0_0.view.readAt (Elt F) (Rect.unit (s := S4) ![2] S1.size inb_S4_S1_2).toLoadRect (tbl m 0) (Shape.Idx.first (numel1_S1.symm ▸ Nat.one_pos)))) := (hH c t).2.2.2.2.2.2.2.2.2.2.2.2.2.2.2.2.2.1
/-- Conjunct 18 of `Gen.Hyps` at point `t`: the side condition `k0_chk19` the body assumes as `k0_hw19`, under the conditions of the branches it sits inside. -/
abbrev Hyps.p18 (m : (ℓ : Loc nD τ sig) → Buf (Elt F) ℓ) (hO : Ok m) (c : Dev nD) (t : Fin (cfgM m hO).N) : Prop :=
  (cond0_1 (grid0.coords t) → k0_chk19 (grid0.coords t) (tbM0_0.view.readAt (Elt F) (Rect.unit (s := S4) ![3] S1.size inb_S4_S1_3).toLoadRect (tbl m 0) (Shape.Idx.first (numel1_S1.symm ▸ Nat.one_pos))))
variable {m} in
theorem Hyps.c18 {hO : Ok m} (hH : Hyps m hO) (c : Dev nD) (t : Fin (cfgM m hO).N) :
    (cond0_1 (grid0.coords t) → k0_chk19 (grid0.coords t) (tbM0_0.view.readAt (Elt F) (Rect.unit (s := S4) ![3] S1.size inb_S4_S1_3).toLoadRect (tbl m 0) (Shape.Idx.first (numel1_S1.symm ▸ Nat.one_pos)))) := (hH c t).2.2.2.2.2.2.2.2.2.2.2.2.2.2.2.2.2.2.1
/-- Conjunct 19 of `Gen.Hyps` at point `t`: the side condition `k0_chk20` the body assumes as `k0_hw20`, under the conditions of the branches it sits inside. -/
abbrev Hyps.p19 (m : (ℓ : Loc nD τ sig) → Buf (Elt F) ℓ) (hO : Ok m) (c : Dev nD) (t : Fin (cfgM m hO).N) : Prop :=
  (cond0_1 (grid0.coords t) → k0_chk20 (grid0.coords t) (tbM0_0.view.readAt (Elt F) (Rect.unit (s := S4) ![3] S1.size inb_S4_S1_3).toLoadRect (tbl m 0) (Shape.Idx.first (numel1_S1.symm ▸ Nat.one_pos))))
variable {m} in
theorem Hyps.c19 {hO : Ok m} (hH : Hyps m hO) (c : Dev nD) (t : Fin (cfgM m hO).N) :
    (cond0_1 (grid0.coords t) → k0_chk20 (grid0.coords t) (tbM0_0.view.readAt (Elt F) (Rect.unit (s := S4) ![3] S1.size inb_S4_S1_3).toLoadRect (tbl m 0) (Shape.Idx.first (numel1_S1.symm ▸ Nat.one_pos)))) := (hH c t).2.2.2.2.2.2.2.2.2.2.2.2.2.2.2.2.2.2.2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t)
    (p2 : ∀ (c : Dev nD) (t : Fin (cfgM m hO).N), Hyps.p2 m hO c t)
    (p3 : ∀ (c : Dev nD) (t : Fin (cfgM m hO).N), Hyps.p3 m hO c t)
    (p4 : ∀ (c : Dev nD) (t : Fin (cfgM m hO).N), Hyps.p4 m hO c t)
    (p5 : ∀ (c : Dev nD) (t : Fin (cfgM m hO).N), Hyps.p5 m hO c t)
    (p6 : ∀ (c : Dev nD) (t : Fin (cfgM m hO).N), Hyps.p6 m hO c t)
    (p7 : ∀ (c : Dev nD) (t : Fin (cfgM m hO).N), Hyps.p7 m hO c t)
    (p8 : ∀ (c : Dev nD) (t : Fin (cfgM m hO).N), Hyps.p8 m hO c t)
    (p9 : ∀ (c : Dev nD) (t : Fin (cfgM m hO).N), Hyps.p9 m hO c t)
    (p10 : ∀ (c : Dev nD) (t : Fin (cfgM m hO).N), Hyps.p10 m hO c t)
    (p11 : ∀ (c : Dev nD) (t : Fin (cfgM m hO).N), Hyps.p11 m hO c t)
    (p12 : ∀ (c : Dev nD) (t : Fin (cfgM m hO).N), Hyps.p12 m hO c t)
    (p13 : ∀ (c : Dev nD) (t : Fin (cfgM m hO).N), Hyps.p13 m hO c t)
    (p14 : ∀ (c : Dev nD) (t : Fin (cfgM m hO).N), Hyps.p14 m hO c t)
    (p15 : ∀ (c : Dev nD) (t : Fin (cfgM m hO).N), Hyps.p15 m hO c t)
    (p16 : ∀ (c : Dev nD) (t : Fin (cfgM m hO).N), Hyps.p16 m hO c t)
    (p17 : ∀ (c : Dev nD) (t : Fin (cfgM m hO).N), Hyps.p17 m hO c t)
    (p18 : ∀ (c : Dev nD) (t : Fin (cfgM m hO).N), Hyps.p18 m hO c t)
    (p19 : ∀ (c : Dev nD) (t : Fin (cfgM m hO).N), Hyps.p19 m hO c t) :
    Hyps m hO := fun c t =>
  And.intro (p0 c t) (And.intro (p1 c t) (And.intro (p2 c t) (And.intro (p3 c t) (And.intro (p4 c t) (And.intro (p5 c t) (And.intro (p6 c t) (And.intro (p7 c t) (And.intro (p8 c t) (And.intro (p9 c t) (And.intro (p10 c t) (And.intro (p11 c t) (And.intro (p12 c t) (And.intro (p13 c t) (And.intro (p14 c t) (And.intro (p15 c t) (And.intro (p16 c t) (And.intro (p17 c t) (And.intro (p18 c t) (p19 c t)))))))))))))))))))

/-- The scratch operands: whole scoped buffers of the kernel's own, passed beside the windows. -/
abbrev scM0_0 : Memref sig .tc .vmem S2048x1536 .f32 := Memref.whole cc0_scratch0
abbrev scM0_1 : Memref sig .tc .vmem S4x32x384 .f32 := Memref.whole cc0_scratch1
abbrev scM0_2 : Memref sig .tc .vmem S4x96x384 .bf16 := Memref.whole cc0_scratch2
/-- The scratch `arg15` the kernel carries between points, as a view: what it holds is stated through it. -/
abbrev VS0_0 : View sig .tc .vmem S2048x1536 .f32 := scM0_0.view
/-- The scratch `arg16` the kernel carries between points, as a view: what it holds is stated through it. -/
abbrev VS0_1 : View sig .tc .vmem S4x32x384 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.RunK.RunA.lean ====
/- The whole-body run of the idealized kernel at the first grid point. -/
module

public import proofs.«01_k».proof.Proof.RunK.Kit

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- The body's run at the first grid point: on whole staging memrefs, the inputs at given contents and the carried scratch at what the
    point before left, it ends with every input unchanged and with the stores of each buffer that it writes at this point as
    pieces (last first). The pieces are the witness that the run finds. Buffers that the body leaves alone at this point are not named. -/
noncomputable def kernelRun0_A (c : Dev nD) (i : grid0.Coords) (arg2 : Memref sig .tc .vmem S1536x2048 .fp8e4m3) (harg2 : arg2.IsWhole) (arg3 : Memref sig .tc .vmem S1x1536 .f32) (harg3 : arg3.IsWhole) (arg4 : Memref sig .tc .vmem S1536x512 .fp8e5m2) (harg4 : arg4.IsWhole) (arg5 : Memref sig .tc .vmem S1x1536 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S5x32x2048 .bf16) (harg8 : arg8.IsWhole) (arg9 : Memref sig .tc .vmem S5x32x512 .bf16) (harg9 : arg9.IsWhole) (arg10 : Memref sig .tc .vmem S1536x2048 .bf16) (harg10 : arg10.IsWhole) (arg11 : Memref sig .tc .vmem S5x32x2048 .f32) (harg11 : arg11.IsWhole) (arg12 : Memref sig .tc .vmem S5x32x512 .f32) (harg12 : arg12.IsWhole) (arg13 : Memref sig .tc .vmem S4x32x384 .f32) (harg13 : arg13.IsWhole) (arg14 : Memref sig .tc .vmem S4x32x384 .f32) (harg14 : arg14.IsWhole) (arg15 : Memref sig .tc .vmem S2048x1536 .f32) (harg15 : arg15.IsWhole) (arg16 : Memref sig .tc .vmem S4x32x384 .f32) (harg16 : arg16.IsWhole) (arg17 : Memref sig .tc .vmem S4x96x384 .bf16) (harg17 : arg17.IsWhole) (hc0 : cond0_0 i) (hc1 : ¬cond0_1 i)
    (x0 : Vec F S1536x2048 .fp8e4m3) (x1 : Vec F S1x1536 .f32) (x2 : Vec F S1536x512 .fp8e5m2) (x3 : Vec F S1x1536 .f32) (x4 : Vec F S2048x512 .fp8e4m3) (x5 : Vec F S1x512 .f32) (x6 : Vec F S5x32x2048 .bf16) (x7 : Vec F S5x32x512 .bf16) (xt0 : TbBuf0 (F := F) c tbM0_0) (k0_hw1 : k0_chk1 i (tbM0_0.view.readAt (Elt F) (Rect.unit (s := S4) ![0] S1.size inb_S4_S1_0).toLoadRect xt0 (Shape.Idx.first (numel1_S1.symm ▸ Nat.one_pos)))) (k0_hw2 : k0_chk2 i (tbM0_0.view.readAt (Elt F) (Rect.unit (s := S4) ![1] S1.size inb_S4_S1_1).toLoadRect xt0 (Shape.Idx.first (numel1_S1.symm ▸ Nat.one_pos)))) (k0_hw3 : k0_chk3 i (tbM0_0.view.readAt (Elt F) (Rect.unit (s := S4) ![2] S1.size inb_S4_S1_2).toLoadRect xt0 (Shape.Idx.first (numel1_S1.symm ▸ Nat.one_pos)))) (k0_hw4 : k0_chk4 i (tbM0_0.view.readAt (Elt F) (Rect.unit (s := S4) ![3] S1.size inb_S4_S1_3).toLoadRect xt0 (Shape.Idx.first (numel1_S1.symm ▸ Nat.one_pos)))) (k0_hw5 : k0_chk5 (tbM0_0.view.readAt (Elt F) (Rect.unit (s := S4) ![0] S1.size inb_S4_S1_0).toLoadRect xt0 (Shape.Idx.first (numel1_S1.symm ▸ Nat.one_pos)))) (k0_hw6 : k0_chk6 (tbM0_0.view.readAt (Elt F) (Rect.unit (s := S4) ![0] S1.size inb_S4_S1_0).toLoadRect xt0 (Shape.Idx.first (numel1_S1.symm ▸ Nat.one_pos)))) (k0_hw7 : k0_chk7 (tbM0_0.view.readAt (Elt F) (Rect.unit (s := S4) ![1] S1.size inb_S4_S1_1).toLoadRect xt0 (Shape.Idx.first (numel1_S1.symm ▸ Nat.one_pos)))) (k0_hw8 : k0_chk8 (tbM0_0.view.readAt (Elt F) (Rect.unit (s := S4) ![1] S1.size inb_S4_S1_1).toLoadRect xt0 (Shape.Idx.first (numel1_S1.symm ▸ Nat.one_pos)))) (k0_hw9 : k0_chk9 (tbM0_0.view.readAt (Elt F) (Rect.unit (s := S4) ![2] S1.size inb_S4_S1_2).toLoadRect xt0 (Shape.Idx.first (numel1_S1.symm ▸ Nat.one_pos)))) (k0_hw10 : k0_chk10 (tbM0_0.view.readAt (Elt F) (Rect.unit (s := S4) ![2] S1.size inb_S4_S1_2).toLoadRect xt0 (Shape.Idx.first (numel1_S1.symm ▸ Nat.one_pos)))) (k0_hw11 : k0_chk11 (tbM0_0.view.readAt (Elt F) (Rect.unit (s := S4) ![3] S1.size inb_S4_S1_3).toLoadRect xt0 (Shape.Idx.first (numel1_S1.symm ▸ Nat.one_pos)))) (k0_hw12 : k0_chk12 (tbM0_0.view.readAt (Elt F) (Rect.unit (s := S4) ![3] S1.size inb_S4_S1_3).toLoadRect xt0 (Shape.Idx.first (numel1_S1.symm ▸ Nat.one_pos)))) :
    Σ' (L10 : List (View.Piece (Elt F) S5x32x512 .f32)) (L12 : List (View.Piece (Elt F) S4x32x384 .f32)) (LS0 : List (View.Piece (Elt F) S2048x1536 .f32)) (LS1 : List (View.Piece (Elt F) S4x32x384 .f32)), { LS2 : List (View.Piece (Elt F) S4x96x384 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg12 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg12.view.loc (c : Thread nD τ) ↦[arg12.view.set]{fullShare} arg12.view.writes (Elt F) f L10) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ tbPt0 c tbM0_0 xt0) -∗ K ⟨⟩))
          ⊢ wp frame (wpE (defs₀ (F := F)) Variants.none c none) E (cc0_lora_bwd i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_lora_bwd_eq_skeleton]; unfold cc0_lora_bwd_skel
    simp only [k0_part12_eq_skeleton, k0_part1_eq_skeleton, k0_part2_eq_skeleton, k0_part3_eq_skeleton, k0_part4_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%d12, %f12, -, H12⟩, ⟨%ds0, %fs0, -, Hs0⟩, ⟨%ds1, %fs1, -, Hs1⟩, ⟨%ds2, %fs2, -, Hs2⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H10]; · iexists _; iexact H10
    isplitl [H12]; · iexists _; iexact H12
    isplitl [Hs0]; · iexists _; iexact Hs0
    isplitl [Hs1]; · iexists _; iexact Hs1
    isplitl [Hs2]; · iexists _; iexact Hs2
    iexact HT0

end Cert.Kernel.Gen

end
-- ==== Proof.RunK.RunB.lean ====
/- The whole-body run of the idealized kernel at a grid point that is neither the first nor the last. -/
module

public import proofs.«01_k».proof.Proof.RunK.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- The body's run at a grid point that is neither the first nor the last: on whole staging memrefs, the inputs at given contents and the carried scratch at what the
    point before left, it ends with every input unchanged and with the stores of each buffer that it writes at this point as
    pieces (last first). The pieces are the witness that the run finds. Buffers that the body leaves alone at this point are not named. -/
noncomputable def kernelRun0_B (c : Dev nD) (i : grid0.Coords) (arg2 : Memref sig .tc .vmem S1536x2048 .fp8e4m3) (harg2 : arg2.IsWhole) (arg3 : Memref sig .tc .vmem S1x1536 .f32) (harg3 : arg3.IsWhole) (arg4 : Memref sig .tc .vmem S1536x512 .fp8e5m2) (harg4 : arg4.IsWhole) (arg5 : Memref sig .tc .vmem S1x1536 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S5x32x2048 .bf16) (harg8 : arg8.IsWhole) (arg9 : Memref sig .tc .vmem S5x32x512 .bf16) (harg9 : arg9.IsWhole) (arg10 : Memref sig .tc .vmem S1536x2048 .bf16) (harg10 : arg10.IsWhole) (arg11 : Memref sig .tc .vmem S5x32x2048 .f32) (harg11 : arg11.IsWhole) (arg12 : Memref sig .tc .vmem S5x32x512 .f32) (harg12 : arg12.IsWhole) (arg13 : Memref sig .tc .vmem S4x32x384 .f32) (harg13 : arg13.IsWhole) (arg14 : Memref sig .tc .vmem S4x32x384 .f32) (harg14 : arg14.IsWhole) (arg15 : Memref sig .tc .vmem S2048x1536 .f32) (harg15 : arg15.IsWhole) (arg16 : Memref sig .tc .vmem S4x32x384 .f32) (harg16 : arg16.IsWhole) (arg17 : Memref sig .tc .vmem S4x96x384 .bf16) (harg17 : arg17.IsWhole) (hc0 : ¬cond0_0 i) (hc1 : ¬cond0_1 i)
    (x0 : Vec F S1536x2048 .fp8e4m3) (x1 : Vec F S1x1536 .f32) (x2 : Vec F S1536x512 .fp8e5m2) (x3 : Vec F S1x1536 .f32) (x4 : Vec F S2048x512 .fp8e4m3) (x5 : Vec F S1x512 .f32) (x6 : Vec F S5x32x2048 .bf16) (x7 : Vec F S5x32x512 .bf16) (xt0 : TbBuf0 (F := F) c tbM0_0) (xs0 : Vec F S2048x1536 .f32) (xs1 : Vec F S4x32x384 .f32) (xs2 : Vec F S4x96x384 .bf16) (k0_hw5 : k0_chk5 (tbM0_0.view.readAt (Elt F) (Rect.unit (s := S4) ![0] S1.size inb_S4_S1_0).toLoadRect xt0 (Shape.Idx.first (numel1_S1.symm ▸ Nat.one_pos)))) (k0_hw6 : k0_chk6 (tbM0_0.view.readAt (Elt F) (Rect.unit (s := S4) ![0] S1.size inb_S4_S1_0).toLoadRect xt0 (Shape.Idx.first (numel1_S1.symm ▸ Nat.one_pos)))) (k0_hw7 : k0_chk7 (tbM0_0.view.readAt (Elt F) (Rect.unit (s := S4) ![1] S1.size inb_S4_S1_1).toLoadRect xt0 (Shape.Idx.first (numel1_S1.symm ▸ Nat.one_pos)))) (k0_hw8 : k0_chk8 (tbM0_0.view.readAt (Elt F) (Rect.unit (s := S4) ![1] S1.size inb_S4_S1_1).toLoadRect xt0 (Shape.Idx.first (numel1_S1.symm ▸ Nat.one_pos)))) (k0_hw9 : k0_chk9 (tbM0_0.view.readAt (Elt F) (Rect.unit (s := S4) ![2] S1.size inb_S4_S1_2).toLoadRect xt0 (Shape.Idx.first (numel1_S1.symm ▸ Nat.one_pos)))) (k0_hw10 : k0_chk10 (tbM0_0.view.readAt (Elt F) (Rect.unit (s := S4) ![2] S1.size inb_S4_S1_2).toLoadRect xt0 (Shape.Idx.first (numel1_S1.symm ▸ Nat.one_pos)))) (k0_hw11 : k0_chk11 (tbM0_0.view.readAt (Elt F) (Rect.unit (s := S4) ![3] S1.size inb_S4_S1_3).toLoadRect xt0 (Shape.Idx.first (numel1_S1.symm ▸ Nat.one_pos)))) (k0_hw12 : k0_chk12 (tbM0_0.view.readAt (Elt F) (Rect.unit (s := S4) ![3] S1.size inb_S4_S1_3).toLoadRect xt0 (Shape.Idx.first (numel1_S1.symm ▸ Nat.one_pos)))) :
    Σ' (L10 : List (View.Piece (Elt F) S5x32x512 .f32)) (LS0 : List (View.Piece (Elt F) S2048x1536 .f32)), { LS1 : List (View.Piece (Elt F) S4x32x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg12 fullShare d) ∗ owns (c : Thread nD τ) arg15 fullShare xs0 ∗ owns (c : Thread nD τ) arg16 fullShare xs1 ∗ owns (c : Thread nD τ) arg17 fullShare xs2 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg12.view.loc (c : Thread nD τ) ↦[arg12.view.set]{fullShare} arg12.view.writes (Elt F) f L10) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ owns (c : Thread nD τ) arg17 fullShare xs2 ∗ tbPt0 c tbM0_0 xt0) -∗ K ⟨⟩))
          ⊢ wp frame (wpE (defs₀ (F := F)) Variants.none c none) E (cc0_lora_bwd i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_lora_bwd_eq_skeleton]; unfold cc0_lora_bwd_skel
    simp only [k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%fs0, %hfs0, Hs0⟩, ⟨%fs1, %hfs1, Hs1⟩, ⟨%fs2, %hfs2, Hs2⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg15.eq_unread hfs0; obtain rfl := harg16.eq_unread hfs1; obtain rfl := harg17.eq_unread hfs2
    sl_exec (disch := first | sl_exact hc0 | sl_exact hc1 | sl_exact k0_hw5 | sl_exact k0_hw6 | sl_exact k0_hw7 | sl_exact k0_hw8 | sl_exact k0_hw9 | sl_exact k0_hw10 | sl_exact k0_hw11 | sl_exact k0_hw12)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H10]; · iexists _; iexact H10
    isplitl [Hs0]; · iexists _; iexact Hs0
    isplitl [Hs1]; · iexists _; iexact Hs1
    isplitl [Hs2]
    · iexists _; isplitr; · ipureintro; exact harg17.read_unread _
      iexact Hs2
    iexact HT0

end Cert.Kernel.Gen

end
-- ==== Proof.RunK.RunC.lean ====
/- The whole-body run of the idealized kernel at the last grid point. -/
module

public import proofs.«01_k».proof.Proof.RunK.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- The body's run at the last grid point: on whole staging memrefs, the inputs at given contents and the carried scratch at what the
    point before left, it ends with every input unchanged and with the stores of each buffer that it writes at this point as
    pieces (last first). The pieces are the witness that the run finds. Buffers that the body leaves alone at this point are not named. -/
noncomputable def kernelRun0_C (c : Dev nD) (i : grid0.Coords) (arg2 : Memref sig .tc .vmem S1536x2048 .fp8e4m3) (harg2 : arg2.IsWhole) (arg3 : Memref sig .tc .vmem S1x1536 .f32) (harg3 : arg3.IsWhole) (arg4 : Memref sig .tc .vmem S1536x512 .fp8e5m2) (harg4 : arg4.IsWhole) (arg5 : Memref sig .tc .vmem S1x1536 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S5x32x2048 .bf16) (harg8 : arg8.IsWhole) (arg9 : Memref sig .tc .vmem S5x32x512 .bf16) (harg9 : arg9.IsWhole) (arg10 : Memref sig .tc .vmem S1536x2048 .bf16) (harg10 : arg10.IsWhole) (arg11 : Memref sig .tc .vmem S5x32x2048 .f32) (harg11 : arg11.IsWhole) (arg12 : Memref sig .tc .vmem S5x32x512 .f32) (harg12 : arg12.IsWhole) (arg13 : Memref sig .tc .vmem S4x32x384 .f32) (harg13 : arg13.IsWhole) (arg14 : Memref sig .tc .vmem S4x32x384 .f32) (harg14 : arg14.IsWhole) (arg15 : Memref sig .tc .vmem S2048x1536 .f32) (harg15 : arg15.IsWhole) (arg16 : Memref sig .tc .vmem S4x32x384 .f32) (harg16 : arg16.IsWhole) (arg17 : Memref sig .tc .vmem S4x96x384 .bf16) (harg17 : arg17.IsWhole) (hc0 : ¬cond0_0 i) (hc1 : cond0_1 i)
    (x0 : Vec F S1536x2048 .fp8e4m3) (x1 : Vec F S1x1536 .f32) (x2 : Vec F S1536x512 .fp8e5m2) (x3 : Vec F S1x1536 .f32) (x4 : Vec F S2048x512 .fp8e4m3) (x5 : Vec F S1x512 .f32) (x6 : Vec F S5x32x2048 .bf16) (x7 : Vec F S5x32x512 .bf16) (xt0 : TbBuf0 (F := F) c tbM0_0) (xs0 : Vec F S2048x1536 .f32) (xs1 : Vec F S4x32x384 .f32) (xs2 : Vec F S4x96x384 .bf16) (k0_hw5 : k0_chk5 (tbM0_0.view.readAt (Elt F) (Rect.unit (s := S4) ![0] S1.size inb_S4_S1_0).toLoadRect xt0 (Shape.Idx.first (numel1_S1.symm ▸ Nat.one_pos)))) (k0_hw6 : k0_chk6 (tbM0_0.view.readAt (Elt F) (Rect.unit (s := S4) ![0] S1.size inb_S4_S1_0).toLoadRect xt0 (Shape.Idx.first (numel1_S1.symm ▸ Nat.one_pos)))) (k0_hw7 : k0_chk7 (tbM0_0.view.readAt (Elt F) (Rect.unit (s := S4) ![1] S1.size inb_S4_S1_1).toLoadRect xt0 (Shape.Idx.first (numel1_S1.symm ▸ Nat.one_pos)))) (k0_hw8 : k0_chk8 (tbM0_0.view.readAt (Elt F) (Rect.unit (s := S4) ![1] S1.size inb_S4_S1_1).toLoadRect xt0 (Shape.Idx.first (numel1_S1.symm ▸ Nat.one_pos)))) (k0_hw9 : k0_chk9 (tbM0_0.view.readAt (Elt F) (Rect.unit (s := S4) ![2] S1.size inb_S4_S1_2).toLoadRect xt0 (Shape.Idx.first (numel1_S1.symm ▸ Nat.one_pos)))) (k0_hw10 : k0_chk10 (tbM0_0.view.readAt (Elt F) (Rect.unit (s := S4) ![2] S1.size inb_S4_S1_2).toLoadRect xt0 (Shape.Idx.first (numel1_S1.symm ▸ Nat.one_pos)))) (k0_hw11 : k0_chk11 (tbM0_0.view.readAt (Elt F) (Rect.unit (s := S4) ![3] S1.size inb_S4_S1_3).toLoadRect xt0 (Shape.Idx.first (numel1_S1.symm ▸ Nat.one_pos)))) (k0_hw12 : k0_chk12 (tbM0_0.view.readAt (Elt F) (Rect.unit (s := S4) ![3] S1.size inb_S4_S1_3).toLoadRect xt0 (Shape.Idx.first (numel1_S1.symm ▸ Nat.one_pos)))) (k0_hw13 : k0_chk13 i (tbM0_0.view.readAt (Elt F) (Rect.unit (s := S4) ![0] S1.size inb_S4_S1_0).toLoadRect xt0 (Shape.Idx.first (numel1_S1.symm ▸ Nat.one_pos)))) (k0_hw14 : k0_chk14 i (tbM0_0.view.readAt (Elt F) (Rect.unit (s := S4) ![0] S1.size inb_S4_S1_0).toLoadRect xt0 (Shape.Idx.first (numel1_S1.symm ▸ Nat.one_pos)))) (k0_hw15 : k0_chk15 i (tbM0_0.view.readAt (Elt F) (Rect.unit (s := S4) ![1] S1.size inb_S4_S1_1).toLoadRect xt0 (Shape.Idx.first (numel1_S1.symm ▸ Nat.one_pos)))) (k0_hw16 : k0_chk16 i (tbM0_0.view.readAt (Elt F) (Rect.unit (s := S4) ![1] S1.size inb_S4_S1_1).toLoadRect xt0 (Shape.Idx.first (numel1_S1.symm ▸ Nat.one_pos)))) (k0_hw17 : k0_chk17 i (tbM0_0.view.readAt (Elt F) (Rect.unit (s := S4) ![2] S1.size inb_S4_S1_2).toLoadRect xt0 (Shape.Idx.first (numel1_S1.symm ▸ Nat.one_pos)))) (k0_hw18 : k0_chk18 i (tbM0_0.view.readAt (Elt F) (Rect.unit (s := S4) ![2] S1.size inb_S4_S1_2).toLoadRect xt0 (Shape.Idx.first (numel1_S1.symm ▸ Nat.one_pos)))) (k0_hw19 : k0_chk19 i (tbM0_0.view.readAt (Elt F) (Rect.unit (s := S4) ![3] S1.size inb_S4_S1_3).toLoadRect xt0 (Shape.Idx.first (numel1_S1.symm ▸ Nat.one_pos)))) (k0_hw20 : k0_chk20 i (tbM0_0.view.readAt (Elt F) (Rect.unit (s := S4) ![3] S1.size inb_S4_S1_3).toLoadRect xt0 (Shape.Idx.first (numel1_S1.symm ▸ Nat.one_pos)))) :
    Σ' (L8 : List (View.Piece (Elt F) S1536x2048 .bf16)) (L9 : List (View.Piece (Elt F) S5x32x2048 .f32)) (L10 : List (View.Piece (Elt F) S5x32x512 .f32)) (L11 : List (View.Piece (Elt F) S4x32x384 .f32)) (LS0 : List (View.Piece (Elt F) S2048x1536 .f32)), { LS1 : List (View.Piece (Elt F) S4x32x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg15 fullShare xs0 ∗ owns (c : Thread nD τ) arg16 fullShare xs1 ∗ owns (c : Thread nD τ) arg17 fullShare xs2 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ owns (c : Thread nD τ) arg17 fullShare xs2 ∗ tbPt0 c tbM0_0 xt0) -∗ K ⟨⟩))
          ⊢ wp frame (wpE (defs₀ (F := F)) Variants.none c none) E (cc0_lora_bwd i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0_lora_bwd_eq_skeleton]; unfold cc0_lora_bwd_skel
    simp only [k0_part12_eq_skeleton, k0_part13_eq_skeleton, k0_part14_eq_skeleton, k0_part15_eq_skeleton, k0_part11_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, Hs0⟩, ⟨%fs1, %hfs1, Hs1⟩, ⟨%fs2, %hfs2, Hs2⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg15.eq_unread hfs0; obtain rfl := harg16.eq_unread hfs1; obtain rfl := harg17.eq_unread hfs2
    sl_exec (disch := first | sl_exact hc0 | sl_exact hc1 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [Hs0]; · iexists _; iexact Hs0
    isplitl [Hs1]; · iexists _; iexact Hs1
    isplitl [Hs2]
    · iexists _; isplitr; · ipureintro; exact harg17.read_unread _
      iexact Hs2
    iexact HT0

end Cert.Kernel.Gen

end
-- ==== Proof.RunK.Data.lean ====
/- What the idealized kernel's body stores at each grid point, and that the stores of each point cover the buffers they go to. -/
module

public import proofs.«01_k».proof.Proof.RunK.RunC
public import Idealize.ShloMosaic.Lib.Pipeline.TableIdle
public import Idealize.ShloMosaic.Lib.Claim

@[expose] public section

set_option maxRecDepth 16384

noncomputable section

namespace Cert.Kernel.Gen

open Idealize.ShloMosaic Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The run at the first grid point: the body's stores there, on the point's staging buffers and input blocks. -/
def ptA (hO : Ok m) (hH : Hyps m hO) (c : Dev nD) (t : Fin (cfgM m hO).N) (h0 : t.val % 16 = 0) (h1 : ¬t.val % 16 = 15) :=
  kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (tbl m 0) ((Hyps.c0 hH c t) ((hcond0_0 t).mpr h0)) ((Hyps.c1 hH c t) ((hcond0_0 t).mpr h0)) ((Hyps.c2 hH c t) ((hcond0_0 t).mpr h0)) ((Hyps.c3 hH c t) ((hcond0_0 t).mpr h0)) (Hyps.c4 hH c t) (Hyps.c5 hH c t) (Hyps.c6 hH c t) (Hyps.c7 hH c t) (Hyps.c8 hH c t) (Hyps.c9 hH c t) (Hyps.c10 hH c t) (Hyps.c11 hH c t)

/-- The run at a grid point between the first and the last, over the contents that the scratch holds. -/
def ptB (hO : Ok m) (hH : Hyps m hO) (c : Dev nD) (t : Fin (cfgM m hO).N) (h0 : ¬t.val % 16 = 0) (h1 : ¬t.val % 16 = 15) (xs0 : Vec F S2048x1536 .f32) (xs1 : Vec F S4x32x384 .f32) (xs2 : Vec F S4x96x384 .bf16) :=
  kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (tbl m 0) xs0 xs1 xs2 (Hyps.c4 hH c t) (Hyps.c5 hH c t) (Hyps.c6 hH c t) (Hyps.c7 hH c t) (Hyps.c8 hH c t) (Hyps.c9 hH c t) (Hyps.c10 hH c t) (Hyps.c11 hH c t)

/-- The run at the last grid point, over the contents that the scratch holds. -/
def ptC (hO : Ok m) (hH : Hyps m hO) (c : Dev nD) (t : Fin (cfgM m hO).N) (h0 : ¬t.val % 16 = 0) (h1 : t.val % 16 = 15) (xs0 : Vec F S2048x1536 .f32) (xs1 : Vec F S4x32x384 .f32) (xs2 : Vec F S4x96x384 .bf16) :=
  kernelRun0_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (tbl m 0) xs0 xs1 xs2 (Hyps.c4 hH c t) (Hyps.c5 hH c t) (Hyps.c6 hH c t) (Hyps.c7 hH c t) (Hyps.c8 hH c t) (Hyps.c9 hH c t) (Hyps.c10 hH c t) (Hyps.c11 hH c t) ((Hyps.c12 hH c t) ((hcond0_1 t).mpr h1)) ((Hyps.c13 hH c t) ((hcond0_1 t).mpr h1)) ((Hyps.c14 hH c t) ((hcond0_1 t).mpr h1)) ((Hyps.c15 hH c t) ((hcond0_1 t).mpr h1)) ((Hyps.c16 hH c t) ((hcond0_1 t).mpr h1)) ((Hyps.c17 hH c t) ((hcond0_1 t).mpr h1)) ((Hyps.c18 hH c t) ((hcond0_1 t).mpr h1)) ((Hyps.c19 hH c t) ((hcond0_1 t).mpr h1))

/-- The stores of case A into buffer 10 cover it. -/
theorem coverA_10 (hO : Ok m) (hH : Hyps m hO) (c : Dev nD) (t : Fin (cfgM m hO).N) (h0 : t.val % 16 = 0) (h1 : ¬t.val % 16 = 15) (y : S5x32x512.Idx) :
    ∃ pc ∈ (ptA m hO hH c t h0 h1).1, y ∈ pc.1.set := by
  exact View.cover_of_wholeMem _ (by sl_whole_mem) y

/-- The stores of case A into buffer 12 cover it. -/
theorem coverA_12 (hO : Ok m) (hH : Hyps m hO) (c : Dev nD) (t : Fin (cfgM m hO).N) (h0 : t.val % 16 = 0) (h1 : ¬t.val % 16 = 15) (y : S4x32x384.Idx) :
    ∃ pc ∈ (ptA m hO hH c t h0 h1).2.1, y ∈ pc.1.set := by
  exact View.cover_of_tiledL (ptA m hO hH c t h0 h1).2.1 S1x32x384.size (by sl_kernel_rfl) y

/-- The stores of case A into buffer s0 cover it. -/
theorem coverA_s0 (hO : Ok m) (hH : Hyps m hO) (c : Dev nD) (t : Fin (cfgM m hO).N) (h0 : t.val % 16 = 0) (h1 : ¬t.val % 16 = 15) (y : S2048x1536.Idx) :
    ∃ pc ∈ (ptA m hO hH c t h0 h1).2.2.1, y ∈ pc.1.set := by
  exact View.cover_of_wholeMem _ (by sl_whole_mem) y

/-- The stores of case A into buffer s1 cover it. -/
theorem coverA_s1 (hO : Ok m) (hH : Hyps m hO) (c : Dev nD) (t : Fin (cfgM m hO).N) (h0 : t.val % 16 = 0) (h1 : ¬t.val % 16 = 15) (y : S4x32x384.Idx) :
    ∃ pc ∈ (ptA m hO hH c t h0 h1).2.2.2.1, y ∈ pc.1.set := by
  exact View.cover_of_wholeMem _ (by sl_whole_mem) y

/-- The stores of case A into buffer s2 cover it. -/
theorem coverA_s2 (hO : Ok m) (hH : Hyps m hO) (c : Dev nD) (t : Fin (cfgM m hO).N) (h0 : t.val % 16 = 0) (h1 : ¬t.val % 16 = 15) (y : S4x96x384.Idx) :
    ∃ pc ∈ (ptA m hO hH c t h0 h1).2.2.2.2.1, y ∈ pc.1.set := by
  exact View.cover_of_tiledL (ptA m hO hH c t h0 h1).2.2.2.2.1 S1x32x384.size (by sl_kernel_rfl) y

/-- The stores of case B into buffer 10 cover it. -/
theorem coverB_10 (hO : Ok m) (hH : Hyps m hO) (c : Dev nD) (t : Fin (cfgM m hO).N) (h0 : ¬t.val % 16 = 0) (h1 : ¬t.val % 16 = 15) (xs0 : Vec F S2048x1536 .f32) (xs1 : Vec F S4x32x384 .f32) (xs2 : Vec F S4x96x384 .bf16) (y : S5x32x512.Idx) :
    ∃ pc ∈ (ptB m hO hH c t h0 h1 xs0 xs1 xs2).1, y ∈ pc.1.set := by
  exact View.cover_of_wholeMem _ (by sl_whole_mem) y

/-- The stores of case B into buffer s0 cover it. -/
theorem coverB_s0 (hO : Ok m) (hH : Hyps m hO) (c : Dev nD) (t : Fin (cfgM m hO).N) (h0 : ¬t.val % 16 = 0) (h1 : ¬t.val % 16 = 15) (xs0 : Vec F S2048x1536 .f32) (xs1 : Vec F S4x32x384 .f32) (xs2 : Vec F S4x96x384 .bf16) (y : S2048x1536.Idx) :
    ∃ pc ∈ (ptB m hO hH c t h0 h1 xs0 xs1 xs2).2.1, y ∈ pc.1.set := by
  exact View.cover_of_wholeMem _ (by sl_whole_mem) y

/-- The stores of case B into buffer s1 cover it. -/
theorem coverB_s1 (hO : Ok m) (hH : Hyps m hO) (c : Dev nD) (t : Fin (cfgM m hO).N) (h0 : ¬t.val % 16 = 0) (h1 : ¬t.val % 16 = 15) (xs0 : Vec F S2048x1536 .f32) (xs1 : Vec F S4x32x384 .f32) (xs2 : Vec F S4x96x384 .bf16) (y : S4x32x384.Idx) :
    ∃ pc ∈ (ptB m hO hH c t h0 h1 xs0 xs1 xs2).2.2.1, y ∈ pc.1.set := by
  exact View.cover_of_tiledL (ptB m hO hH c t h0 h1 xs0 xs1 xs2).2.2.1 S1x32x384.size (by sl_kernel_rfl) y

/-- The stores of case C into buffer 8 cover it. -/
theorem coverC_8 (hO : Ok m) (hH : Hyps m hO) (c : Dev nD) (t : Fin (cfgM m hO).N) (h0 : ¬t.val % 16 = 0) (h1 : t.val % 16 = 15) (xs0 : Vec F S2048x1536 .f32) (xs1 : Vec F S4x32x384 .f32) (xs2 : Vec F S4x96x384 .bf16) (y : S1536x2048.Idx) :
    ∃ pc ∈ (ptC m hO hH c t h0 h1 xs0 xs1 xs2).1, y ∈ pc.1.set := by
  exact View.cover_of_tiledL (ptC m hO hH c t h0 h1 xs0 xs1 xs2).1 S384x2048.size (by sl_kernel_rfl) y

/-- The stores of case C into buffer 9 cover it. -/
theorem coverC_9 (hO : Ok m) (hH : Hyps m hO) (c : Dev nD) (t : Fin (cfgM m hO).N) (h0 : ¬t.val % 16 = 0) (h1 : t.val % 16 = 15) (xs0 : Vec F S2048x1536 .f32) (xs1 : Vec F S4x32x384 .f32) (xs2 : Vec F S4x96x384 .bf16) (y : S5x32x2048.Idx) :
    ∃ pc ∈ (ptC m hO hH c t h0 h1 xs0 xs1 xs2).2.1, y ∈ pc.1.set := by
  exact View.cover_of_wholeMem _ (by sl_whole_mem) y

/-- The stores of case C into buffer 10 cover it. -/
theorem coverC_10 (hO : Ok m) (hH : Hyps m hO) (c : Dev nD) (t : Fin (cfgM m hO).N) (h0 : ¬t.val % 16 = 0) (h1 : t.val % 16 = 15) (xs0 : Vec F S2048x1536 .f32) (xs1 : Vec F S4x32x384 .f32) (xs2 : Vec F S4x96x384 .bf16) (y : S5x32x512.Idx) :
    ∃ pc ∈ (ptC m hO hH c t h0 h1 xs0 xs1 xs2).2.2.1, y ∈ pc.1.set := by
  exact View.cover_of_wholeMem _ (by sl_whole_mem) y

/-- The stores of case C into buffer 11 cover it. -/
theorem coverC_11 (hO : Ok m) (hH : Hyps m hO) (c : Dev nD) (t : Fin (cfgM m hO).N) (h0 : ¬t.val % 16 = 0) (h1 : t.val % 16 = 15) (xs0 : Vec F S2048x1536 .f32) (xs1 : Vec F S4x32x384 .f32) (xs2 : Vec F S4x96x384 .bf16) (y : S4x32x384.Idx) :
    ∃ pc ∈ (ptC m hO hH c t h0 h1 xs0 xs1 xs2).2.2.2.1, y ∈ pc.1.set := by
  exact View.cover_of_tiledL (ptC m hO hH c t h0 h1 xs0 xs1 xs2).2.2.2.1 S1x32x384.size (by sl_kernel_rfl) y

/-- The stores of case C into buffer s0 cover it. -/
theorem coverC_s0 (hO : Ok m) (hH : Hyps m hO) (c : Dev nD) (t : Fin (cfgM m hO).N) (h0 : ¬t.val % 16 = 0) (h1 : t.val % 16 = 15) (xs0 : Vec F S2048x1536 .f32) (xs1 : Vec F S4x32x384 .f32) (xs2 : Vec F S4x96x384 .bf16) (y : S2048x1536.Idx) :
    ∃ pc ∈ (ptC m hO hH c t h0 h1 xs0 xs1 xs2).2.2.2.2.1, y ∈ pc.1.set := by
  exact View.cover_of_wholeMem _ (by sl_whole_mem) y

set_option maxHeartbeats 2000000 in
/-- The stores of case C into buffer s1 cover it. -/
theorem coverC_s1 (hO : Ok m) (hH : Hyps m hO) (c : Dev nD) (t : Fin (cfgM m hO).N) (h0 : ¬t.val % 16 = 0) (h1 : t.val % 16 = 15) (xs0 : Vec F S2048x1536 .f32) (xs1 : Vec F S4x32x384 .f32) (xs2 : Vec F S4x96x384 .bf16) (y : S4x32x384.Idx) :
    ∃ pc ∈ (ptC m hO hH c t h0 h1 xs0 xs1 xs2).2.2.2.2.2.1, y ∈ pc.1.set := by
  exact View.cover_of_tiledL (ptC m hO hH c t h0 h1 xs0 xs1 xs2).2.2.2.2.2.1 S1x32x384.size (by sl_kernel_rfl) y

/-! ## What the scratch holds after each point -/

/-- What the three scratch buffers (the accumulated product, the accumulated low-rank product, the low-rank image of the
    activations) hold after the first point, -/
def stA (hO : Ok m) (hH : Hyps m hO) (c : Dev nD) (t : Fin (cfgM m hO).N) (h0 : t.val % 16 = 0) (h1 : ¬t.val % 16 = 15) : Vec F S2048x1536 .f32 × Vec F S4x32x384 .f32 × Vec F S4x96x384 .bf16 :=
  (View.canon (ptA m hO hH c t h0 h1).2.2.1, View.canon (ptA m hO hH c t h0 h1).2.2.2.1, View.canon (ptA m hO hH c t h0 h1).2.2.2.2.1)
/-- after a point between the first and the last, over what they held before it, -/
def stB (hO : Ok m) (hH : Hyps m hO) (c : Dev nD) (t : Fin (cfgM m hO).N) (h0 : ¬t.val % 16 = 0) (h1 : ¬t.val % 16 = 15) (s : Vec F S2048x1536 .f32 × Vec F S4x32x384 .f32 × Vec F S4x96x384 .bf16) : Vec F S2048x1536 .f32 × Vec F S4x32x384 .f32 × Vec F S4x96x384 .bf16 :=
  (View.canon (ptB m hO hH c t h0 h1 s.1 s.2.1 s.2.2).2.1, View.canon (ptB m hO hH c t h0 h1 s.1 s.2.1 s.2.2).2.2.1, s.2.2)
/-- and after the last point. -/
def stC (hO : Ok m) (hH : Hyps m hO) (c : Dev nD) (t : Fin (cfgM m hO).N) (h0 : ¬t.val % 16 = 0) (h1 : t.val % 16 = 15) (s : Vec F S2048x1536 .f32 × Vec F S4x32x384 .f32 × Vec F S4x96x384 .bf16) : Vec F S2048x1536 .f32 × Vec F S4x32x384 .f32 × Vec F S4x96x384 .bf16 :=
  (View.canon (ptC m hO hH c t h0 h1 s.1 s.2.1 s.2.2).2.2.2.2.1, View.canon (ptC m hO hH c t h0 h1 s.1 s.2.1 s.2.2).2.2.2.2.2.1, s.2.2)

/-- What the three scratch buffers hold after the body at position `n`. -/
def st (hO : Ok m) (hH : Hyps m hO) (c : Dev nD) : (n : ℕ) → n < (cfgM m hO).N → Vec F S2048x1536 .f32 × Vec F S4x32x384 .f32 × Vec F S4x96x384 .bf16
  | 0, hn => stA m hO hH c ⟨0, hn⟩ (Nat.zero_mod _) (by show ¬0 % 16 = 15; decide)
  | n + 1, hn =>
    if h0 : (n + 1) % 16 = 0 then
      st hO hH c n (Nat.lt_of_succ_lt hn)
    else
      if h1 : (n + 1) % 16 = 15 then stC m hO hH c ⟨n + 1, hn⟩ h0 h1 (st hO hH c n (Nat.lt_of_succ_lt hn))
      else stB m hO hH c ⟨n + 1, hn⟩ h0 h1 (st hO hH c n (Nat.lt_of_succ_lt hn))

/-- The scratch before point `t` (that is not the first): what the point before left. -/
abbrev stp (hO : Ok m) (hH : Hyps m hO) (c : Dev nD) (t : Fin (cfgM m hO).N) :=
  st m hO hH c (t.val - 1) (Nat.lt_of_le_of_lt (Nat.sub_le _ _) t.isLt)

theorem st_A (hO : Ok m) (hH : Hyps m hO) (c : Dev nD) (t : Fin (cfgM m hO).N) (h0 : t.val % 16 = 0) (h1 : ¬t.val % 16 = 15) :
    st m hO hH c t.val t.isLt = stA m hO hH c t h0 h1 := by
  obtain ⟨n, hn⟩ := t
  have hN : n < 16 := lt_of_lt_of_eq hn (show (cfgM m hO).N = 16 from N_0)
  cases n with
  | zero => rfl
  | succ n => exfalso; dsimp only at h0; omega

theorem st_B (hO : Ok m) (hH : Hyps m hO) (c : Dev nD) (t : Fin (cfgM m hO).N) (h0 : ¬t.val % 16 = 0) (h1 : ¬t.val % 16 = 15) :
    st m hO hH c t.val t.isLt = stB m hO hH c t h0 h1 (stp m hO hH c t) := by
  obtain ⟨n, hn⟩ := t
  have hN : n < 16 := lt_of_lt_of_eq hn (show (cfgM m hO).N = 16 from N_0)
  cases n with
  | zero => exact absurd (Nat.zero_mod _) h0
  | succ n => exact (dif_neg h0).trans (dif_neg h1)

theorem st_C (hO : Ok m) (hH : Hyps m hO) (c : Dev nD) (t : Fin (cfgM m hO).N) (h0 : ¬t.val % 16 = 0) (h1 : t.val % 16 = 15) :
    st m hO hH c t.val t.isLt = stC m hO hH c t h0 h1 (stp m hO hH c t) := by
  obtain ⟨n, hn⟩ := t
  have hN : n < 16 := lt_of_lt_of_eq hn (show (cfgM m hO).N = 16 from N_0)
  cases n with
  | zero => exact absurd (Nat.zero_mod _) h0
  | succ n => exact (dif_neg h0).trans (dif_pos h1)

/-! ## What the output buffers hold after each point -/

/-- The first and the last grid point. -/
abbrev tFst (hO : Ok m) : Fin (cfgM m hO).N := ⟨0, (by rw [show (cfgM m hO).N = 16 from N_0]; decide)⟩
abbrev tLst (hO : Ok m) : Fin (cfgM m hO).N := ⟨15, (by rw [show (cfgM m hO).N = 16 from N_0]; decide)⟩

/-- The run at the last point, over what the point before left in the scratch. -/
abbrev ptLst (hO : Ok m) (hH : Hyps m hO) (c : Dev nD) :=
  ptC m hO hH c (tLst m hO) (by show ¬15 % 16 = 0; decide) (by show 15 % 16 = 15; decide) (stp m hO hH c (tLst m hO)).1 (stp m hO hH c (tLst m hO)).2.1 (stp m hO hH c (tLst m hO)).2.2

/-- The block of the gradient of the activations that the last point leaves, -/
def out8 (hO : Ok m) (hH : Hyps m hO) (c : Dev nD) : Vec F S1536x2048 .bf16 := View.canon (ptLst m hO hH c).1
/-- the gradient of the first low-rank factors, -/
def out9 (hO : Ok m) (hH : Hyps m hO) (c : Dev nD) : Vec F S5x32x2048 .f32 := View.canon (ptLst m hO hH c).2.1
/-- the scaled low-rank image of the output gradient, -/
def out11 (hO : Ok m) (hH : Hyps m hO) (c : Dev nD) : Vec F S4x32x384 .f32 := View.canon (ptLst m hO hH c).2.2.2.1
/-- the low-rank image of the activations that the first point leaves, -/
def out12 (hO : Ok m) (hH : Hyps m hO) (c : Dev nD) : Vec F S4x32x384 .f32 :=
  View.canon (ptA m hO hH c (tFst m hO) (Nat.zero_mod _) (by show ¬0 % 16 = 15; decide)).2.1
/-- and the block of the gradient of the second low-rank factors that point `t` leaves. -/
def out10 (hO : Ok m) (hH : Hyps m hO) (c : Dev nD) (t : Fin (cfgM m hO).N) : Vec F S5x32x512 .f32 :=
  if h0 : t.val % 16 = 0 then
    if h1 : t.val % 16 = 15 then View.canon []
    else View.canon (ptA m hO hH c t h0 h1).1
  else
    if h1 : t.val % 16 = 15 then View.canon (ptC m hO hH c t h0 h1 (stp m hO hH c t).1 (stp m hO hH c t).2.1 (stp m hO hH c t).2.2).2.2.1
    else View.canon (ptB m hO hH c t h0 h1 (stp m hO hH c t).1 (stp m hO hH c t).2.1 (stp m hO hH c t).2.2).1

theorem out10_A (hO : Ok m) (hH : Hyps m hO) (c : Dev nD) (t : Fin (cfgM m hO).N) (h0 : t.val % 16 = 0) (h1 : ¬t.val % 16 = 15) : out10 m hO hH c t = View.canon (ptA m hO hH c t h0 h1).1 := by
  unfold out10; rw [dif_pos h0, dif_neg h1]
theorem out10_B (hO : Ok m) (hH : Hyps m hO) (c : Dev nD) (t : Fin (cfgM m hO).N) (h0 : ¬t.val % 16 = 0) (h1 : ¬t.val % 16 = 15) :
    out10 m hO hH c t = View.canon (ptB m hO hH c t h0 h1 (stp m hO hH c t).1 (stp m hO hH c t).2.1 (stp m hO hH c t).2.2).1 := by
  unfold out10; rw [dif_neg h0, dif_neg h1]
theorem out10_C (hO : Ok m) (hH : Hyps m hO) (c : Dev nD) (t : Fin (cfgM m hO).N) (h0 : ¬t.val % 16 = 0) (h1 : t.val % 16 = 15) :
    out10 m hO hH c t = View.canon (ptC m hO hH c t h0 h1 (stp m hO hH c t).1 (stp m hO hH c t).2.1 (stp m hO hH c t).2.2).2.2.1 := by
  unfold out10; rw [dif_neg h0, dif_pos h1]

end Cert.Kernel.Gen

end
-- ==== Proof.RunK.Body.lean ====
/- The run of the idealized program with the contents that its kernel leaves: the invariant of the grid, the body's triple at a
   point, the launch, and that the arguments end unchanged. -/
module

public import proofs.«01_k».proof.Proof.RunK.Data
public import Idealize.ShloMosaic.Lib.Pipeline.TableIdle
public import Idealize.ShloMosaic.Lib.Claim

@[expose] public section

set_option maxRecDepth 16384

noncomputable section

namespace Cert.Kernel.Gen

open Idealize.ShloMosaic Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ
attribute [local irreducible] ptA ptB ptC

/-- The region's invariant before position `n`: before the first point the scratch at anything; afterwards the scratch at
    what the point before left (`st`), and the generator register at some state. -/
def PhiS (hO : Ok m) (hH : Hyps m hO) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (st m hO hH c n hn).1 ∗ owns (c : Thread nD τ) scM0_1 fullShare (st m hO hH c n hn).2.1 ∗ owns (c : Thread nD τ) scM0_2 fullShare (st m hO hH c n hn).2.2) ∗ (∃ r, prngReg c r)) ∗ Pipeline.ΦT pre0 (tbl m) c)

theorem PhiS_zero (hO : Ok m) (hH : Hyps m hO) (c : Dev nD) (n : ℕ) (h : n ≤ (cfgM m hO).N) (hz : n = 0) : PhiS m hO hH c n h = iprop(Pipeline.ΦA spec0 c ∗ Pipeline.ΦT pre0 (tbl m) c) := by
  subst hz; rfl

theorem PhiS_succ (hO : Ok m) (hH : Hyps m hO) (c : Dev nD) (n : ℕ) (hn : n < (cfgM m hO).N) :
    PhiS m hO hH c (n + 1) hn = iprop(iprop(iprop(owns (c : Thread nD τ) scM0_0 fullShare (st m hO hH c n hn).1 ∗ owns (c : Thread nD τ) scM0_1 fullShare (st m hO hH c n hn).2.1 ∗ owns (c : Thread nD τ) scM0_2 fullShare (st m hO hH c n hn).2.2) ∗ (∃ r, prngReg c r)) ∗ Pipeline.ΦT pre0 (tbl m) c) := rfl

theorem PhiS_pos (hO : Ok m) (hH : Hyps m hO) (c : Dev nD) (n : ℕ) (h : n ≤ (cfgM m hO).N) (hz : n ≠ 0) :
    PhiS m hO hH c n h = iprop(iprop(iprop(owns (c : Thread nD τ) scM0_0 fullShare (st m hO hH c (n - 1) (by omega)).1 ∗ owns (c : Thread nD τ) scM0_1 fullShare (st m hO hH c (n - 1) (by omega)).2.1 ∗ owns (c : Thread nD τ) scM0_2 fullShare (st m hO hH c (n - 1) (by omega)).2.2) ∗ (∃ r, prngReg c r)) ∗ Pipeline.ΦT pre0 (tbl m) c) := by
  cases n with
  | zero => exact absurd rfl hz
  | succ n => rfl

/-- The proof data of the pipeline: the arrays as the region finds them; after the body at point `t` each input's buffer at its
    block and the outputs at what the body leaves; full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => out8 m hO hH c
    | ⟨9, _⟩ => out9 m hO hH c
    | ⟨10, _⟩ => out10 m hO hH c t
    | ⟨11, _⟩ => out11 m hO hH c
    | ⟨12, _⟩ => out12 m hO hH c
  Φ t := PhiS m hO hH c t.val (Nat.le_of_lt_succ t.isLt)
  q _ := fullShare
  owed _ := 0

theorem A_eq (hO : Ok m) (hH : Hyps m hO) (c : Dev nD) (w : Fin (cfgM m hO).W) : (dats m hO hH 0 c).A w = V m c (Pipeline.arrRef spec0 w) := by
  dsimp only [dats]

theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

/-- What the body leaves, window by window. -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = out8 m hO hH c := by dsimp only [dats]; try rfl
theorem after0_9 (hO : Ok m) (hH : Hyps m hO) (c : Dev nD) (t : Fin (cfgM m hO).N) : (dats m hO hH 0 c).after 9 t = out9 m hO hH c := by dsimp only [dats]; try rfl
theorem after0_10 (hO : Ok m) (hH : Hyps m hO) (c : Dev nD) (t : Fin (cfgM m hO).N) : (dats m hO hH 0 c).after 10 t = out10 m hO hH c t := by dsimp only [dats]; try rfl
theorem after0_11 (hO : Ok m) (hH : Hyps m hO) (c : Dev nD) (t : Fin (cfgM m hO).N) : (dats m hO hH 0 c).after 11 t = out11 m hO hH c := by dsimp only [dats]; try rfl
theorem after0_12 (hO : Ok m) (hH : Hyps m hO) (c : Dev nD) (t : Fin (cfgM m hO).N) : (dats m hO hH 0 c).after 12 t = out12 m hO hH c := by dsimp only [dats]; try rfl

/-- Each input's staging buffer holds its block at every point. -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d

/-! ## Where the output windows are idle -/

theorem idleAt_8 (hO : Ok m) (t : Fin (cfgM m hO).N) (h : ¬t.val % 16 = 15) : (cfgM m hO).idle 8 (grid0.coords t) = true := by
  have h' : ¬k0_cond2 (grid0.coords t) = 1#1 := fun e => h ((hcond0_1 t).mp e)
  show (!(k0_cond2 (grid0.coords t) == 1#1)) = true
  simp [h']
theorem liveAt_8 (hO : Ok m) (t : Fin (cfgM m hO).N) (h : t.val % 16 = 15) : (cfgM m hO).idle 8 (grid0.coords t) = false := by
  have h' : k0_cond2 (grid0.coords t) = 1#1 := (hcond0_1 t).mpr h
  show (!(k0_cond2 (grid0.coords t) == 1#1)) = false
  simp [h']
theorem idleAt_9 (hO : Ok m) (t : Fin (cfgM m hO).N) (h : ¬t.val % 16 = 15) : (cfgM m hO).idle 9 (grid0.coords t) = true := by
  have h' : ¬k0_cond2 (grid0.coords t) = 1#1 := fun e => h ((hcond0_1 t).mp e)
  show (!(k0_cond2 (grid0.coords t) == 1#1)) = true
  simp [h']
theorem liveAt_9 (hO : Ok m) (t : Fin (cfgM m hO).N) (h : t.val % 16 = 15) : (cfgM m hO).idle 9 (grid0.coords t) = false := by
  have h' : k0_cond2 (grid0.coords t) = 1#1 := (hcond0_1 t).mpr h
  show (!(k0_cond2 (grid0.coords t) == 1#1)) = false
  simp [h']
theorem idleAt_11 (hO : Ok m) (t : Fin (cfgM m hO).N) (h : ¬t.val % 16 = 15) : (cfgM m hO).idle 11 (grid0.coords t) = true := by
  have h' : ¬k0_cond2 (grid0.coords t) = 1#1 := fun e => h ((hcond0_1 t).mp e)
  show (!(k0_cond2 (grid0.coords t) == 1#1)) = true
  simp [h']
theorem liveAt_11 (hO : Ok m) (t : Fin (cfgM m hO).N) (h : t.val % 16 = 15) : (cfgM m hO).idle 11 (grid0.coords t) = false := by
  have h' : k0_cond2 (grid0.coords t) = 1#1 := (hcond0_1 t).mpr h
  show (!(k0_cond2 (grid0.coords t) == 1#1)) = false
  simp [h']
theorem idleAt_12 (hO : Ok m) (t : Fin (cfgM m hO).N) (h : ¬t.val % 16 = 0) : (cfgM m hO).idle 12 (grid0.coords t) = true := by
  have h' : ¬k0_cond1 (grid0.coords t) = 1#1 := fun e => h ((hcond0_0 t).mp e)
  show (!(k0_cond1 (grid0.coords t) == 1#1)) = true
  simp [h']
theorem liveAt_12 (hO : Ok m) (t : Fin (cfgM m hO).N) (h : t.val % 16 = 0) : (cfgM m hO).idle 12 (grid0.coords t) = false := by
  have h' : k0_cond1 (grid0.coords t) = 1#1 := (hcond0_0 t).mpr h
  show (!(k0_cond1 (grid0.coords t) == 1#1)) = false
  simp [h']
theorem noFlush_8 (hO : Ok m) (t : Fin (cfgM m hO).N) (h : ¬t.val % 16 = 15) : ((cfgM m hO).win 8).flush t = false :=
  Bool.eq_false_iff.mpr fun e => h ((flush0_8 (adm m hO) t).mp e)
theorem noFlush_9 (hO : Ok m) (t : Fin (cfgM m hO).N) (h : ¬t.val % 16 = 15) : ((cfgM m hO).win 9).flush t = false :=
  Bool.eq_false_iff.mpr fun e => h ((flush0_9 (adm m hO) t).mp e)
theorem noFlush_11 (hO : Ok m) (t : Fin (cfgM m hO).N) (h : ¬t.val % 16 = 15) : ((cfgM m hO).win 11).flush t = false :=
  Bool.eq_false_iff.mpr fun e => h ((flush0_11 (adm m hO) t).mp e)
theorem noFlush_12 (hO : Ok m) (t : Fin (cfgM m hO).N) (h : ¬t.val % 16 = 15) : ((cfgM m hO).win 12).flush t = false :=
  Bool.eq_false_iff.mpr fun e => h ((flush0_12 (adm m hO) t).mp e)
theorem fresh_12 (hO : Ok m) : ∀ n : ℕ, n ≤ 15 → n ≠ 0 → (cfgM m hO).fresh 12 n = false
  | 0, _, h => absurd rfl h
  | n + 1, hn, _ => by
    have hN : n < (cfgM m hO).N := by rw [show (cfgM m hO).N = 16 from N_0]; omega
    rw [Pipeline.Cfg.fresh_succ (cfgM m hO) 12 n hN, noFlush_12 m hO ⟨n, hN⟩ (by show ¬n % 16 = 15; omega)]
    by_cases hz : n = 0
    · subst hz; rw [liveAt_12 m hO ⟨0, hN⟩ rfl]; rfl
    · rw [fresh_12 hO n (by omega) hz, Bool.and_false]; rfl

theorem before0_12 (hO : Ok m) (hH : Hyps m hO) (c : Dev nD) (t : Fin (cfgM m hO).N) (ht : t.val ≠ 0) (d) : (dats m hO hH 0 c).before 12 t d = out12 m hO hH c := by
  have hN : t.val < 16 := lt_of_lt_of_eq t.isLt (show (cfgM m hO).N = 16 from N_0)
  rw [(dats m hO hH 0 c).before_out_traj 12 rfl (fun _ _ => rfl) (fun _ _ _ _ => rfl) t.val t rfl d,
    fresh_12 m hO t.val (by omega) ht, if_neg Bool.false_ne_true, after0_12]

/-! ## The body obligation, at a generic point -/

/-- What the body is called with at point `t`, window by window, -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d))
    ∗ (∃ d, owns (c : Thread nD τ) (ms0_10 m hO t) fullShare ((dats m hO hH 0 c).before 10 t d))
    ∗ (∃ d, owns (c : Thread nD τ) (ms0_11 m hO t) fullShare ((dats m hO hH 0 c).before 11 t d))
    ∗ (∃ d, owns (c : Thread nD τ) (ms0_12 m hO t) fullShare ((dats m hO hH 0 c).before 12 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ (dats m hO hH 0 c).leavesExact 0 t
    ∗ (dats m hO hH 0 c).leavesExact 1 t
    ∗ (dats m hO hH 0 c).leavesExact 2 t
    ∗ (dats m hO hH 0 c).leavesExact 3 t
    ∗ (dats m hO hH 0 c).leavesExact 4 t
    ∗ (dats m hO hH 0 c).leavesExact 5 t
    ∗ (dats m hO hH 0 c).leavesExact 6 t
    ∗ (dats m hO hH 0 c).leavesExact 7 t
    ∗ (dats m hO hH 0 c).leavesExact 8 t
    ∗ (dats m hO hH 0 c).leavesExact 9 t
    ∗ (dats m hO hH 0 c).leavesExact 10 t
    ∗ (dats m hO hH 0 c).leavesExact 11 t
    ∗ (dats m hO hH 0 c).leavesExact 12 t)

theorem leaves_0 (hO : Ok m) (hH : Hyps m hO) (c : Dev nD) (t : Fin (cfgM m hO).N) : (dats m hO hH 0 c).leavesExact 0 t = owns (c : Thread nD τ) (ms0_0 m hO t) fullShare (iblk m hO c 0 t) := by
  rw [← after0_0]; unfold Dat.leavesExact; rw [show (cfgM m hO).idle 0 (grid0.coords t) = false from rfl]; try rfl
theorem leaves_1 (hO : Ok m) (hH : Hyps m hO) (c : Dev nD) (t : Fin (cfgM m hO).N) : (dats m hO hH 0 c).leavesExact 1 t = owns (c : Thread nD τ) (ms0_1 m hO t) fullShare (iblk m hO c 1 t) := by
  rw [← after0_1]; unfold Dat.leavesExact; rw [show (cfgM m hO).idle 1 (grid0.coords t) = false from rfl]; try rfl
theorem leaves_2 (hO : Ok m) (hH : Hyps m hO) (c : Dev nD) (t : Fin (cfgM m hO).N) : (dats m hO hH 0 c).leavesExact 2 t = owns (c : Thread nD τ) (ms0_2 m hO t) fullShare (iblk m hO c 2 t) := by
  rw [← after0_2]; unfold Dat.leavesExact; rw [show (cfgM m hO).idle 2 (grid0.coords t) = false from rfl]; try rfl
theorem leaves_3 (hO : Ok m) (hH : Hyps m hO) (c : Dev nD) (t : Fin (cfgM m hO).N) : (dats m hO hH 0 c).leavesExact 3 t = owns (c : Thread nD τ) (ms0_3 m hO t) fullShare (iblk m hO c 3 t) := by
  rw [← after0_3]; unfold Dat.leavesExact; rw [show (cfgM m hO).idle 3 (grid0.coords t) = false from rfl]; try rfl
theorem leaves_4 (hO : Ok m) (hH : Hyps m hO) (c : Dev nD) (t : Fin (cfgM m hO).N) : (dats m hO hH 0 c).leavesExact 4 t = owns (c : Thread nD τ) (ms0_4 m hO t) fullShare (iblk m hO c 4 t) := by
  rw [← after0_4]; unfold Dat.leavesExact; rw [show (cfgM m hO).idle 4 (grid0.coords t) = false from rfl]; try rfl
theorem leaves_5 (hO : Ok m) (hH : Hyps m hO) (c : Dev nD) (t : Fin (cfgM m hO).N) : (dats m hO hH 0 c).leavesExact 5 t = owns (c : Thread nD τ) (ms0_5 m hO t) fullShare (iblk m hO c 5 t) := by
  rw [← after0_5]; unfold Dat.leavesExact; rw [show (cfgM m hO).idle 5 (grid0.coords t) = false from rfl]; try rfl
theorem leaves_6 (hO : Ok m) (hH : Hyps m hO) (c : Dev nD) (t : Fin (cfgM m hO).N) : (dats m hO hH 0 c).leavesExact 6 t = owns (c : Thread nD τ) (ms0_6 m hO t) fullShare (iblk m hO c 6 t) := by
  rw [← after0_6]; unfold Dat.leavesExact; rw [show (cfgM m hO).idle 6 (grid0.coords t) = false from rfl]; try rfl
theorem leaves_7 (hO : Ok m) (hH : Hyps m hO) (c : Dev nD) (t : Fin (cfgM m hO).N) : (dats m hO hH 0 c).leavesExact 7 t = owns (c : Thread nD τ) (ms0_7 m hO t) fullShare (iblk m hO c 7 t) := by
  rw [← after0_7]; unfold Dat.leavesExact; rw [show (cfgM m hO).idle 7 (grid0.coords t) = false from rfl]; try rfl
theorem leaves_10 (hO : Ok m) (hH : Hyps m hO) (c : Dev nD) (t : Fin (cfgM m hO).N) : (dats m hO hH 0 c).leavesExact 10 t = owns (c : Thread nD τ) (ms0_10 m hO t) fullShare (out10 m hO hH c t) := by
  rw [← after0_10]; unfold Dat.leavesExact; rw [show (cfgM m hO).idle 10 (grid0.coords t) = false from rfl]; try rfl
theorem leaves_8 (hO : Ok m) (hH : Hyps m hO) (c : Dev nD) (t : Fin (cfgM m hO).N) (h : t.val % 16 = 15) : (dats m hO hH 0 c).leavesExact 8 t = owns (c : Thread nD τ) (ms0_8 m hO t) fullShare (out8 m hO hH c) := by
  rw [← after0_8 m hO hH c t]; unfold Dat.leavesExact; rw [liveAt_8 m hO t h]; try rfl
theorem leavesIdle_8 (hO : Ok m) (hH : Hyps m hO) (c : Dev nD) (t : Fin (cfgM m hO).N) (h : ¬t.val % 16 = 15) (h1 : ¬t.val % 16 = 15) :
    (dats m hO hH 0 c).leavesExact 8 t = iprop(∃ d, owns (c : Thread nD τ) (ms0_8 m hO t) fullShare ((dats m hO hH 0 c).before 8 t d)) :=
  (dats m hO hH 0 c).leavesExact_idle 8 t (idleAt_8 m hO t h) (noFlush_8 m hO t h1)
theorem leaves_9 (hO : Ok m) (hH : Hyps m hO) (c : Dev nD) (t : Fin (cfgM m hO).N) (h : t.val % 16 = 15) : (dats m hO hH 0 c).leavesExact 9 t = owns (c : Thread nD τ) (ms0_9 m hO t) fullShare (out9 m hO hH c) := by
  rw [← after0_9 m hO hH c t]; unfold Dat.leavesExact; rw [liveAt_9 m hO t h]; try rfl
theorem leavesIdle_9 (hO : Ok m) (hH : Hyps m hO) (c : Dev nD) (t : Fin (cfgM m hO).N) (h : ¬t.val % 16 = 15) (h1 : ¬t.val % 16 = 15) :
    (dats m hO hH 0 c).leavesExact 9 t = iprop(∃ d, owns (c : Thread nD τ) (ms0_9 m hO t) fullShare ((dats m hO hH 0 c).before 9 t d)) :=
  (dats m hO hH 0 c).leavesExact_idle 9 t (idleAt_9 m hO t h) (noFlush_9 m hO t h1)
theorem leaves_11 (hO : Ok m) (hH : Hyps m hO) (c : Dev nD) (t : Fin (cfgM m hO).N) (h : t.val % 16 = 15) : (dats m hO hH 0 c).leavesExact 11 t = owns (c : Thread nD τ) (ms0_11 m hO t) fullShare (out11 m hO hH c) := by
  rw [← after0_11 m hO hH c t]; unfold Dat.leavesExact; rw [liveAt_11 m hO t h]; try rfl
theorem leavesIdle_11 (hO : Ok m) (hH : Hyps m hO) (c : Dev nD) (t : Fin (cfgM m hO).N) (h : ¬t.val % 16 = 15) (h1 : ¬t.val % 16 = 15) :
    (dats m hO hH 0 c).leavesExact 11 t = iprop(∃ d, owns (c : Thread nD τ) (ms0_11 m hO t) fullShare ((dats m hO hH 0 c).before 11 t d)) :=
  (dats m hO hH 0 c).leavesExact_idle 11 t (idleAt_11 m hO t h) (noFlush_11 m hO t h1)
theorem leaves_12 (hO : Ok m) (hH : Hyps m hO) (c : Dev nD) (t : Fin (cfgM m hO).N) (h : t.val % 16 = 0) : (dats m hO hH 0 c).leavesExact 12 t = owns (c : Thread nD τ) (ms0_12 m hO t) fullShare (out12 m hO hH c) := by
  rw [← after0_12 m hO hH c t]; unfold Dat.leavesExact; rw [liveAt_12 m hO t h]; try rfl
theorem leavesIdle_12 (hO : Ok m) (hH : Hyps m hO) (c : Dev nD) (t : Fin (cfgM m hO).N) (h : ¬t.val % 16 = 0) (h1 : ¬t.val % 16 = 15) :
    (dats m hO hH 0 c).leavesExact 12 t = iprop(∃ d, owns (c : Thread nD τ) (ms0_12 m hO t) fullShare ((dats m hO hH 0 c).before 12 t d)) :=
  (dats m hO hH 0 c).leavesExact_idle 12 t (idleAt_12 m hO t h) (noFlush_12 m hO t h1)
theorem leavesLast_12 (hO : Ok m) (hH : Hyps m hO) (c : Dev nD) (t : Fin (cfgM m hO).N) (h : t.val % 16 = 15) : (dats m hO hH 0 c).leavesExact 12 t = owns (c : Thread nD τ) (ms0_12 m hO t) fullShare (out12 m hO hH c) := by
  rw [← after0_12 m hO hH c t]; unfold Dat.leavesExact
  rw [idleAt_12 m hO t (by omega)]; dsimp only
  rw [show ((cfgM m hO).win 12).flush t = true from (flush0_12 (adm m hO) t).mpr h]; try rfl

theorem out8_eq (hO : Ok m) (hH : Hyps m hO) (c : Dev nD) (t : Fin (cfgM m hO).N) (h0 : ¬t.val % 16 = 0) (h1 : t.val % 16 = 15) :
    out8 m hO hH c = View.canon (ptC m hO hH c t h0 h1 (stp m hO hH c t).1 (stp m hO hH c t).2.1 (stp m hO hH c t).2.2).1
    ∧ out9 m hO hH c = View.canon (ptC m hO hH c t h0 h1 (stp m hO hH c t).1 (stp m hO hH c t).2.1 (stp m hO hH c t).2.2).2.1
    ∧ out11 m hO hH c = View.canon (ptC m hO hH c t h0 h1 (stp m hO hH c t).1 (stp m hO hH c t).2.1 (stp m hO hH c t).2.2).2.2.2.1 := by
  obtain ⟨n, hn⟩ := t
  have hN : n < 16 := lt_of_lt_of_eq hn (show (cfgM m hO).N = 16 from N_0)
  have e : n = 15 := by dsimp only at h1; omega
  subst e
  unfold out8 out9 out11
  exact ⟨rfl, rfl, rfl⟩
theorem out12_eq (hO : Ok m) (hH : Hyps m hO) (c : Dev nD) (t : Fin (cfgM m hO).N) (h0 : t.val % 16 = 0) (h1 : ¬t.val % 16 = 15) : out12 m hO hH c = View.canon (ptA m hO hH c t h0 h1).2.1 := by
  obtain ⟨n, hn⟩ := t
  have hN : n < 16 := lt_of_lt_of_eq hn (show (cfgM m hO).N = 16 from N_0)
  have e : n = 0 := by dsimp only at h0; omega
  subst e
  unfold out12
  rfl

set_option maxHeartbeats 38400000 in
set_option maxRecDepth 131072 in
/-- The body at the first point: from the invariant and the staging buffers to the invariant after the point. -/
theorem sound_A (hO : Ok m) (hH : Hyps m hO) (c : Dev nD) (t : Fin (cfgM m hO).N) (h0 : t.val % 16 = 0) (h1 : ¬t.val % 16 = 15) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7]
  rw [show (dats m hO hH 0 c).owesAt () t.succ = (dats m hO hH 0 c).owesAt () t.castSucc from rfl]
  rw [show (dats m hO hH 0 c).Φ t.succ = PhiS m hO hH c (t.val + 1) t.isLt from rfl, PhiS_succ, PhiT0_eq]
  have hN : t.val < 16 := lt_of_lt_of_eq t.isLt (show (cfgM m hO).N = 16 from N_0)
  rw [leaves_0, leaves_1, leaves_2, leaves_3, leaves_4, leaves_5, leaves_6, leaves_7, leaves_10]
  have hz : t.val = 0 := by omega
  rw [PhiS_castSucc m hO hH c t, PhiS_zero m hO hH c _ _ hz, PhiT0_eq, PhiA0_eq]
  rw [leavesIdle_8 m hO hH c t h1 h1, leavesIdle_9 m hO hH c t h1 h1, leavesIdle_11 m hO hH c t h1 h1, leaves_12 m hO hH c t h0]
  rw [st_A m hO hH c t h0 h1, out10_A m hO hH c t h0 h1, out12_eq m hO hH c t h0 h1]
  unfold stA; dsimp only
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((ptA m hO hH c t h0 h1).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexists _; iexact H10
  isplitl [H12]; · iexists _; iexact H12
  isplitl [HS0]; · iexact HS0
  isplitl [HS1]; · iexact HS1
  isplitl [HS2]; · iexact HS2
  isplitl [HT0]; · iexact HT0
  iintro ⟨H0, H1, H2, H3, H4, H5, H6, H7, ⟨%e10, H10⟩, ⟨%e12, H12⟩, ⟨%eS0, HS0⟩, ⟨%eS1, HS1⟩, ⟨%eS2, HS2⟩, HT0⟩
  isplitl [HS0 HS1 HS2 Hg HT0]
  · isplitl [HS0 HS1 HS2 Hg]
    · isplitl [HS0 HS1 HS2]
      · isplitl [HS0]
        · unfold owns; iexists _; isplitr
          swap; · iexact HS0
          ipureintro; exact View.read_writes_eq_canon _ _ _ (coverA_s0 m hO hH c t h0 h1 )
        isplitl [HS1]
        · unfold owns; iexists _; isplitr
          swap; · iexact HS1
          ipureintro; exact View.read_writes_eq_canon _ _ _ (coverA_s1 m hO hH c t h0 h1 )
        unfold owns; iexists _; isplitr
        swap; · iexact HS2
        ipureintro; exact View.read_writes_eq_canon _ _ _ (coverA_s2 m hO hH c t h0 h1 )
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]
  · unfold owns; iexists _; isplitr
    swap; · iexact H10
    ipureintro; exact View.read_writes_eq_canon _ _ _ (coverA_10 m hO hH c t h0 h1 )
  isplitl [H11]; · iexists _; iexact H11
  unfold owns; iexists _; isplitr
  swap; · iexact H12
  ipureintro; exact View.read_writes_eq_canon _ _ _ (coverA_12 m hO hH c t h0 h1 )

set_option maxHeartbeats 38400000 in
set_option maxRecDepth 131072 in
/-- The body at a point between the first and the last: from the invariant and the staging buffers to the invariant after the point. -/
theorem sound_B (hO : Ok m) (hH : Hyps m hO) (c : Dev nD) (t : Fin (cfgM m hO).N) (h0 : ¬t.val % 16 = 0) (h1 : ¬t.val % 16 = 15) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7]
  rw [show (dats m hO hH 0 c).owesAt () t.succ = (dats m hO hH 0 c).owesAt () t.castSucc from rfl]
  rw [show (dats m hO hH 0 c).Φ t.succ = PhiS m hO hH c (t.val + 1) t.isLt from rfl, PhiS_succ, PhiT0_eq]
  have hN : t.val < 16 := lt_of_lt_of_eq t.isLt (show (cfgM m hO).N = 16 from N_0)
  rw [leaves_0, leaves_1, leaves_2, leaves_3, leaves_4, leaves_5, leaves_6, leaves_7, leaves_10]
  have hz : t.val ≠ 0 := by omega
  rw [PhiS_castSucc m hO hH c t, PhiS_pos m hO hH c _ _ hz, PhiT0_eq]
  rw [leavesIdle_8 m hO hH c t h1 h1, leavesIdle_9 m hO hH c t h1 h1, leavesIdle_11 m hO hH c t h1 h1, leavesIdle_12 m hO hH c t h0 h1]
  rw [st_B m hO hH c t h0 h1, out10_B m hO hH c t h0 h1]
  unfold stB; dsimp only
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((ptB m hO hH c t h0 h1 (stp m hO hH c t).1 (stp m hO hH c t).2.1 (stp m hO hH c t).2.2).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexists _; iexact H10
  isplitl [HS0]; · iexact HS0
  isplitl [HS1]; · iexact HS1
  isplitl [HS2]; · iexact HS2
  isplitl [HT0]; · iexact HT0
  iintro ⟨H0, H1, H2, H3, H4, H5, H6, H7, ⟨%e10, H10⟩, ⟨%eS0, HS0⟩, ⟨%eS1, HS1⟩, HS2, HT0⟩
  isplitl [HS0 HS1 HS2 Hg HT0]
  · isplitl [HS0 HS1 HS2 Hg]
    · isplitl [HS0 HS1 HS2]
      · isplitl [HS0]
        · unfold owns; iexists _; isplitr
          swap; · iexact HS0
          ipureintro; exact View.read_writes_eq_canon _ _ _ (coverB_s0 m hO hH c t h0 h1 _ _ _)
        isplitl [HS1]
        · unfold owns; iexists _; isplitr
          swap; · iexact HS1
          ipureintro; exact View.read_writes_eq_canon _ _ _ (coverB_s1 m hO hH c t h0 h1 _ _ _)
        iexact HS2
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]
  · unfold owns; iexists _; isplitr
    swap; · iexact H10
    ipureintro; exact View.read_writes_eq_canon _ _ _ (coverB_10 m hO hH c t h0 h1 _ _ _)
  isplitl [H11]; · iexists _; iexact H11
  iexists _; iexact H12

set_option maxHeartbeats 38400000 in
set_option maxRecDepth 131072 in
/-- The body at the last point: from the invariant and the staging buffers to the invariant after the point. -/
theorem sound_C (hO : Ok m) (hH : Hyps m hO) (c : Dev nD) (t : Fin (cfgM m hO).N) (h0 : ¬t.val % 16 = 0) (h1 : t.val % 16 = 15) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7]
  rw [show (dats m hO hH 0 c).owesAt () t.succ = (dats m hO hH 0 c).owesAt () t.castSucc from rfl]
  rw [show (dats m hO hH 0 c).Φ t.succ = PhiS m hO hH c (t.val + 1) t.isLt from rfl, PhiS_succ, PhiT0_eq]
  have hN : t.val < 16 := lt_of_lt_of_eq t.isLt (show (cfgM m hO).N = 16 from N_0)
  rw [leaves_0, leaves_1, leaves_2, leaves_3, leaves_4, leaves_5, leaves_6, leaves_7, leaves_10]
  have hz : t.val ≠ 0 := by omega
  rw [PhiS_castSucc m hO hH c t, PhiS_pos m hO hH c _ _ hz, PhiT0_eq]
  simp only [before0_12 m hO hH c t hz]
  rw [leaves_8 m hO hH c t h1, leaves_9 m hO hH c t h1, leaves_11 m hO hH c t h1, leavesLast_12 m hO hH c t h1]
  rw [st_C m hO hH c t h0 h1, out10_C m hO hH c t h0 h1, (out8_eq m hO hH c t h0 h1).1, (out8_eq m hO hH c t h0 h1).2.1, (out8_eq m hO hH c t h0 h1).2.2]
  unfold stC; dsimp only
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((ptC m hO hH c t h0 h1 (stp m hO hH c t).1 (stp m hO hH c t).2.1 (stp m hO hH c t).2.2).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HT0]; · iexact HT0
  iintro ⟨H0, H1, H2, H3, H4, H5, H6, H7, ⟨%e8, H8⟩, ⟨%e9, H9⟩, ⟨%e10, H10⟩, ⟨%e11, H11⟩, ⟨%eS0, HS0⟩, ⟨%eS1, HS1⟩, HS2, HT0⟩
  isplitl [HS0 HS1 HS2 Hg HT0]
  · isplitl [HS0 HS1 HS2 Hg]
    · isplitl [HS0 HS1 HS2]
      · isplitl [HS0]
        · unfold owns; iexists _; isplitr
          swap; · iexact HS0
          ipureintro; exact View.read_writes_eq_canon _ _ _ (coverC_s0 m hO hH c t h0 h1 _ _ _)
        isplitl [HS1]
        · unfold owns; iexists _; isplitr
          swap; · iexact HS1
          ipureintro; exact View.read_writes_eq_canon _ _ _ (coverC_s1 m hO hH c t h0 h1 _ _ _)
        iexact HS2
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_eq_canon _ _ _ (coverC_8 m hO hH c t h0 h1 _ _ _)
  isplitl [H9]
  · unfold owns; iexists _; isplitr
    swap; · iexact H9
    ipureintro; exact View.read_writes_eq_canon _ _ _ (coverC_9 m hO hH c t h0 h1 _ _ _)
  isplitl [H10]
  · unfold owns; iexists _; isplitr
    swap; · iexact H10
    ipureintro; exact View.read_writes_eq_canon _ _ _ (coverC_10 m hO hH c t h0 h1 _ _ _)
  isplitl [H11]
  · unfold owns; iexists _; isplitr
    swap; · iexact H11
    ipureintro; exact View.read_writes_eq_canon _ _ _ (coverC_11 m hO hH c t h0 h1 _ _ _)
  iexact H12

/-- The body at any point. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  by_cases h0 : t.val % 16 = 0
  · exact sound_A m hO hH c t h0 (by omega)
  · by_cases h1 : t.val % 16 = 15
    · exact sound_C m hO hH c t h0 h1
    · exact sound_B m hO hH c t h0 h1

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation, at every point. -/
theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-- What the launch hands the region is the invariant before the first point. -/
theorem hin (hO : Ok m) (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

/-- After the last point the invariant gives the scratch back. -/
theorem hout (hO : Ok m) (hH : Hyps m hO) (c : Dev nD) : (dats m hO hH 0 c).Φ (Fin.last (cfgM m hO).N) ⊢ Pipeline.ΦA spec0 c := by
  have ht : (Fin.last (cfgM m hO).N).val ≠ 0 := by rw [Fin.val_last]; have : (cfgM m hO).N = 16 := N_0; omega
  rw [show (dats m hO hH 0 c).Φ (Fin.last (cfgM m hO).N) = PhiS m hO hH c (Fin.last (cfgM m hO).N).val (Nat.le_of_lt_succ (Fin.last (cfgM m hO).N).isLt) from rfl, PhiS_pos m hO hH c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

/-- What @main leaves: every array of the pipeline and every other buffer, after the region and the host lines behind it. -/
abbrev Post (hO : Ok m) (hH : Hyps m hO) := Pipeline.FramePost (Pipeline.pin pcfgs fun _ => adm m hO) (dats m hO hH) (0 : Fin 1) (Pipeline.afterTail pcfgs (fun _ => adm m hO) (dats m hO hH) (0 : Fin 1) (V0 m) [hostOps1])

set_option backward.isDefEq.respectTransparency.types false in
set_option maxHeartbeats 800000 in
/-- THE LAUNCH: every weakly fair execution of @main terminates, at the contents of `Post` and every semaphore at zero. -/
theorem run_main_quiescent (hO : Ok m) (hH : Hyps m hO) : θ_run defs (onTc (τ := τ) (main (F := F))) (s₀ m ρ) (fun r => Post m hO hH r ∧ r.2.sem = fun _ => 0) :=
  Pipeline.θ_run_frameP_around_track (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO hH) (hpf := V_pre m) (hin := hin m hO hH) (hout := hout m hO hH)

end Cert.Kernel.Gen

end
-- ==== Proof.RunK.Frame.lean ====
/- The frame of a run: the argument arrays end as they were launched and every semaphore is free. -/
module

public import proofs.«01_k».proof.Proof.RunK.Body
public import Idealize.ShloMosaic.Lib.Pipeline.ValueKit

@[expose] public section

set_option maxRecDepth 16384

noncomputable section

namespace Cert.Kernel.Gen

open Idealize.ShloMosaic Idealize.ShloMosaic.TcCoe Idealize.SL.Sem

variable {F : FTy → Type} [FloatOps F]
variable (m : (ℓ : Loc nD τ sig) → Buf (Elt F) ℓ) (ρ : Dev nD → PrngReg)

/-- What the run ends in keeps every argument array as it was launched. -/
theorem args_of_post (hO : Ok m) (hH : Hyps m hO) {r} (h : Post m hO hH r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(Pipeline.FramePost.rest_eq h c main_arg0 (by decide : main_arg0 ∈ Pipeline.restRefs sig spec0)).trans (W_main_arg0 m hO (dats m hO hH) c),
    (Pipeline.FramePost.rest_eq h c main_arg1 (by decide : main_arg1 ∈ Pipeline.restRefs sig spec0)).trans (W_main_arg1 m hO (dats m hO hH) c),
    (Pipeline.FramePost.rest_eq h c main_arg2 (by decide : main_arg2 ∈ Pipeline.restRefs sig spec0)).trans (W_main_arg2 m hO (dats m hO hH) c),
    (Pipeline.FramePost.rest_eq h c main_arg3 (by decide : main_arg3 ∈ Pipeline.restRefs sig spec0)).trans (W_main_arg3 m hO (dats m hO hH) c),
    (Pipeline.FramePost.in_eq h c 4 rfl).trans ((A_eq m hO hH c 4).trans (V_main_arg4 m c)),
    (Pipeline.FramePost.rest_eq h c main_arg5 (by decide : main_arg5 ∈ Pipeline.restRefs sig spec0)).trans (W_main_arg5 m hO (dats m hO hH) c),
    (Pipeline.FramePost.rest_eq h c main_arg6 (by decide : main_arg6 ∈ Pipeline.restRefs sig spec0)).trans (W_main_arg6 m hO (dats m hO hH) c),
    (Pipeline.FramePost.in_eq h c 7 rfl).trans ((A_eq m hO hH c 7).trans (V_main_arg7 m c)),
    (Pipeline.FramePost.rest_eq h c main_arg8 (by decide : main_arg8 ∈ Pipeline.restRefs sig spec0)).trans (W_main_arg8 m hO (dats m hO hH) c)⟩

/-- From any memory whose prefetched words satisfy what the body assumes of them, every run ends, with the argument arrays
    as launched and every semaphore free. -/
theorem frame (hO : Ok m) (hH : Hyps m hO) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨args_of_post m hO hH h.1, h.2⟩) (run_main_quiescent m ρ hO hH)

end Cert.Kernel.Gen

end
-- ==== Proof.Pre.lean ====
/- The precondition read back: what `in_range` says of the adapter indices. -/
module

public import proofs.«01_k».proof.Pre_in_range
public import Idealize.ShloMosaic.Lib.ReduceAll

@[expose] public section

set_option maxRecDepth 16384

noncomputable section

namespace Cert.Pre

open Idealize.ShloMosaic

/-- The side conditions that the precondition's operations state. -/
theorem facts_in_range : Cert.Pre_in_range.Facts := ⟨by decide, by decide, by decide⟩

/-- A word that is at least zero and below five, as signed words, is below five as a natural number. -/
theorem lt_of_cmp (v : BitVec 32) (h : IntOp.andi (IntOp.cmpi .sge v 0#32) (IntOp.cmpi .slt v 5#32) = 1#1) : v.toNat < 5 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true] at h
  obtain ⟨hge, hlt⟩ := h
  simp only [BitVec.sle, BitVec.slt, decide_eq_true_eq, BitVec.toInt, BitVec.toNat_ofNat] at hge hlt
  omega

/-- `in_range` bounds every word of `adapter_ids` below five. -/
theorem ids_lt [Cert.Pre_in_range.Facts] {F : FTy → Type} [FloatOps F] {x xs dy dys w ws a b ids}
    (h : Cert.Pre_in_range.fn (F := F) x xs dy dys w ws a b ids = fun _ => 1#1) (y : Cert.Pre_in_range.S4.Idx) : (ids y).toNat < 5 := by
  unfold Cert.Pre_in_range.fn at h
  have e := congrFun h (fun a => a.elim0)
  have : Subsingleton Cert.Pre_in_range.S_.Idx := ⟨fun _ _ => funext fun a => a.elim0⟩
  exact lt_of_cmp _ (Host.reduce_andi_all _ _ _ _ _ e y)

end Cert.Pre

end
-- ==== Proof.RunK.Words.lean ====
/- The adapter indices and the side conditions that the kernel's body assumes of them: the precondition says that each of the
   four words of `adapter_ids` names one of the five adapters, and a word below five keeps each assumed slab access inside its array. -/
module

public import proofs.«01_k».proof.Proof.RunK.Frame
public import proofs.«01_k».proof.Proof.Pre

@[expose] public section

set_option maxRecDepth 16384

noncomputable section

namespace Cert.Kernel.Words

open Idealize.ShloMosaic Idealize.ShloMosaic.TcCoe Cert.Kernel.Gen

variable {F : FTy → Type} [FloatOps F]
variable (m : (ℓ : Loc nD τ sig) → Buf (Elt F) ℓ)

/-- Of every prefetched contents the pipeline's side condition holds: no index map reads the table. -/
theorem ok : Ok m := trivial

/-- The prefetched table is the argument array `adapter_ids` as launched. -/
theorem tbl_eq : (tbl m 0 : S4.Idx → BitVec 32) = (m (((0 : Dev nD).tc : Thread nD τ).loc main_arg8) : S4.Idx → BitVec 32) :=
  V_main_arg8 m 0

/-- A word that the body reads from the table is one of the table's words. -/
theorem readAt_lt (f : tbM0_0.view.ty.Contents (Elt F)) (h : ∀ y : S4.Idx, ((f : S4.Idx → BitVec 32) y).toNat < 5) (R : LoadRect S4) (y : R.shape.Idx) :
    (tbM0_0.view.readAt (Elt F) R f y).toNat < 5 := by
  rw [View.readAt_apply]
  exact h _

/-- A word below five keeps each of the body's slab accesses inside its array. -/
theorem hyps (h : ∀ y : S4.Idx, ((tbl m 0 : S4.Idx → BitVec 32) y).toNat < 5) : Hyps m (ok m) := by
  have rd := fun R y => readAt_lt (F := F) (tbl m 0) h R y
  have inb : ∀ (v : BitVec 32) (k l : ℕ), v.toNat < 5 → ∀ a, (![v.toNat, 0, 0] : Fin 3 → ℕ) a + (![1, k, l] : Fin 3 → ℕ) a ≤ (![5, k, l] : Fin 3 → ℕ) a := by
    intro v k l hv a
    match a with
    | 0 => exact hv
    | 1 => exact le_of_eq (Nat.zero_add _)
    | 2 => exact le_of_eq (Nat.zero_add _)
  refine Hyps.of ?_ ?_ ?_ ?_ ?_ ?_ ?_ ?_ ?_ ?_ ?_ ?_ ?_ ?_ ?_ ?_ ?_ ?_ ?_ ?_ <;> intro c t <;>
    first
    | exact inb _ _ _ (rd _ _)
    | exact fun _ => inb _ _ _ (rd _ _)
    | exact fun _ _ => inb _ _ _ (rd _ _)

/-- The precondition implies the side conditions that the body assumes. -/
theorem hyps_of_pre [Cert.Pre_in_range.Facts] {x xs dy dys w ws a b}
    (h : Cert.Pre_in_range.fn (F := F) x xs dy dys w ws a b (m (((0 : Dev nD).tc : Thread nD τ).loc main_arg8)) = fun _ => 1#1) : Hyps m (ok m) :=
  hyps m fun y => by rw [tbl_eq]; exact Cert.Pre.ids_lt h y

end Cert.Kernel.Words

end
-- ==== Proof.Run.Points.lean ====
/- The schedule of the idealized kernel's pipeline: at which grid points each window is fetched and written back, the current
   staging buffers at a point, and the kernel's body as the pipeline calls it there. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%2)) is fetched at the first point only, at any contents of the tables (its index map reads none). -/
theorem fetch0_0 (a : (pcfg0 (F := F)).Adm) : ∀ t : Fin (cfg0 a).N, ((cfg0 a).win 0).fetch t = true ↔ t.val % 16 = 0 :=
  (fun t => Pipeline.Window.fetchOf_const cc0_transform_0 (fun _ _ => rfl) (n := 16) (by decide) t : ∀ t : Fin grid0.N, Pipeline.Window.fetchOf grid0 false cc0_transform_0 t = true ↔ t.val % 16 = 0)
/-- Window 1 (operand 2 (%3)) is fetched at the first point only, at any contents of the tables (its index map reads none). -/
theorem fetch0_1 (a : (pcfg0 (F := F)).Adm) : ∀ t : Fin (cfg0 a).N, ((cfg0 a).win 1).fetch t = true ↔ t.val % 16 = 0 :=
  (fun t => Pipeline.Window.fetchOf_const cc0_transform_1 (fun _ _ => rfl) (n := 16) (by decide) t : ∀ t : Fin grid0.N, Pipeline.Window.fetchOf grid0 false cc0_transform_1 t = true ↔ t.val % 16 = 0)
/-- Window 2 (operand 3 (%4)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 1 (fun _ => rfl) (by decide)) (P := 1) (by decide) t).mpr (Nat.mod_one _) : ∀ t : Fin grid0.N, Pipeline.Window.fetchOf grid0 false cc0_transform_2 t = true)
/-- Window 3 (operand 4 (%5)) is fetched at the first point only, at any contents of the tables (its index map reads none). -/
theorem fetch0_3 (a : (pcfg0 (F := F)).Adm) : ∀ t : Fin (cfg0 a).N, ((cfg0 a).win 3).fetch t = true ↔ t.val % 16 = 0 :=
  (fun t => Pipeline.Window.fetchOf_const cc0_transform_3 (fun _ _ => rfl) (n := 16) (by decide) t : ∀ t : Fin grid0.N, Pipeline.Window.fetchOf grid0 false cc0_transform_3 t = true ↔ t.val % 16 = 0)
/-- Window 4 (operand 5 (%arg4)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 1 (fun _ => rfl) (by decide)) (P := 1) (by decide) t).mpr (Nat.mod_one _) : ∀ t : Fin grid0.N, Pipeline.Window.fetchOf grid0 false cc0_transform_4 t = true)
/-- Window 5 (operand 6 (%6)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 1 (fun _ => rfl) (by decide)) (P := 1) (by decide) t).mpr (Nat.mod_one _) : ∀ t : Fin grid0.N, Pipeline.Window.fetchOf grid0 false cc0_transform_5 t = true)
/-- Window 6 (operand 7 (%7)) is fetched at the first point only, at any contents of the tables (its index map reads none). -/
theorem fetch0_6 (a : (pcfg0 (F := F)).Adm) : ∀ t : Fin (cfg0 a).N, ((cfg0 a).win 6).fetch t = true ↔ t.val % 16 = 0 :=
  (fun t => Pipeline.Window.fetchOf_const cc0_transform_6 (fun _ _ => rfl) (n := 16) (by decide) t : ∀ t : Fin grid0.N, Pipeline.Window.fetchOf grid0 false cc0_transform_6 t = true ↔ t.val % 16 = 0)
/-- Window 7 (operand 8 (%arg7)) is fetched at every point, at any contents of the tables (its index map reads none). -/
theorem fetch0_7 (a : (pcfg0 (F := F)).Adm) : ∀ t : Fin (cfg0 a).N, ((cfg0 a).win 7).fetch t = true :=
  (fun t => (Pipeline.Window.fetchOf_reads cc0_transform_7 reads0_7 hreads0_7 0 (by decide) (by decide) (Pipeline.Window.sep_of_coord cc0_transform_7 0 2 (fun _ => rfl) (by decide)) (P := 1) (by decide) t).mpr (Nat.mod_one _) : ∀ t : Fin grid0.N, Pipeline.Window.fetchOf grid0 false cc0_transform_7 t = true)
/-- Window 8 (result 0 (%8#0)) is written back at the last point only, at any contents of the tables (its index map reads none). -/
theorem flush0_8 (a : (pcfg0 (F := F)).Adm) : ∀ t : Fin (cfg0 a).N, ((cfg0 a).win 8).flush t = true ↔ t.val % 16 = 15 :=
  (fun t => Pipeline.Window.flushOf_const cc0_transform_8 (fun _ _ => rfl) (n := 16) (by decide) rfl t : ∀ t : Fin grid0.N, Pipeline.Window.flushOf grid0 true cc0_transform_8 t = true ↔ t.val % 16 = 15)
/-- Window 9 (result 1 (%8#1)) is written back at the last point only, at any contents of the tables (its index map reads none). -/
theorem flush0_9 (a : (pcfg0 (F := F)).Adm) : ∀ t : Fin (cfg0 a).N, ((cfg0 a).win 9).flush t = true ↔ t.val % 16 = 15 :=
  (fun t => Pipeline.Window.flushOf_const cc0_transform_9 (fun _ _ => rfl) (n := 16) (by decide) rfl t : ∀ t : Fin grid0.N, Pipeline.Window.flushOf grid0 true cc0_transform_9 t = true ↔ t.val % 16 = 15)
/-- Window 10 (result 2 (%8#2)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 0 (by decide) (by decide) (Pipeline.Window.sep_of_coord cc0_transform_10 0 2 (fun _ => rfl) (by decide)) (P := 1) (m := 0) (by decide) rfl t).mpr (Nat.mod_one _) : ∀ t : Fin grid0.N, Pipeline.Window.flushOf grid0 true cc0_transform_10 t = true)
/-- Window 11 (result 3 (%8#3)) is written back at the last point only, at any contents of the tables (its index map reads none). -/
theorem flush0_11 (a : (pcfg0 (F := F)).Adm) : ∀ t : Fin (cfg0 a).N, ((cfg0 a).win 11).flush t = true ↔ t.val % 16 = 15 :=
  (fun t => Pipeline.Window.flushOf_const cc0_transform_11 (fun _ _ => rfl) (n := 16) (by decide) rfl t : ∀ t : Fin grid0.N, Pipeline.Window.flushOf grid0 true cc0_transform_11 t = true ↔ t.val % 16 = 15)
/-- Window 12 (result 4 (%8#4)) is written back at the last point only, at any contents of the tables (its index map reads none). -/
theorem flush0_12 (a : (pcfg0 (F := F)).Adm) : ∀ t : Fin (cfg0 a).N, ((cfg0 a).win 12).flush t = true ↔ t.val % 16 = 15 :=
  (fun t => Pipeline.Window.flushOf_const cc0_transform_12 (fun _ _ => rfl) (n := 16) (by decide) rfl t : ∀ t : Fin grid0.N, Pipeline.Window.flushOf grid0 true cc0_transform_12 t = true ↔ t.val % 16 = 15)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_lora_bwd (grid0.coords t) (Memref.whole main_arg8) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _)

end Cert.KernelIdeal.Gen

end
-- ==== Proof.Run.Kit.lean ====
/- What the runs of the idealized kernel's body share: @main around the region, the prefetched table, the windows' blocks, the
   body's branch conditions, the idle points, the staging and scratch memrefs, and the side conditions assumed of the table. -/
module

public import proofs.«01_k».proof.Proof.Gen.KernelIdeal.Launch
public import proofs.«01_k».proof.Proof.Gen.KernelIdeal.Skeleton
public import proofs.«01_k».proof.Proof.Run.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v10, main_v11, main_v12, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4 .i32 := Memref.whole main_arg8
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg8`: it ends as launched. -/
theorem W_main_arg8 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg8 = m ((c : Thread nD τ).loc main_arg8) := by
  unfold Pipeline.afterTail
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0 \ T0)).trans (V_main_arg0 m c),
      ((h c).2 main_arg1 (by decide : main_arg1 ∈ Pipeline.restRefs sig spec0 \ T0)).trans (V_main_arg1 m c),
      ((h c).2 main_arg2 (by decide : main_arg2 ∈ Pipeline.restRefs sig spec0 \ T0)).trans (V_main_arg2 m c),
      ((h c).2 main_arg3 (by decide : main_arg3 ∈ Pipeline.restRefs sig spec0 \ T0)).trans (V_main_arg3 m c),
      (Pipeline.RDat.FramePostR.arr_in h c 4 rfl).trans ((hA c 4).trans (V_main_arg4 m c)),
      ((h c).2 main_arg5 (by decide : main_arg5 ∈ Pipeline.restRefs sig spec0 \ T0)).trans (V_main_arg5 m c),
      ((h c).2 main_arg6 (by decide : main_arg6 ∈ Pipeline.restRefs sig spec0 \ T0)).trans (V_main_arg6 m c),
      (Pipeline.RDat.FramePostR.arr_in h c 7 rfl).trans ((hA c 7).trans (V_main_arg7 m c)),
      ((h c).2 main_arg8 (by decide : main_arg8 ∈ Pipeline.restRefs sig spec0 \ T0)).trans (V_main_arg8 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin grid0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1536x2048 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1536 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1536x512 .fp8e5m2 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1536 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S2048x512 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x512 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S5x32x2048 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S5x32x512 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1536x2048 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S5x32x2048 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S5x32x512 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S4x32x384 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S4x32x384 .f32 := spec0_12.stage ((cfgM m hO).slots t 12)
abbrev hs0_12 (hO : Ok m) (t : Fin (cfgM m hO).N) : (ms0_12 m hO t).IsWhole := hstage0_12 (((cfgM m hO).slots t 12).cast nbuf0_12)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    (cond0_0 (grid0.coords t) → k0_chk1 (grid0.coords t) (tbM0_0.view.readAt (Elt F) (Rect.unit (s := S4) ![0] S1.size inb_S4_S1_0).toLoadRect (tbl m 0) (Shape.Idx.first (numel1_S1.symm ▸ Nat.one_pos))))
    ∧ (cond0_0 (grid0.coords t) → k0_chk2 (grid0.coords t) (tbM0_0.view.readAt (Elt F) (Rect.unit (s := S4) ![1] S1.size inb_S4_S1_1).toLoadRect (tbl m 0) (Shape.Idx.first (numel1_S1.symm ▸ Nat.one_pos))))
    ∧ (cond0_0 (grid0.coords t) → k0_chk3 (grid0.coords t) (tbM0_0.view.readAt (Elt F) (Rect.unit (s := S4) ![2] S1.size inb_S4_S1_2).toLoadRect (tbl m 0) (Shape.Idx.first (numel1_S1.symm ▸ Nat.one_pos))))
    ∧ (cond0_0 (grid0.coords t) → k0_chk4 (grid0.coords t) (tbM0_0.view.readAt (Elt F) (Rect.unit (s := S4) ![3] S1.size inb_S4_S1_3).toLoadRect (tbl m 0) (Shape.Idx.first (numel1_S1.symm ▸ Nat.one_pos))))
    ∧ k0_chk5 (tbM0_0.view.readAt (Elt F) (Rect.unit (s := S4) ![0] S1.size inb_S4_S1_0).toLoadRect (tbl m 0) (Shape.Idx.first (numel1_S1.symm ▸ Nat.one_pos)))
    ∧ k0_chk6 (tbM0_0.view.readAt (Elt F) (Rect.unit (s := S4) ![0] S1.size inb_S4_S1_0).toLoadRect (tbl m 0) (Shape.Idx.first (numel1_S1.symm ▸ Nat.one_pos)))
    ∧ k0_chk7 (tbM0_0.view.readAt (Elt F) (Rect.unit (s := S4) ![1] S1.size inb_S4_S1_1).toLoadRect (tbl m 0) (Shape.Idx.first (numel1_S1.symm ▸ Nat.one_pos)))
    ∧ k0_chk8 (tbM0_0.view.readAt (Elt F) (Rect.unit (s := S4) ![1] S1.size inb_S4_S1_1).toLoadRect (tbl m 0) (Shape.Idx.first (numel1_S1.symm ▸ Nat.one_pos)))
    ∧ k0_chk9 (tbM0_0.view.readAt (Elt F) (Rect.unit (s := S4) ![2] S1.size inb_S4_S1_2).toLoadRect (tbl m 0) (Shape.Idx.first (numel1_S1.symm ▸ Nat.one_pos)))
    ∧ k0_chk10 (tbM0_0.view.readAt (Elt F) (Rect.unit (s := S4) ![2] S1.size inb_S4_S1_2).toLoadRect (tbl m 0) (Shape.Idx.first (numel1_S1.symm ▸ Nat.one_pos)))
    ∧ k0_chk11 (tbM0_0.view.readAt (Elt F) (Rect.unit (s := S4) ![3] S1.size inb_S4_S1_3).toLoadRect (tbl m 0) (Shape.Idx.first (numel1_S1.symm ▸ Nat.one_pos)))
    ∧ k0_chk12 (tbM0_0.view.readAt (Elt F) (Rect.unit (s := S4) ![3] S1.size inb_S4_S1_3).toLoadRect (tbl m 0) (Shape.Idx.first (numel1_S1.symm ▸ Nat.one_pos)))
    ∧ (cond0_1 (grid0.coords t) → k0_chk13 (grid0.coords t) (tbM0_0.view.readAt (Elt F) (Rect.unit (s := S4) ![0] S1.size inb_S4_S1_0).toLoadRect (tbl m 0) (Shape.Idx.first (numel1_S1.symm ▸ Nat.one_pos))))
    ∧ (cond0_1 (grid0.coords t) → k0_chk14 (grid0.coords t) (tbM0_0.view.readAt (Elt F) (Rect.unit (s := S4) ![0] S1.size inb_S4_S1_0).toLoadRect (tbl m 0) (Shape.Idx.first (numel1_S1.symm ▸ Nat.one_pos))))
    ∧ (cond0_1 (grid0.coords t) → k0_chk15 (grid0.coords t) (tbM0_0.view.readAt (Elt F) (Rect.unit (s := S4) ![1] S1.size inb_S4_S1_1).toLoadRect (tbl m 0) (Shape.Idx.first (numel1_S1.symm ▸ Nat.one_pos))))
    ∧ (cond0_1 (grid0.coords t) → k0_chk16 (grid0.coords t) (tbM0_0.view.readAt (Elt F) (Rect.unit (s := S4) ![1] S1.size inb_S4_S1_1).toLoadRect (tbl m 0) (Shape.Idx.first (numel1_S1.symm ▸ Nat.one_pos))))
    ∧ (cond0_1 (grid0.coords t) → k0_chk17 (grid0.coords t) (tbM0_0.view.readAt (Elt F) (Rect.unit (s := S4) ![2] S1.size inb_S4_S1_2).toLoadRect (tbl m 0) (Shape.Idx.first (numel1_S1.symm ▸ Nat.one_pos))))
    ∧ (cond0_1 (grid0.coords t) → k0_chk18 (grid0.coords t) (tbM0_0.view.readAt (Elt F) (Rect.unit (s := S4) ![2] S1.size inb_S4_S1_2).toLoadRect (tbl m 0) (Shape.Idx.first (numel1_S1.symm ▸ Nat.one_pos))))
    ∧ (cond0_1 (grid0.coords t) → k0_chk19 (grid0.coords t) (tbM0_0.view.readAt (Elt F) (Rect.unit (s := S4) ![3] S1.size inb_S4_S1_3).toLoadRect (tbl m 0) (Shape.Idx.first (numel1_S1.symm ▸ Nat.one_pos))))
    ∧ (cond0_1 (grid0.coords t) → k0_chk20 (grid0.coords t) (tbM0_0.view.readAt (Elt F) (Rect.unit (s := S4) ![3] S1.size inb_S4_S1_3).toLoadRect (tbl m 0) (Shape.Idx.first (numel1_S1.symm ▸ Nat.one_pos))))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`, under the conditions of the branches it sits inside. -/
abbrev Hyps.p0 (m : (ℓ : Loc nD τ sig) → Buf (Elt F) ℓ) (hO : Ok m) (c : Dev nD) (t : Fin (cfgM m hO).N) : Prop :=
  (cond0_0 (grid0.coords t) → k0_chk1 (grid0.coords t) (tbM0_0.view.readAt (Elt F) (Rect.unit (s := S4) ![0] S1.size inb_S4_S1_0).toLoadRect (tbl m 0) (Shape.Idx.first (numel1_S1.symm ▸ Nat.one_pos))))
variable {m} in
theorem Hyps.c0 {hO : Ok m} (hH : Hyps m hO) (c : Dev nD) (t : Fin (cfgM m hO).N) :
    (cond0_0 (grid0.coords t) → k0_chk1 (grid0.coords t) (tbM0_0.view.readAt (Elt F) (Rect.unit (s := S4) ![0] S1.size inb_S4_S1_0).toLoadRect (tbl m 0) (Shape.Idx.first (numel1_S1.symm ▸ Nat.one_pos)))) := (hH c t).1
/-- Conjunct 1 of `Gen.Hyps` at point `t`: the side condition `k0_chk2` the body assumes as `k0_hw2`, under the conditions of the branches it sits inside. -/
abbrev Hyps.p1 (m : (ℓ : Loc nD τ sig) → Buf (Elt F) ℓ) (hO : Ok m) (c : Dev nD) (t : Fin (cfgM m hO).N) : Prop :=
  (cond0_0 (grid0.coords t) → k0_chk2 (grid0.coords t) (tbM0_0.view.readAt (Elt F) (Rect.unit (s := S4) ![1] S1.size inb_S4_S1_1).toLoadRect (tbl m 0) (Shape.Idx.first (numel1_S1.symm ▸ Nat.one_pos))))
variable {m} in
theorem Hyps.c1 {hO : Ok m} (hH : Hyps m hO) (c : Dev nD) (t : Fin (cfgM m hO).N) :
    (cond0_0 (grid0.coords t) → k0_chk2 (grid0.coords t) (tbM0_0.view.readAt (Elt F) (Rect.unit (s := S4) ![1] S1.size inb_S4_S1_1).toLoadRect (tbl m 0) (Shape.Idx.first (numel1_S1.symm ▸ Nat.one_pos)))) := (hH c t).2.1
/-- Conjunct 2 of `Gen.Hyps` at point `t`: the side condition `k0_chk3` the body assumes as `k0_hw3`, under the conditions of the branches it sits inside. -/
abbrev Hyps.p2 (m : (ℓ : Loc nD τ sig) → Buf (Elt F) ℓ) (hO : Ok m) (c : Dev nD) (t : Fin (cfgM m hO).N) : Prop :=
  (cond0_0 (grid0.coords t) → k0_chk3 (grid0.coords t) (tbM0_0.view.readAt (Elt F) (Rect.unit (s := S4) ![2] S1.size inb_S4_S1_2).toLoadRect (tbl m 0) (Shape.Idx.first (numel1_S1.symm ▸ Nat.one_pos))))
variable {m} in
theorem Hyps.c2 {hO : Ok m} (hH : Hyps m hO) (c : Dev nD) (t : Fin (cfgM m hO).N) :
    (cond0_0 (grid0.coords t) → k0_chk3 (grid0.coords t) (tbM0_0.view.readAt (Elt F) (Rect.unit (s := S4) ![2] S1.size inb_S4_S1_2).toLoadRect (tbl m 0) (Shape.Idx.first (numel1_S1.symm ▸ Nat.one_pos)))) := (hH c t).2.2.1
/-- Conjunct 3 of `Gen.Hyps` at point `t`: the side condition `k0_chk4` the body assumes as `k0_hw4`, under the conditions of the branches it sits inside. -/
abbrev Hyps.p3 (m : (ℓ : Loc nD τ sig) → Buf (Elt F) ℓ) (hO : Ok m) (c : Dev nD) (t : Fin (cfgM m hO).N) : Prop :=
  (cond0_0 (grid0.coords t) → k0_chk4 (grid0.coords t) (tbM0_0.view.readAt (Elt F) (Rect.unit (s := S4) ![3] S1.size inb_S4_S1_3).toLoadRect (tbl m 0) (Shape.Idx.first (numel1_S1.symm ▸ Nat.one_pos))))
variable {m} in
theorem Hyps.c3 {hO : Ok m} (hH : Hyps m hO) (c : Dev nD) (t : Fin (cfgM m hO).N) :
    (cond0_0 (grid0.coords t) → k0_chk4 (grid0.coords t) (tbM0_0.view.readAt (Elt F) (Rect.unit (s := S4) ![3] S1.size inb_S4_S1_3).toLoadRect (tbl m 0) (Shape.Idx.first (numel1_S1.symm ▸ Nat.one_pos)))) := (hH c t).2.2.2.1
/-- Conjunct 4 of `Gen.Hyps` at point `t`: the side condition `k0_chk5` the body assumes as `k0_hw5`. -/
abbrev Hyps.p4 (m : (ℓ : Loc nD τ sig) → Buf (Elt F) ℓ) (hO : Ok m) (c : Dev nD) (t : Fin (cfgM m hO).N) : Prop :=
  k0_chk5 (tbM0_0.view.readAt (Elt F) (Rect.unit (s := S4) ![0] S1.size inb_S4_S1_0).toLoadRect (tbl m 0) (Shape.Idx.first (numel1_S1.symm ▸ Nat.one_pos)))
variable {m} in
theorem Hyps.c4 {hO : Ok m} (hH : Hyps m hO) (c : Dev nD) (t : Fin (cfgM m hO).N) :
    k0_chk5 (tbM0_0.view.readAt (Elt F) (Rect.unit (s := S4) ![0] S1.size inb_S4_S1_0).toLoadRect (tbl m 0) (Shape.Idx.first (numel1_S1.symm ▸ Nat.one_pos))) := (hH c t).2.2.2.2.1
/-- Conjunct 5 of `Gen.Hyps` at point `t`: the side condition `k0_chk6` the body assumes as `k0_hw6`. -/
abbrev Hyps.p5 (m : (ℓ : Loc nD τ sig) → Buf (Elt F) ℓ) (hO : Ok m) (c : Dev nD) (t : Fin (cfgM m hO).N) : Prop :=
  k0_chk6 (tbM0_0.view.readAt (Elt F) (Rect.unit (s := S4) ![0] S1.size inb_S4_S1_0).toLoadRect (tbl m 0) (Shape.Idx.first (numel1_S1.symm ▸ Nat.one_pos)))
variable {m} in
theorem Hyps.c5 {hO : Ok m} (hH : Hyps m hO) (c : Dev nD) (t : Fin (cfgM m hO).N) :
    k0_chk6 (tbM0_0.view.readAt (Elt F) (Rect.unit (s := S4) ![0] S1.size inb_S4_S1_0).toLoadRect (tbl m 0) (Shape.Idx.first (numel1_S1.symm ▸ Nat.one_pos))) := (hH c t).2.2.2.2.2.1
/-- Conjunct 6 of `Gen.Hyps` at point `t`: the side condition `k0_chk7` the body assumes as `k0_hw7`. -/
abbrev Hyps.p6 (m : (ℓ : Loc nD τ sig) → Buf (Elt F) ℓ) (hO : Ok m) (c : Dev nD) (t : Fin (cfgM m hO).N) : Prop :=
  k0_chk7 (tbM0_0.view.readAt (Elt F) (Rect.unit (s := S4) ![1] S1.size inb_S4_S1_1).toLoadRect (tbl m 0) (Shape.Idx.first (numel1_S1.symm ▸ Nat.one_pos)))
variable {m} in
theorem Hyps.c6 {hO : Ok m} (hH : Hyps m hO) (c : Dev nD) (t : Fin (cfgM m hO).N) :
    k0_chk7 (tbM0_0.view.readAt (Elt F) (Rect.unit (s := S4) ![1] S1.size inb_S4_S1_1).toLoadRect (tbl m 0) (Shape.Idx.first (numel1_S1.symm ▸ Nat.one_pos))) := (hH c t).2.2.2.2.2.2.1
/-- Conjunct 7 of `Gen.Hyps` at point `t`: the side condition `k0_chk8` the body assumes as `k0_hw8`. -/
abbrev Hyps.p7 (m : (ℓ : Loc nD τ sig) → Buf (Elt F) ℓ) (hO : Ok m) (c : Dev nD) (t : Fin (cfgM m hO).N) : Prop :=
  k0_chk8 (tbM0_0.view.readAt (Elt F) (Rect.unit (s := S4) ![1] S1.size inb_S4_S1_1).toLoadRect (tbl m 0) (Shape.Idx.first (numel1_S1.symm ▸ Nat.one_pos)))
variable {m} in
theorem Hyps.c7 {hO : Ok m} (hH : Hyps m hO) (c : Dev nD) (t : Fin (cfgM m hO).N) :
    k0_chk8 (tbM0_0.view.readAt (Elt F) (Rect.unit (s := S4) ![1] S1.size inb_S4_S1_1).toLoadRect (tbl m 0) (Shape.Idx.first (numel1_S1.symm ▸ Nat.one_pos))) := (hH c t).2.2.2.2.2.2.2.1
/-- Conjunct 8 of `Gen.Hyps` at point `t`: the side condition `k0_chk9` the body assumes as `k0_hw9`. -/
abbrev Hyps.p8 (m : (ℓ : Loc nD τ sig) → Buf (Elt F) ℓ) (hO : Ok m) (c : Dev nD) (t : Fin (cfgM m hO).N) : Prop :=
  k0_chk9 (tbM0_0.view.readAt (Elt F) (Rect.unit (s := S4) ![2] S1.size inb_S4_S1_2).toLoadRect (tbl m 0) (Shape.Idx.first (numel1_S1.symm ▸ Nat.one_pos)))
variable {m} in
theorem Hyps.c8 {hO : Ok m} (hH : Hyps m hO) (c : Dev nD) (t : Fin (cfgM m hO).N) :
    k0_chk9 (tbM0_0.view.readAt (Elt F) (Rect.unit (s := S4) ![2] S1.size inb_S4_S1_2).toLoadRect (tbl m 0) (Shape.Idx.first (numel1_S1.symm ▸ Nat.one_pos))) := (hH c t).2.2.2.2.2.2.2.2.1
/-- Conjunct 9 of `Gen.Hyps` at point `t`: the side condition `k0_chk10` the body assumes as `k0_hw10`. -/
abbrev Hyps.p9 (m : (ℓ : Loc nD τ sig) → Buf (Elt F) ℓ) (hO : Ok m) (c : Dev nD) (t : Fin (cfgM m hO).N) : Prop :=
  k0_chk10 (tbM0_0.view.readAt (Elt F) (Rect.unit (s := S4) ![2] S1.size inb_S4_S1_2).toLoadRect (tbl m 0) (Shape.Idx.first (numel1_S1.symm ▸ Nat.one_pos)))
variable {m} in
theorem Hyps.c9 {hO : Ok m} (hH : Hyps m hO) (c : Dev nD) (t : Fin (cfgM m hO).N) :
    k0_chk10 (tbM0_0.view.readAt (Elt F) (Rect.unit (s := S4) ![2] S1.size inb_S4_S1_2).toLoadRect (tbl m 0) (Shape.Idx.first (numel1_S1.symm ▸ Nat.one_pos))) := (hH c t).2.2.2.2.2.2.2.2.2.1
/-- Conjunct 10 of `Gen.Hyps` at point `t`: the side condition `k0_chk11` the body assumes as `k0_hw11`. -/
abbrev Hyps.p10 (m : (ℓ : Loc nD τ sig) → Buf (Elt F) ℓ) (hO : Ok m) (c : Dev nD) (t : Fin (cfgM m hO).N) : Prop :=
  k0_chk11 (tbM0_0.view.readAt (Elt F) (Rect.unit (s := S4) ![3] S1.size inb_S4_S1_3).toLoadRect (tbl m 0) (Shape.Idx.first (numel1_S1.symm ▸ Nat.one_pos)))
variable {m} in
theorem Hyps.c10 {hO : Ok m} (hH : Hyps m hO) (c : Dev nD) (t : Fin (cfgM m hO).N) :
    k0_chk11 (tbM0_0.view.readAt (Elt F) (Rect.unit (s := S4) ![3] S1.size inb_S4_S1_3).toLoadRect (tbl m 0) (Shape.Idx.first (numel1_S1.symm ▸ Nat.one_pos))) := (hH c t).2.2.2.2.2.2.2.2.2.2.1
/-- Conjunct 11 of `Gen.Hyps` at point `t`: the side condition `k0_chk12` the body assumes as `k0_hw12`. -/
abbrev Hyps.p11 (m : (ℓ : Loc nD τ sig) → Buf (Elt F) ℓ) (hO : Ok m) (c : Dev nD) (t : Fin (cfgM m hO).N) : Prop :=
  k0_chk12 (tbM0_0.view.readAt (Elt F) (Rect.unit (s := S4) ![3] S1.size inb_S4_S1_3).toLoadRect (tbl m 0) (Shape.Idx.first (numel1_S1.symm ▸ Nat.one_pos)))
variable {m} in
theorem Hyps.c11 {hO : Ok m} (hH : Hyps m hO) (c : Dev nD) (t : Fin (cfgM m hO).N) :
    k0_chk12 (tbM0_0.view.readAt (Elt F) (Rect.unit (s := S4) ![3] S1.size inb_S4_S1_3).toLoadRect (tbl m 0) (Shape.Idx.first (numel1_S1.symm ▸ Nat.one_pos))) := (hH c t).2.2.2.2.2.2.2.2.2.2.2.1
/-- Conjunct 12 of `Gen.Hyps` at point `t`: the side condition `k0_chk13` the body assumes as `k0_hw13`, under the conditions of the branches it sits inside. -/
abbrev Hyps.p12 (m : (ℓ : Loc nD τ sig) → Buf (Elt F) ℓ) (hO : Ok m) (c : Dev nD) (t : Fin (cfgM m hO).N) : Prop :=
  (cond0_1 (grid0.coords t) → k0_chk13 (grid0.coords t) (tbM0_0.view.readAt (Elt F) (Rect.unit (s := S4) ![0] S1.size inb_S4_S1_0).toLoadRect (tbl m 0) (Shape.Idx.first (numel1_S1.symm ▸ Nat.one_pos))))
variable {m} in
theorem Hyps.c12 {hO : Ok m} (hH : Hyps m hO) (c : Dev nD) (t : Fin (cfgM m hO).N) :
    (cond0_1 (grid0.coords t) → k0_chk13 (grid0.coords t) (tbM0_0.view.readAt (Elt F) (Rect.unit (s := S4) ![0] S1.size inb_S4_S1_0).toLoadRect (tbl m 0) (Shape.Idx.first (numel1_S1.symm ▸ Nat.one_pos)))) := (hH c t).2.2.2.2.2.2.2.2.2.2.2.2.1
/-- Conjunct 13 of `Gen.Hyps` at point `t`: the side condition `k0_chk14` the body assumes as `k0_hw14`, under the conditions of the branches it sits inside. -/
abbrev Hyps.p13 (m : (ℓ : Loc nD τ sig) → Buf (Elt F) ℓ) (hO : Ok m) (c : Dev nD) (t : Fin (cfgM m hO).N) : Prop :=
  (cond0_1 (grid0.coords t) → k0_chk14 (grid0.coords t) (tbM0_0.view.readAt (Elt F) (Rect.unit (s := S4) ![0] S1.size inb_S4_S1_0).toLoadRect (tbl m 0) (Shape.Idx.first (numel1_S1.symm ▸ Nat.one_pos))))
variable {m} in
theorem Hyps.c13 {hO : Ok m} (hH : Hyps m hO) (c : Dev nD) (t : Fin (cfgM m hO).N) :
    (cond0_1 (grid0.coords t) → k0_chk14 (grid0.coords t) (tbM0_0.view.readAt (Elt F) (Rect.unit (s := S4) ![0] S1.size inb_S4_S1_0).toLoadRect (tbl m 0) (Shape.Idx.first (numel1_S1.symm ▸ Nat.one_pos)))) := (hH c t).2.2.2.2.2.2.2.2.2.2.2.2.2.1
/-- Conjunct 14 of `Gen.Hyps` at point `t`: the side condition `k0_chk15` the body assumes as `k0_hw15`, under the conditions of the branches it sits inside. -/
abbrev Hyps.p14 (m : (ℓ : Loc nD τ sig) → Buf (Elt F) ℓ) (hO : Ok m) (c : Dev nD) (t : Fin (cfgM m hO).N) : Prop :=
  (cond0_1 (grid0.coords t) → k0_chk15 (grid0.coords t) (tbM0_0.view.readAt (Elt F) (Rect.unit (s := S4) ![1] S1.size inb_S4_S1_1).toLoadRect (tbl m 0) (Shape.Idx.first (numel1_S1.symm ▸ Nat.one_pos))))
variable {m} in
theorem Hyps.c14 {hO : Ok m} (hH : Hyps m hO) (c : Dev nD) (t : Fin (cfgM m hO).N) :
    (cond0_1 (grid0.coords t) → k0_chk15 (grid0.coords t) (tbM0_0.view.readAt (Elt F) (Rect.unit (s := S4) ![1] S1.size inb_S4_S1_1).toLoadRect (tbl m 0) (Shape.Idx.first (numel1_S1.symm ▸ Nat.one_pos)))) := (hH c t).2.2.2.2.2.2.2.2.2.2.2.2.2.2.1
/-- Conjunct 15 of `Gen.Hyps` at point `t`: the side condition `k0_chk16` the body assumes as `k0_hw16`, under the conditions of the branches it sits inside. -/
abbrev Hyps.p15 (m : (ℓ : Loc nD τ sig) → Buf (Elt F) ℓ) (hO : Ok m) (c : Dev nD) (t : Fin (cfgM m hO).N) : Prop :=
  (cond0_1 (grid0.coords t) → k0_chk16 (grid0.coords t) (tbM0_0.view.readAt (Elt F) (Rect.unit (s := S4) ![1] S1.size inb_S4_S1_1).toLoadRect (tbl m 0) (Shape.Idx.first (numel1_S1.symm ▸ Nat.one_pos))))
variable {m} in
theorem Hyps.c15 {hO : Ok m} (hH : Hyps m hO) (c : Dev nD) (t : Fin (cfgM m hO).N) :
    (cond0_1 (grid0.coords t) → k0_chk16 (grid0.coords t) (tbM0_0.view.readAt (Elt F) (Rect.unit (s := S4) ![1] S1.size inb_S4_S1_1).toLoadRect (tbl m 0) (Shape.Idx.first (numel1_S1.symm ▸ Nat.one_pos)))) := (hH c t).2.2.2.2.2.2.2.2.2.2.2.2.2.2.2.1
/-- Conjunct 16 of `Gen.Hyps` at point `t`: the side condition `k0_chk17` the body assumes as `k0_hw17`, under the conditions of the branches it sits inside. -/
abbrev Hyps.p16 (m : (ℓ : Loc nD τ sig) → Buf (Elt F) ℓ) (hO : Ok m) (c : Dev nD) (t : Fin (cfgM m hO).N) : Prop :=
  (cond0_1 (grid0.coords t) → k0_chk17 (grid0.coords t) (tbM0_0.view.readAt (Elt F) (Rect.unit (s := S4) ![2] S1.size inb_S4_S1_2).toLoadRect (tbl m 0) (Shape.Idx.first (numel1_S1.symm ▸ Nat.one_pos))))
variable {m} in
theorem Hyps.c16 {hO : Ok m} (hH : Hyps m hO) (c : Dev nD) (t : Fin (cfgM m hO).N) :
    (cond0_1 (grid0.coords t) → k0_chk17 (grid0.coords t) (tbM0_0.view.readAt (Elt F) (Rect.unit (s := S4) ![2] S1.size inb_S4_S1_2).toLoadRect (tbl m 0) (Shape.Idx.first (numel1_S1.symm ▸ Nat.one_pos)))) := (hH c t).2.2.2.2.2.2.2.2.2.2.2.2.2.2.2.2.1
/-- Conjunct 17 of `Gen.Hyps` at point `t`: the side condition `k0_chk18` the body assumes as `k0_hw18`, under the conditions of the branches it sits inside. -/
abbrev Hyps.p17 (m : (ℓ : Loc nD τ sig) → Buf (Elt F) ℓ) (hO : Ok m) (c : Dev nD) (t : Fin (cfgM m hO).N) : Prop :=
  (cond0_1 (grid0.coords t) → k0_chk18 (grid0.coords t) (tbM0_0.view.readAt (Elt F) (Rect.unit (s := S4) ![2] S1.size inb_S4_S1_2).toLoadRect (tbl m 0) (Shape.Idx.first (numel1_S1.symm ▸ Nat.one_pos))))
variable {m} in
theorem Hyps.c17 {hO : Ok m} (hH : Hyps m hO) (c : Dev nD) (t : Fin (cfgM m hO).N) :
    (cond0_1 (grid0.coords t) → k0_chk18 (grid0.coords t) (tbM0_0.view.readAt (Elt F) (Rect.unit (s := S4) ![2] S1.size inb_S4_S1_2).toLoadRect (tbl m 0) (Shape.Idx.first (numel1_S1.symm ▸ Nat.one_pos)))) := (hH c t).2.2.2.2.2.2.2.2.2.2.2.2.2.2.2.2.2.1
/-- Conjunct 18 of `Gen.Hyps` at point `t`: the side condition `k0_chk19` the body assumes as `k0_hw19`, under the conditions of the branches it sits inside. -/
abbrev Hyps.p18 (m : (ℓ : Loc nD τ sig) → Buf (Elt F) ℓ) (hO : Ok m) (c : Dev nD) (t : Fin (cfgM m hO).N) : Prop :=
  (cond0_1 (grid0.coords t) → k0_chk19 (grid0.coords t) (tbM0_0.view.readAt (Elt F) (Rect.unit (s := S4) ![3] S1.size inb_S4_S1_3).toLoadRect (tbl m 0) (Shape.Idx.first (numel1_S1.symm ▸ Nat.one_pos))))
variable {m} in
theorem Hyps.c18 {hO : Ok m} (hH : Hyps m hO) (c : Dev nD) (t : Fin (cfgM m hO).N) :
    (cond0_1 (grid0.coords t) → k0_chk19 (grid0.coords t) (tbM0_0.view.readAt (Elt F) (Rect.unit (s := S4) ![3] S1.size inb_S4_S1_3).toLoadRect (tbl m 0) (Shape.Idx.first (numel1_S1.symm ▸ Nat.one_pos)))) := (hH c t).2.2.2.2.2.2.2.2.2.2.2.2.2.2.2.2.2.2.1
/-- Conjunct 19 of `Gen.Hyps` at point `t`: the side condition `k0_chk20` the body assumes as `k0_hw20`, under the conditions of the branches it sits inside. -/
abbrev Hyps.p19 (m : (ℓ : Loc nD τ sig) → Buf (Elt F) ℓ) (hO : Ok m) (c : Dev nD) (t : Fin (cfgM m hO).N) : Prop :=
  (cond0_1 (grid0.coords t) → k0_chk20 (grid0.coords t) (tbM0_0.view.readAt (Elt F) (Rect.unit (s := S4) ![3] S1.size inb_S4_S1_3).toLoadRect (tbl m 0) (Shape.Idx.first (numel1_S1.symm ▸ Nat.one_pos))))
variable {m} in
theorem Hyps.c19 {hO : Ok m} (hH : Hyps m hO) (c : Dev nD) (t : Fin (cfgM m hO).N) :
    (cond0_1 (grid0.coords t) → k0_chk20 (grid0.coords t) (tbM0_0.view.readAt (Elt F) (Rect.unit (s := S4) ![3] S1.size inb_S4_S1_3).toLoadRect (tbl m 0) (Shape.Idx.first (numel1_S1.symm ▸ Nat.one_pos)))) := (hH c t).2.2.2.2.2.2.2.2.2.2.2.2.2.2.2.2.2.2.2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t)
    (p2 : ∀ (c : Dev nD) (t : Fin (cfgM m hO).N), Hyps.p2 m hO c t)
    (p3 : ∀ (c : Dev nD) (t : Fin (cfgM m hO).N), Hyps.p3 m hO c t)
    (p4 : ∀ (c : Dev nD) (t : Fin (cfgM m hO).N), Hyps.p4 m hO c t)
    (p5 : ∀ (c : Dev nD) (t : Fin (cfgM m hO).N), Hyps.p5 m hO c t)
    (p6 : ∀ (c : Dev nD) (t : Fin (cfgM m hO).N), Hyps.p6 m hO c t)
    (p7 : ∀ (c : Dev nD) (t : Fin (cfgM m hO).N), Hyps.p7 m hO c t)
    (p8 : ∀ (c : Dev nD) (t : Fin (cfgM m hO).N), Hyps.p8 m hO c t)
    (p9 : ∀ (c : Dev nD) (t : Fin (cfgM m hO).N), Hyps.p9 m hO c t)
    (p10 : ∀ (c : Dev nD) (t : Fin (cfgM m hO).N), Hyps.p10 m hO c t)
    (p11 : ∀ (c : Dev nD) (t : Fin (cfgM m hO).N), Hyps.p11 m hO c t)
    (p12 : ∀ (c : Dev nD) (t : Fin (cfgM m hO).N), Hyps.p12 m hO c t)
    (p13 : ∀ (c : Dev nD) (t : Fin (cfgM m hO).N), Hyps.p13 m hO c t)
    (p14 : ∀ (c : Dev nD) (t : Fin (cfgM m hO).N), Hyps.p14 m hO c t)
    (p15 : ∀ (c : Dev nD) (t : Fin (cfgM m hO).N), Hyps.p15 m hO c t)
    (p16 : ∀ (c : Dev nD) (t : Fin (cfgM m hO).N), Hyps.p16 m hO c t)
    (p17 : ∀ (c : Dev nD) (t : Fin (cfgM m hO).N), Hyps.p17 m hO c t)
    (p18 : ∀ (c : Dev nD) (t : Fin (cfgM m hO).N), Hyps.p18 m hO c t)
    (p19 : ∀ (c : Dev nD) (t : Fin (cfgM m hO).N), Hyps.p19 m hO c t) :
    Hyps m hO := fun c t =>
  And.intro (p0 c t) (And.intro (p1 c t) (And.intro (p2 c t) (And.intro (p3 c t) (And.intro (p4 c t) (And.intro (p5 c t) (And.intro (p6 c t) (And.intro (p7 c t) (And.intro (p8 c t) (And.intro (p9 c t) (And.intro (p10 c t) (And.intro (p11 c t) (And.intro (p12 c t) (And.intro (p13 c t) (And.intro (p14 c t) (And.intro (p15 c t) (And.intro (p16 c t) (And.intro (p17 c t) (And.intro (p18 c t) (p19 c t)))))))))))))))))))

/-- The scratch operands: whole scoped buffers of the kernel's own, passed beside the windows. -/
abbrev scM0_0 : Memref sig .tc .vmem S2048x1536 .f32 := Memref.whole cc0_scratch0
abbrev scM0_1 : Memref sig .tc .vmem S4x32x384 .f32 := Memref.whole cc0_scratch1
abbrev scM0_2 : Memref sig .tc .vmem S4x96x384 .bf16 := Memref.whole cc0_scratch2
/-- The scratch `arg15` the kernel carries between points, as a view: what it holds is stated through it. -/
abbrev VS0_0 : View sig .tc .vmem S2048x1536 .f32 := scM0_0.view
/-- The scratch `arg16` the kernel carries between points, as a view: what it holds is stated through it. -/
abbrev VS0_1 : View sig .tc .vmem S4x32x384 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.Run.RunA.lean ====
/- The whole-body run of the idealized kernel at the first grid point. -/
module

public import proofs.«01_k».proof.Proof.Run.Kit

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- The body's run at the first grid point: on whole staging memrefs, the inputs at given contents and the carried scratch at what the
    point before left, it ends with every input unchanged and with the stores of each buffer that it writes at this point as
    pieces (last first). The pieces are the witness that the run finds. Buffers that the body leaves alone at this point are not named. -/
noncomputable def kernelRun0_A (c : Dev nD) (i : grid0.Coords) (arg2 : Memref sig .tc .vmem S1536x2048 .fp8e4m3) (harg2 : arg2.IsWhole) (arg3 : Memref sig .tc .vmem S1x1536 .f32) (harg3 : arg3.IsWhole) (arg4 : Memref sig .tc .vmem S1536x512 .fp8e5m2) (harg4 : arg4.IsWhole) (arg5 : Memref sig .tc .vmem S1x1536 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S5x32x2048 .bf16) (harg8 : arg8.IsWhole) (arg9 : Memref sig .tc .vmem S5x32x512 .bf16) (harg9 : arg9.IsWhole) (arg10 : Memref sig .tc .vmem S1536x2048 .bf16) (harg10 : arg10.IsWhole) (arg11 : Memref sig .tc .vmem S5x32x2048 .f32) (harg11 : arg11.IsWhole) (arg12 : Memref sig .tc .vmem S5x32x512 .f32) (harg12 : arg12.IsWhole) (arg13 : Memref sig .tc .vmem S4x32x384 .f32) (harg13 : arg13.IsWhole) (arg14 : Memref sig .tc .vmem S4x32x384 .f32) (harg14 : arg14.IsWhole) (arg15 : Memref sig .tc .vmem S2048x1536 .f32) (harg15 : arg15.IsWhole) (arg16 : Memref sig .tc .vmem S4x32x384 .f32) (harg16 : arg16.IsWhole) (arg17 : Memref sig .tc .vmem S4x96x384 .bf16) (harg17 : arg17.IsWhole) (hc0 : cond0_0 i) (hc1 : ¬cond0_1 i)
    (x0 : Vec F S1536x2048 .fp8e4m3) (x1 : Vec F S1x1536 .f32) (x2 : Vec F S1536x512 .fp8e5m2) (x3 : Vec F S1x1536 .f32) (x4 : Vec F S2048x512 .fp8e4m3) (x5 : Vec F S1x512 .f32) (x6 : Vec F S5x32x2048 .bf16) (x7 : Vec F S5x32x512 .bf16) (xt0 : TbBuf0 (F := F) c tbM0_0) (k0_hw1 : k0_chk1 i (tbM0_0.view.readAt (Elt F) (Rect.unit (s := S4) ![0] S1.size inb_S4_S1_0).toLoadRect xt0 (Shape.Idx.first (numel1_S1.symm ▸ Nat.one_pos)))) (k0_hw2 : k0_chk2 i (tbM0_0.view.readAt (Elt F) (Rect.unit (s := S4) ![1] S1.size inb_S4_S1_1).toLoadRect xt0 (Shape.Idx.first (numel1_S1.symm ▸ Nat.one_pos)))) (k0_hw3 : k0_chk3 i (tbM0_0.view.readAt (Elt F) (Rect.unit (s := S4) ![2] S1.size inb_S4_S1_2).toLoadRect xt0 (Shape.Idx.first (numel1_S1.symm ▸ Nat.one_pos)))) (k0_hw4 : k0_chk4 i (tbM0_0.view.readAt (Elt F) (Rect.unit (s := S4) ![3] S1.size inb_S4_S1_3).toLoadRect xt0 (Shape.Idx.first (numel1_S1.symm ▸ Nat.one_pos)))) (k0_hw5 : k0_chk5 (tbM0_0.view.readAt (Elt F) (Rect.unit (s := S4) ![0] S1.size inb_S4_S1_0).toLoadRect xt0 (Shape.Idx.first (numel1_S1.symm ▸ Nat.one_pos)))) (k0_hw6 : k0_chk6 (tbM0_0.view.readAt (Elt F) (Rect.unit (s := S4) ![0] S1.size inb_S4_S1_0).toLoadRect xt0 (Shape.Idx.first (numel1_S1.symm ▸ Nat.one_pos)))) (k0_hw7 : k0_chk7 (tbM0_0.view.readAt (Elt F) (Rect.unit (s := S4) ![1] S1.size inb_S4_S1_1).toLoadRect xt0 (Shape.Idx.first (numel1_S1.symm ▸ Nat.one_pos)))) (k0_hw8 : k0_chk8 (tbM0_0.view.readAt (Elt F) (Rect.unit (s := S4) ![1] S1.size inb_S4_S1_1).toLoadRect xt0 (Shape.Idx.first (numel1_S1.symm ▸ Nat.one_pos)))) (k0_hw9 : k0_chk9 (tbM0_0.view.readAt (Elt F) (Rect.unit (s := S4) ![2] S1.size inb_S4_S1_2).toLoadRect xt0 (Shape.Idx.first (numel1_S1.symm ▸ Nat.one_pos)))) (k0_hw10 : k0_chk10 (tbM0_0.view.readAt (Elt F) (Rect.unit (s := S4) ![2] S1.size inb_S4_S1_2).toLoadRect xt0 (Shape.Idx.first (numel1_S1.symm ▸ Nat.one_pos)))) (k0_hw11 : k0_chk11 (tbM0_0.view.readAt (Elt F) (Rect.unit (s := S4) ![3] S1.size inb_S4_S1_3).toLoadRect xt0 (Shape.Idx.first (numel1_S1.symm ▸ Nat.one_pos)))) (k0_hw12 : k0_chk12 (tbM0_0.view.readAt (Elt F) (Rect.unit (s := S4) ![3] S1.size inb_S4_S1_3).toLoadRect xt0 (Shape.Idx.first (numel1_S1.symm ▸ Nat.one_pos)))) :
    Σ' (L10 : List (View.Piece (Elt F) S5x32x512 .f32)) (L12 : List (View.Piece (Elt F) S4x32x384 .f32)) (LS0 : List (View.Piece (Elt F) S2048x1536 .f32)) (LS1 : List (View.Piece (Elt F) S4x32x384 .f32)), { LS2 : List (View.Piece (Elt F) S4x96x384 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg12 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg12.view.loc (c : Thread nD τ) ↦[arg12.view.set]{fullShare} arg12.view.writes (Elt F) f L10) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ tbPt0 c tbM0_0 xt0) -∗ K ⟨⟩))
          ⊢ wp frame (wpE (defs₀ (F := F)) Variants.none c none) E (cc0_lora_bwd i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_lora_bwd_eq_skeleton]; unfold cc0_lora_bwd_skel
    simp only [k0_part12_eq_skeleton, k0_part1_eq_skeleton, k0_part2_eq_skeleton, k0_part3_eq_skeleton, k0_part4_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%d12, %f12, -, H12⟩, ⟨%ds0, %fs0, -, Hs0⟩, ⟨%ds1, %fs1, -, Hs1⟩, ⟨%ds2, %fs2, -, Hs2⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H10]; · iexists _; iexact H10
    isplitl [H12]; · iexists _; iexact H12
    isplitl [Hs0]; · iexists _; iexact Hs0
    isplitl [Hs1]; · iexists _; iexact Hs1
    isplitl [Hs2]; · iexists _; iexact Hs2
    iexact HT0

end Cert.KernelIdeal.Gen

end
-- ==== Proof.Run.RunB.lean ====
/- The whole-body run of the idealized kernel at a grid point that is neither the first nor the last. -/
module

public import proofs.«01_k».proof.Proof.Run.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- The body's run at a grid point that is neither the first nor the last: on whole staging memrefs, the inputs at given contents and the carried scratch at what the
    point before left, it ends with every input unchanged and with the stores of each buffer that it writes at this point as
    pieces (last first). The pieces are the witness that the run finds. Buffers that the body leaves alone at this point are not named. -/
noncomputable def kernelRun0_B (c : Dev nD) (i : grid0.Coords) (arg2 : Memref sig .tc .vmem S1536x2048 .fp8e4m3) (harg2 : arg2.IsWhole) (arg3 : Memref sig .tc .vmem S1x1536 .f32) (harg3 : arg3.IsWhole) (arg4 : Memref sig .tc .vmem S1536x512 .fp8e5m2) (harg4 : arg4.IsWhole) (arg5 : Memref sig .tc .vmem S1x1536 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S5x32x2048 .bf16) (harg8 : arg8.IsWhole) (arg9 : Memref sig .tc .vmem S5x32x512 .bf16) (harg9 : arg9.IsWhole) (arg10 : Memref sig .tc .vmem S1536x2048 .bf16) (harg10 : arg10.IsWhole) (arg11 : Memref sig .tc .vmem S5x32x2048 .f32) (harg11 : arg11.IsWhole) (arg12 : Memref sig .tc .vmem S5x32x512 .f32) (harg12 : arg12.IsWhole) (arg13 : Memref sig .tc .vmem S4x32x384 .f32) (harg13 : arg13.IsWhole) (arg14 : Memref sig .tc .vmem S4x32x384 .f32) (harg14 : arg14.IsWhole) (arg15 : Memref sig .tc .vmem S2048x1536 .f32) (harg15 : arg15.IsWhole) (arg16 : Memref sig .tc .vmem S4x32x384 .f32) (harg16 : arg16.IsWhole) (arg17 : Memref sig .tc .vmem S4x96x384 .bf16) (harg17 : arg17.IsWhole) (hc0 : ¬cond0_0 i) (hc1 : ¬cond0_1 i)
    (x0 : Vec F S1536x2048 .fp8e4m3) (x1 : Vec F S1x1536 .f32) (x2 : Vec F S1536x512 .fp8e5m2) (x3 : Vec F S1x1536 .f32) (x4 : Vec F S2048x512 .fp8e4m3) (x5 : Vec F S1x512 .f32) (x6 : Vec F S5x32x2048 .bf16) (x7 : Vec F S5x32x512 .bf16) (xt0 : TbBuf0 (F := F) c tbM0_0) (xs0 : Vec F S2048x1536 .f32) (xs1 : Vec F S4x32x384 .f32) (xs2 : Vec F S4x96x384 .bf16) (k0_hw5 : k0_chk5 (tbM0_0.view.readAt (Elt F) (Rect.unit (s := S4) ![0] S1.size inb_S4_S1_0).toLoadRect xt0 (Shape.Idx.first (numel1_S1.symm ▸ Nat.one_pos)))) (k0_hw6 : k0_chk6 (tbM0_0.view.readAt (Elt F) (Rect.unit (s := S4) ![0] S1.size inb_S4_S1_0).toLoadRect xt0 (Shape.Idx.first (numel1_S1.symm ▸ Nat.one_pos)))) (k0_hw7 : k0_chk7 (tbM0_0.view.readAt (Elt F) (Rect.unit (s := S4) ![1] S1.size inb_S4_S1_1).toLoadRect xt0 (Shape.Idx.first (numel1_S1.symm ▸ Nat.one_pos)))) (k0_hw8 : k0_chk8 (tbM0_0.view.readAt (Elt F) (Rect.unit (s := S4) ![1] S1.size inb_S4_S1_1).toLoadRect xt0 (Shape.Idx.first (numel1_S1.symm ▸ Nat.one_pos)))) (k0_hw9 : k0_chk9 (tbM0_0.view.readAt (Elt F) (Rect.unit (s := S4) ![2] S1.size inb_S4_S1_2).toLoadRect xt0 (Shape.Idx.first (numel1_S1.symm ▸ Nat.one_pos)))) (k0_hw10 : k0_chk10 (tbM0_0.view.readAt (Elt F) (Rect.unit (s := S4) ![2] S1.size inb_S4_S1_2).toLoadRect xt0 (Shape.Idx.first (numel1_S1.symm ▸ Nat.one_pos)))) (k0_hw11 : k0_chk11 (tbM0_0.view.readAt (Elt F) (Rect.unit (s := S4) ![3] S1.size inb_S4_S1_3).toLoadRect xt0 (Shape.Idx.first (numel1_S1.symm ▸ Nat.one_pos)))) (k0_hw12 : k0_chk12 (tbM0_0.view.readAt (Elt F) (Rect.unit (s := S4) ![3] S1.size inb_S4_S1_3).toLoadRect xt0 (Shape.Idx.first (numel1_S1.symm ▸ Nat.one_pos)))) :
    Σ' (L10 : List (View.Piece (Elt F) S5x32x512 .f32)) (LS0 : List (View.Piece (Elt F) S2048x1536 .f32)), { LS1 : List (View.Piece (Elt F) S4x32x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg12 fullShare d) ∗ owns (c : Thread nD τ) arg15 fullShare xs0 ∗ owns (c : Thread nD τ) arg16 fullShare xs1 ∗ owns (c : Thread nD τ) arg17 fullShare xs2 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg12.view.loc (c : Thread nD τ) ↦[arg12.view.set]{fullShare} arg12.view.writes (Elt F) f L10) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ owns (c : Thread nD τ) arg17 fullShare xs2 ∗ tbPt0 c tbM0_0 xt0) -∗ K ⟨⟩))
          ⊢ wp frame (wpE (defs₀ (F := F)) Variants.none c none) E (cc0_lora_bwd i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_lora_bwd_eq_skeleton]; unfold cc0_lora_bwd_skel
    simp only [k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%fs0, %hfs0, Hs0⟩, ⟨%fs1, %hfs1, Hs1⟩, ⟨%fs2, %hfs2, Hs2⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg15.eq_unread hfs0; obtain rfl := harg16.eq_unread hfs1; obtain rfl := harg17.eq_unread hfs2
    sl_exec (disch := first | sl_exact hc0 | sl_exact hc1 | sl_exact k0_hw5 | sl_exact k0_hw6 | sl_exact k0_hw7 | sl_exact k0_hw8 | sl_exact k0_hw9 | sl_exact k0_hw10 | sl_exact k0_hw11 | sl_exact k0_hw12)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H10]; · iexists _; iexact H10
    isplitl [Hs0]; · iexists _; iexact Hs0
    isplitl [Hs1]; · iexists _; iexact Hs1
    isplitl [Hs2]
    · iexists _; isplitr; · ipureintro; exact harg17.read_unread _
      iexact Hs2
    iexact HT0

end Cert.KernelIdeal.Gen

end
-- ==== Proof.Run.RunC.lean ====
/- The whole-body run of the idealized kernel at the last grid point. -/
module

public import proofs.«01_k».proof.Proof.Run.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- The body's run at the last grid point: on whole staging memrefs, the inputs at given contents and the carried scratch at what the
    point before left, it ends with every input unchanged and with the stores of each buffer that it writes at this point as
    pieces (last first). The pieces are the witness that the run finds. Buffers that the body leaves alone at this point are not named. -/
noncomputable def kernelRun0_C (c : Dev nD) (i : grid0.Coords) (arg2 : Memref sig .tc .vmem S1536x2048 .fp8e4m3) (harg2 : arg2.IsWhole) (arg3 : Memref sig .tc .vmem S1x1536 .f32) (harg3 : arg3.IsWhole) (arg4 : Memref sig .tc .vmem S1536x512 .fp8e5m2) (harg4 : arg4.IsWhole) (arg5 : Memref sig .tc .vmem S1x1536 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S5x32x2048 .bf16) (harg8 : arg8.IsWhole) (arg9 : Memref sig .tc .vmem S5x32x512 .bf16) (harg9 : arg9.IsWhole) (arg10 : Memref sig .tc .vmem S1536x2048 .bf16) (harg10 : arg10.IsWhole) (arg11 : Memref sig .tc .vmem S5x32x2048 .f32) (harg11 : arg11.IsWhole) (arg12 : Memref sig .tc .vmem S5x32x512 .f32) (harg12 : arg12.IsWhole) (arg13 : Memref sig .tc .vmem S4x32x384 .f32) (harg13 : arg13.IsWhole) (arg14 : Memref sig .tc .vmem S4x32x384 .f32) (harg14 : arg14.IsWhole) (arg15 : Memref sig .tc .vmem S2048x1536 .f32) (harg15 : arg15.IsWhole) (arg16 : Memref sig .tc .vmem S4x32x384 .f32) (harg16 : arg16.IsWhole) (arg17 : Memref sig .tc .vmem S4x96x384 .bf16) (harg17 : arg17.IsWhole) (hc0 : ¬cond0_0 i) (hc1 : cond0_1 i)
    (x0 : Vec F S1536x2048 .fp8e4m3) (x1 : Vec F S1x1536 .f32) (x2 : Vec F S1536x512 .fp8e5m2) (x3 : Vec F S1x1536 .f32) (x4 : Vec F S2048x512 .fp8e4m3) (x5 : Vec F S1x512 .f32) (x6 : Vec F S5x32x2048 .bf16) (x7 : Vec F S5x32x512 .bf16) (xt0 : TbBuf0 (F := F) c tbM0_0) (xs0 : Vec F S2048x1536 .f32) (xs1 : Vec F S4x32x384 .f32) (xs2 : Vec F S4x96x384 .bf16) (k0_hw5 : k0_chk5 (tbM0_0.view.readAt (Elt F) (Rect.unit (s := S4) ![0] S1.size inb_S4_S1_0).toLoadRect xt0 (Shape.Idx.first (numel1_S1.symm ▸ Nat.one_pos)))) (k0_hw6 : k0_chk6 (tbM0_0.view.readAt (Elt F) (Rect.unit (s := S4) ![0] S1.size inb_S4_S1_0).toLoadRect xt0 (Shape.Idx.first (numel1_S1.symm ▸ Nat.one_pos)))) (k0_hw7 : k0_chk7 (tbM0_0.view.readAt (Elt F) (Rect.unit (s := S4) ![1] S1.size inb_S4_S1_1).toLoadRect xt0 (Shape.Idx.first (numel1_S1.symm ▸ Nat.one_pos)))) (k0_hw8 : k0_chk8 (tbM0_0.view.readAt (Elt F) (Rect.unit (s := S4) ![1] S1.size inb_S4_S1_1).toLoadRect xt0 (Shape.Idx.first (numel1_S1.symm ▸ Nat.one_pos)))) (k0_hw9 : k0_chk9 (tbM0_0.view.readAt (Elt F) (Rect.unit (s := S4) ![2] S1.size inb_S4_S1_2).toLoadRect xt0 (Shape.Idx.first (numel1_S1.symm ▸ Nat.one_pos)))) (k0_hw10 : k0_chk10 (tbM0_0.view.readAt (Elt F) (Rect.unit (s := S4) ![2] S1.size inb_S4_S1_2).toLoadRect xt0 (Shape.Idx.first (numel1_S1.symm ▸ Nat.one_pos)))) (k0_hw11 : k0_chk11 (tbM0_0.view.readAt (Elt F) (Rect.unit (s := S4) ![3] S1.size inb_S4_S1_3).toLoadRect xt0 (Shape.Idx.first (numel1_S1.symm ▸ Nat.one_pos)))) (k0_hw12 : k0_chk12 (tbM0_0.view.readAt (Elt F) (Rect.unit (s := S4) ![3] S1.size inb_S4_S1_3).toLoadRect xt0 (Shape.Idx.first (numel1_S1.symm ▸ Nat.one_pos)))) (k0_hw13 : k0_chk13 i (tbM0_0.view.readAt (Elt F) (Rect.unit (s := S4) ![0] S1.size inb_S4_S1_0).toLoadRect xt0 (Shape.Idx.first (numel1_S1.symm ▸ Nat.one_pos)))) (k0_hw14 : k0_chk14 i (tbM0_0.view.readAt (Elt F) (Rect.unit (s := S4) ![0] S1.size inb_S4_S1_0).toLoadRect xt0 (Shape.Idx.first (numel1_S1.symm ▸ Nat.one_pos)))) (k0_hw15 : k0_chk15 i (tbM0_0.view.readAt (Elt F) (Rect.unit (s := S4) ![1] S1.size inb_S4_S1_1).toLoadRect xt0 (Shape.Idx.first (numel1_S1.symm ▸ Nat.one_pos)))) (k0_hw16 : k0_chk16 i (tbM0_0.view.readAt (Elt F) (Rect.unit (s := S4) ![1] S1.size inb_S4_S1_1).toLoadRect xt0 (Shape.Idx.first (numel1_S1.symm ▸ Nat.one_pos)))) (k0_hw17 : k0_chk17 i (tbM0_0.view.readAt (Elt F) (Rect.unit (s := S4) ![2] S1.size inb_S4_S1_2).toLoadRect xt0 (Shape.Idx.first (numel1_S1.symm ▸ Nat.one_pos)))) (k0_hw18 : k0_chk18 i (tbM0_0.view.readAt (Elt F) (Rect.unit (s := S4) ![2] S1.size inb_S4_S1_2).toLoadRect xt0 (Shape.Idx.first (numel1_S1.symm ▸ Nat.one_pos)))) (k0_hw19 : k0_chk19 i (tbM0_0.view.readAt (Elt F) (Rect.unit (s := S4) ![3] S1.size inb_S4_S1_3).toLoadRect xt0 (Shape.Idx.first (numel1_S1.symm ▸ Nat.one_pos)))) (k0_hw20 : k0_chk20 i (tbM0_0.view.readAt (Elt F) (Rect.unit (s := S4) ![3] S1.size inb_S4_S1_3).toLoadRect xt0 (Shape.Idx.first (numel1_S1.symm ▸ Nat.one_pos)))) :
    Σ' (L8 : List (View.Piece (Elt F) S1536x2048 .bf16)) (L9 : List (View.Piece (Elt F) S5x32x2048 .f32)) (L10 : List (View.Piece (Elt F) S5x32x512 .f32)) (L11 : List (View.Piece (Elt F) S4x32x384 .f32)) (LS0 : List (View.Piece (Elt F) S2048x1536 .f32)), { LS1 : List (View.Piece (Elt F) S4x32x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg15 fullShare xs0 ∗ owns (c : Thread nD τ) arg16 fullShare xs1 ∗ owns (c : Thread nD τ) arg17 fullShare xs2 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ owns (c : Thread nD τ) arg17 fullShare xs2 ∗ tbPt0 c tbM0_0 xt0) -∗ K ⟨⟩))
          ⊢ wp frame (wpE (defs₀ (F := F)) Variants.none c none) E (cc0_lora_bwd i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0_lora_bwd_eq_skeleton]; unfold cc0_lora_bwd_skel
    simp only [k0_part12_eq_skeleton, k0_part13_eq_skeleton, k0_part14_eq_skeleton, k0_part15_eq_skeleton, k0_part11_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, Hs0⟩, ⟨%fs1, %hfs1, Hs1⟩, ⟨%fs2, %hfs2, Hs2⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg15.eq_unread hfs0; obtain rfl := harg16.eq_unread hfs1; obtain rfl := harg17.eq_unread hfs2
    sl_exec (disch := first | sl_exact hc0 | sl_exact hc1 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [Hs0]; · iexists _; iexact Hs0
    isplitl [Hs1]; · iexists _; iexact Hs1
    isplitl [Hs2]
    · iexists _; isplitr; · ipureintro; exact harg17.read_unread _
      iexact Hs2
    iexact HT0

end Cert.KernelIdeal.Gen

end
-- ==== Proof.Run.Data.lean ====
/- What the idealized kernel's body stores at each grid point, and that the stores of each point cover the buffers they go to. -/
module

public import proofs.«01_k».proof.Proof.Run.RunC
public import Idealize.ShloMosaic.Lib.Pipeline.TableIdle
public import Idealize.ShloMosaic.Lib.Claim

@[expose] public section

set_option maxRecDepth 16384

noncomputable section

namespace Cert.KernelIdeal.Gen

open Idealize.ShloMosaic Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The run at the first grid point: the body's stores there, on the point's staging buffers and input blocks. -/
def ptA (hO : Ok m) (hH : Hyps m hO) (c : Dev nD) (t : Fin (cfgM m hO).N) (h0 : t.val % 16 = 0) (h1 : ¬t.val % 16 = 15) :=
  kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (tbl m 0) ((Hyps.c0 hH c t) ((hcond0_0 t).mpr h0)) ((Hyps.c1 hH c t) ((hcond0_0 t).mpr h0)) ((Hyps.c2 hH c t) ((hcond0_0 t).mpr h0)) ((Hyps.c3 hH c t) ((hcond0_0 t).mpr h0)) (Hyps.c4 hH c t) (Hyps.c5 hH c t) (Hyps.c6 hH c t) (Hyps.c7 hH c t) (Hyps.c8 hH c t) (Hyps.c9 hH c t) (Hyps.c10 hH c t) (Hyps.c11 hH c t)

/-- The run at a grid point between the first and the last, over the contents that the scratch holds. -/
def ptB (hO : Ok m) (hH : Hyps m hO) (c : Dev nD) (t : Fin (cfgM m hO).N) (h0 : ¬t.val % 16 = 0) (h1 : ¬t.val % 16 = 15) (xs0 : Vec F S2048x1536 .f32) (xs1 : Vec F S4x32x384 .f32) (xs2 : Vec F S4x96x384 .bf16) :=
  kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (tbl m 0) xs0 xs1 xs2 (Hyps.c4 hH c t) (Hyps.c5 hH c t) (Hyps.c6 hH c t) (Hyps.c7 hH c t) (Hyps.c8 hH c t) (Hyps.c9 hH c t) (Hyps.c10 hH c t) (Hyps.c11 hH c t)

/-- The run at the last grid point, over the contents that the scratch holds. -/
def ptC (hO : Ok m) (hH : Hyps m hO) (c : Dev nD) (t : Fin (cfgM m hO).N) (h0 : ¬t.val % 16 = 0) (h1 : t.val % 16 = 15) (xs0 : Vec F S2048x1536 .f32) (xs1 : Vec F S4x32x384 .f32) (xs2 : Vec F S4x96x384 .bf16) :=
  kernelRun0_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (tbl m 0) xs0 xs1 xs2 (Hyps.c4 hH c t) (Hyps.c5 hH c t) (Hyps.c6 hH c t) (Hyps.c7 hH c t) (Hyps.c8 hH c t) (Hyps.c9 hH c t) (Hyps.c10 hH c t) (Hyps.c11 hH c t) ((Hyps.c12 hH c t) ((hcond0_1 t).mpr h1)) ((Hyps.c13 hH c t) ((hcond0_1 t).mpr h1)) ((Hyps.c14 hH c t) ((hcond0_1 t).mpr h1)) ((Hyps.c15 hH c t) ((hcond0_1 t).mpr h1)) ((Hyps.c16 hH c t) ((hcond0_1 t).mpr h1)) ((Hyps.c17 hH c t) ((hcond0_1 t).mpr h1)) ((Hyps.c18 hH c t) ((hcond0_1 t).mpr h1)) ((Hyps.c19 hH c t) ((hcond0_1 t).mpr h1))

/-- The stores of case A into buffer 10 cover it. -/
theorem coverA_10 (hO : Ok m) (hH : Hyps m hO) (c : Dev nD) (t : Fin (cfgM m hO).N) (h0 : t.val % 16 = 0) (h1 : ¬t.val % 16 = 15) (y : S5x32x512.Idx) :
    ∃ pc ∈ (ptA m hO hH c t h0 h1).1, y ∈ pc.1.set := by
  exact View.cover_of_wholeMem _ (by sl_whole_mem) y

/-- The stores of case A into buffer 12 cover it. -/
theorem coverA_12 (hO : Ok m) (hH : Hyps m hO) (c : Dev nD) (t : Fin (cfgM m hO).N) (h0 : t.val % 16 = 0) (h1 : ¬t.val % 16 = 15) (y : S4x32x384.Idx) :
    ∃ pc ∈ (ptA m hO hH c t h0 h1).2.1, y ∈ pc.1.set := by
  exact View.cover_of_tiledL (ptA m hO hH c t h0 h1).2.1 S1x32x384.size (by sl_kernel_rfl) y

/-- The stores of case A into buffer s0 cover it. -/
theorem coverA_s0 (hO : Ok m) (hH : Hyps m hO) (c : Dev nD) (t : Fin (cfgM m hO).N) (h0 : t.val % 16 = 0) (h1 : ¬t.val % 16 = 15) (y : S2048x1536.Idx) :
    ∃ pc ∈ (ptA m hO hH c t h0 h1).2.2.1, y ∈ pc.1.set := by
  exact View.cover_of_wholeMem _ (by sl_whole_mem) y

/-- The stores of case A into buffer s1 cover it. -/
theorem coverA_s1 (hO : Ok m) (hH : Hyps m hO) (c : Dev nD) (t : Fin (cfgM m hO).N) (h0 : t.val % 16 = 0) (h1 : ¬t.val % 16 = 15) (y : S4x32x384.Idx) :
    ∃ pc ∈ (ptA m hO hH c t h0 h1).2.2.2.1, y ∈ pc.1.set := by
  exact View.cover_of_wholeMem _ (by sl_whole_mem) y

/-- The stores of case A into buffer s2 cover it. -/
theorem coverA_s2 (hO : Ok m) (hH : Hyps m hO) (c : Dev nD) (t : Fin (cfgM m hO).N) (h0 : t.val % 16 = 0) (h1 : ¬t.val % 16 = 15) (y : S4x96x384.Idx) :
    ∃ pc ∈ (ptA m hO hH c t h0 h1).2.2.2.2.1, y ∈ pc.1.set := by
  exact View.cover_of_tiledL (ptA m hO hH c t h0 h1).2.2.2.2.1 S1x32x384.size (by sl_kernel_rfl) y

/-- The stores of case B into buffer 10 cover it. -/
theorem coverB_10 (hO : Ok m) (hH : Hyps m hO) (c : Dev nD) (t : Fin (cfgM m hO).N) (h0 : ¬t.val % 16 = 0) (h1 : ¬t.val % 16 = 15) (xs0 : Vec F S2048x1536 .f32) (xs1 : Vec F S4x32x384 .f32) (xs2 : Vec F S4x96x384 .bf16) (y : S5x32x512.Idx) :
    ∃ pc ∈ (ptB m hO hH c t h0 h1 xs0 xs1 xs2).1, y ∈ pc.1.set := by
  exact View.cover_of_wholeMem _ (by sl_whole_mem) y

/-- The stores of case B into buffer s0 cover it. -/
theorem coverB_s0 (hO : Ok m) (hH : Hyps m hO) (c : Dev nD) (t : Fin (cfgM m hO).N) (h0 : ¬t.val % 16 = 0) (h1 : ¬t.val % 16 = 15) (xs0 : Vec F S2048x1536 .f32) (xs1 : Vec F S4x32x384 .f32) (xs2 : Vec F S4x96x384 .bf16) (y : S2048x1536.Idx) :
    ∃ pc ∈ (ptB m hO hH c t h0 h1 xs0 xs1 xs2).2.1, y ∈ pc.1.set := by
  exact View.cover_of_wholeMem _ (by sl_whole_mem) y

/-- The stores of case B into buffer s1 cover it. -/
theorem coverB_s1 (hO : Ok m) (hH : Hyps m hO) (c : Dev nD) (t : Fin (cfgM m hO).N) (h0 : ¬t.val % 16 = 0) (h1 : ¬t.val % 16 = 15) (xs0 : Vec F S2048x1536 .f32) (xs1 : Vec F S4x32x384 .f32) (xs2 : Vec F S4x96x384 .bf16) (y : S4x32x384.Idx) :
    ∃ pc ∈ (ptB m hO hH c t h0 h1 xs0 xs1 xs2).2.2.1, y ∈ pc.1.set := by
  exact View.cover_of_tiledL (ptB m hO hH c t h0 h1 xs0 xs1 xs2).2.2.1 S1x32x384.size (by sl_kernel_rfl) y

/-- The stores of case C into buffer 8 cover it. -/
theorem coverC_8 (hO : Ok m) (hH : Hyps m hO) (c : Dev nD) (t : Fin (cfgM m hO).N) (h0 : ¬t.val % 16 = 0) (h1 : t.val % 16 = 15) (xs0 : Vec F S2048x1536 .f32) (xs1 : Vec F S4x32x384 .f32) (xs2 : Vec F S4x96x384 .bf16) (y : S1536x2048.Idx) :
    ∃ pc ∈ (ptC m hO hH c t h0 h1 xs0 xs1 xs2).1, y ∈ pc.1.set := by
  exact View.cover_of_tiledL (ptC m hO hH c t h0 h1 xs0 xs1 xs2).1 S384x2048.size (by sl_kernel_rfl) y

/-- The stores of case C into buffer 9 cover it. -/
theorem coverC_9 (hO : Ok m) (hH : Hyps m hO) (c : Dev nD) (t : Fin (cfgM m hO).N) (h0 : ¬t.val % 16 = 0) (h1 : t.val % 16 = 15) (xs0 : Vec F S2048x1536 .f32) (xs1 : Vec F S4x32x384 .f32) (xs2 : Vec F S4x96x384 .bf16) (y : S5x32x2048.Idx) :
    ∃ pc ∈ (ptC m hO hH c t h0 h1 xs0 xs1 xs2).2.1, y ∈ pc.1.set := by
  exact View.cover_of_wholeMem _ (by sl_whole_mem) y

/-- The stores of case C into buffer 10 cover it. -/
theorem coverC_10 (hO : Ok m) (hH : Hyps m hO) (c : Dev nD) (t : Fin (cfgM m hO).N) (h0 : ¬t.val % 16 = 0) (h1 : t.val % 16 = 15) (xs0 : Vec F S2048x1536 .f32) (xs1 : Vec F S4x32x384 .f32) (xs2 : Vec F S4x96x384 .bf16) (y : S5x32x512.Idx) :
    ∃ pc ∈ (ptC m hO hH c t h0 h1 xs0 xs1 xs2).2.2.1, y ∈ pc.1.set := by
  exact View.cover_of_wholeMem _ (by sl_whole_mem) y

/-- The stores of case C into buffer 11 cover it. -/
theorem coverC_11 (hO : Ok m) (hH : Hyps m hO) (c : Dev nD) (t : Fin (cfgM m hO).N) (h0 : ¬t.val % 16 = 0) (h1 : t.val % 16 = 15) (xs0 : Vec F S2048x1536 .f32) (xs1 : Vec F S4x32x384 .f32) (xs2 : Vec F S4x96x384 .bf16) (y : S4x32x384.Idx) :
    ∃ pc ∈ (ptC m hO hH c t h0 h1 xs0 xs1 xs2).2.2.2.1, y ∈ pc.1.set := by
  exact View.cover_of_tiledL (ptC m hO hH c t h0 h1 xs0 xs1 xs2).2.2.2.1 S1x32x384.size (by sl_kernel_rfl) y

/-- The stores of case C into buffer s0 cover it. -/
theorem coverC_s0 (hO : Ok m) (hH : Hyps m hO) (c : Dev nD) (t : Fin (cfgM m hO).N) (h0 : ¬t.val % 16 = 0) (h1 : t.val % 16 = 15) (xs0 : Vec F S2048x1536 .f32) (xs1 : Vec F S4x32x384 .f32) (xs2 : Vec F S4x96x384 .bf16) (y : S2048x1536.Idx) :
    ∃ pc ∈ (ptC m hO hH c t h0 h1 xs0 xs1 xs2).2.2.2.2.1, y ∈ pc.1.set := by
  exact View.cover_of_wholeMem _ (by sl_whole_mem) y

set_option maxHeartbeats 2000000 in
/-- The stores of case C into buffer s1 cover it. -/
theorem coverC_s1 (hO : Ok m) (hH : Hyps m hO) (c : Dev nD) (t : Fin (cfgM m hO).N) (h0 : ¬t.val % 16 = 0) (h1 : t.val % 16 = 15) (xs0 : Vec F S2048x1536 .f32) (xs1 : Vec F S4x32x384 .f32) (xs2 : Vec F S4x96x384 .bf16) (y : S4x32x384.Idx) :
    ∃ pc ∈ (ptC m hO hH c t h0 h1 xs0 xs1 xs2).2.2.2.2.2.1, y ∈ pc.1.set := by
  exact View.cover_of_tiledL (ptC m hO hH c t h0 h1 xs0 xs1 xs2).2.2.2.2.2.1 S1x32x384.size (by sl_kernel_rfl) y

/-! ## What the scratch holds after each point -/

/-- What the three scratch buffers (the accumulated product, the accumulated low-rank product, the low-rank image of the
    activations) hold after the first point, -/
def stA (hO : Ok m) (hH : Hyps m hO) (c : Dev nD) (t : Fin (cfgM m hO).N) (h0 : t.val % 16 = 0) (h1 : ¬t.val % 16 = 15) : Vec F S2048x1536 .f32 × Vec F S4x32x384 .f32 × Vec F S4x96x384 .bf16 :=
  (View.canon (ptA m hO hH c t h0 h1).2.2.1, View.canon (ptA m hO hH c t h0 h1).2.2.2.1, View.canon (ptA m hO hH c t h0 h1).2.2.2.2.1)
/-- after a point between the first and the last, over what they held before it, -/
def stB (hO : Ok m) (hH : Hyps m hO) (c : Dev nD) (t : Fin (cfgM m hO).N) (h0 : ¬t.val % 16 = 0) (h1 : ¬t.val % 16 = 15) (s : Vec F S2048x1536 .f32 × Vec F S4x32x384 .f32 × Vec F S4x96x384 .bf16) : Vec F S2048x1536 .f32 × Vec F S4x32x384 .f32 × Vec F S4x96x384 .bf16 :=
  (View.canon (ptB m hO hH c t h0 h1 s.1 s.2.1 s.2.2).2.1, View.canon (ptB m hO hH c t h0 h1 s.1 s.2.1 s.2.2).2.2.1, s.2.2)
/-- and after the last point. -/
def stC (hO : Ok m) (hH : Hyps m hO) (c : Dev nD) (t : Fin (cfgM m hO).N) (h0 : ¬t.val % 16 = 0) (h1 : t.val % 16 = 15) (s : Vec F S2048x1536 .f32 × Vec F S4x32x384 .f32 × Vec F S4x96x384 .bf16) : Vec F S2048x1536 .f32 × Vec F S4x32x384 .f32 × Vec F S4x96x384 .bf16 :=
  (View.canon (ptC m hO hH c t h0 h1 s.1 s.2.1 s.2.2).2.2.2.2.1, View.canon (ptC m hO hH c t h0 h1 s.1 s.2.1 s.2.2).2.2.2.2.2.1, s.2.2)

/-- What the three scratch buffers hold after the body at position `n`. -/
def st (hO : Ok m) (hH : Hyps m hO) (c : Dev nD) : (n : ℕ) → n < (cfgM m hO).N → Vec F S2048x1536 .f32 × Vec F S4x32x384 .f32 × Vec F S4x96x384 .bf16
  | 0, hn => stA m hO hH c ⟨0, hn⟩ (Nat.zero_mod _) (by show ¬0 % 16 = 15; decide)
  | n + 1, hn =>
    if h0 : (n + 1) % 16 = 0 then
      st hO hH c n (Nat.lt_of_succ_lt hn)
    else
      if h1 : (n + 1) % 16 = 15 then stC m hO hH c ⟨n + 1, hn⟩ h0 h1 (st hO hH c n (Nat.lt_of_succ_lt hn))
      else stB m hO hH c ⟨n + 1, hn⟩ h0 h1 (st hO hH c n (Nat.lt_of_succ_lt hn))

/-- The scratch before point `t` (that is not the first): what the point before left. -/
abbrev stp (hO : Ok m) (hH : Hyps m hO) (c : Dev nD) (t : Fin (cfgM m hO).N) :=
  st m hO hH c (t.val - 1) (Nat.lt_of_le_of_lt (Nat.sub_le _ _) t.isLt)

theorem st_A (hO : Ok m) (hH : Hyps m hO) (c : Dev nD) (t : Fin (cfgM m hO).N) (h0 : t.val % 16 = 0) (h1 : ¬t.val % 16 = 15) :
    st m hO hH c t.val t.isLt = stA m hO hH c t h0 h1 := by
  obtain ⟨n, hn⟩ := t
  have hN : n < 16 := lt_of_lt_of_eq hn (show (cfgM m hO).N = 16 from N_0)
  cases n with
  | zero => rfl
  | succ n => exfalso; dsimp only at h0; omega

theorem st_B (hO : Ok m) (hH : Hyps m hO) (c : Dev nD) (t : Fin (cfgM m hO).N) (h0 : ¬t.val % 16 = 0) (h1 : ¬t.val % 16 = 15) :
    st m hO hH c t.val t.isLt = stB m hO hH c t h0 h1 (stp m hO hH c t) := by
  obtain ⟨n, hn⟩ := t
  have hN : n < 16 := lt_of_lt_of_eq hn (show (cfgM m hO).N = 16 from N_0)
  cases n with
  | zero => exact absurd (Nat.zero_mod _) h0
  | succ n => exact (dif_neg h0).trans (dif_neg h1)

theorem st_C (hO : Ok m) (hH : Hyps m hO) (c : Dev nD) (t : Fin (cfgM m hO).N) (h0 : ¬t.val % 16 = 0) (h1 : t.val % 16 = 15) :
    st m hO hH c t.val t.isLt = stC m hO hH c t h0 h1 (stp m hO hH c t) := by
  obtain ⟨n, hn⟩ := t
  have hN : n < 16 := lt_of_lt_of_eq hn (show (cfgM m hO).N = 16 from N_0)
  cases n with
  | zero => exact absurd (Nat.zero_mod _) h0
  | succ n => exact (dif_neg h0).trans (dif_pos h1)

/-! ## What the output buffers hold after each point -/

/-- The first and the last grid point. -/
abbrev tFst (hO : Ok m) : Fin (cfgM m hO).N := ⟨0, (by rw [show (cfgM m hO).N = 16 from N_0]; decide)⟩
abbrev tLst (hO : Ok m) : Fin (cfgM m hO).N := ⟨15, (by rw [show (cfgM m hO).N = 16 from N_0]; decide)⟩

/-- The run at the last point, over what the point before left in the scratch. -/
abbrev ptLst (hO : Ok m) (hH : Hyps m hO) (c : Dev nD) :=
  ptC m hO hH c (tLst m hO) (by show ¬15 % 16 = 0; decide) (by show 15 % 16 = 15; decide) (stp m hO hH c (tLst m hO)).1 (stp m hO hH c (tLst m hO)).2.1 (stp m hO hH c (tLst m hO)).2.2

/-- The block of the gradient of the activations that the last point leaves, -/
def out8 (hO : Ok m) (hH : Hyps m hO) (c : Dev nD) : Vec F S1536x2048 .bf16 := View.canon (ptLst m hO hH c).1
/-- the gradient of the first low-rank factors, -/
def out9 (hO : Ok m) (hH : Hyps m hO) (c : Dev nD) : Vec F S5x32x2048 .f32 := View.canon (ptLst m hO hH c).2.1
/-- the scaled low-rank image of the output gradient, -/
def out11 (hO : Ok m) (hH : Hyps m hO) (c : Dev nD) : Vec F S4x32x384 .f32 := View.canon (ptLst m hO hH c).2.2.2.1
/-- the low-rank image of the activations that the first point leaves, -/
def out12 (hO : Ok m) (hH : Hyps m hO) (c : Dev nD) : Vec F S4x32x384 .f32 :=
  View.canon (ptA m hO hH c (tFst m hO) (Nat.zero_mod _) (by show ¬0 % 16 = 15; decide)).2.1
/-- and the block of the gradient of the second low-rank factors that point `t` leaves. -/
def out10 (hO : Ok m) (hH : Hyps m hO) (c : Dev nD) (t : Fin (cfgM m hO).N) : Vec F S5x32x512 .f32 :=
  if h0 : t.val % 16 = 0 then
    if h1 : t.val % 16 = 15 then View.canon []
    else View.canon (ptA m hO hH c t h0 h1).1
  else
    if h1 : t.val % 16 = 15 then View.canon (ptC m hO hH c t h0 h1 (stp m hO hH c t).1 (stp m hO hH c t).2.1 (stp m hO hH c t).2.2).2.2.1
    else View.canon (ptB m hO hH c t h0 h1 (stp m hO hH c t).1 (stp m hO hH c t).2.1 (stp m hO hH c t).2.2).1

theorem out10_A (hO : Ok m) (hH : Hyps m hO) (c : Dev nD) (t : Fin (cfgM m hO).N) (h0 : t.val % 16 = 0) (h1 : ¬t.val % 16 = 15) : out10 m hO hH c t = View.canon (ptA m hO hH c t h0 h1).1 := by
  unfold out10; rw [dif_pos h0, dif_neg h1]
theorem out10_B (hO : Ok m) (hH : Hyps m hO) (c : Dev nD) (t : Fin (cfgM m hO).N) (h0 : ¬t.val % 16 = 0) (h1 : ¬t.val % 16 = 15) :
    out10 m hO hH c t = View.canon (ptB m hO hH c t h0 h1 (stp m hO hH c t).1 (stp m hO hH c t).2.1 (stp m hO hH c t).2.2).1 := by
  unfold out10; rw [dif_neg h0, dif_neg h1]
theorem out10_C (hO : Ok m) (hH : Hyps m hO) (c : Dev nD) (t : Fin (cfgM m hO).N) (h0 : ¬t.val % 16 = 0) (h1 : t.val % 16 = 15) :
    out10 m hO hH c t = View.canon (ptC m hO hH c t h0 h1 (stp m hO hH c t).1 (stp m hO hH c t).2.1 (stp m hO hH c t).2.2).2.2.1 := by
  unfold out10; rw [dif_neg h0, dif_pos h1]

end Cert.KernelIdeal.Gen

end
-- ==== Proof.Run.Body.lean ====
/- The run of the idealized program with the contents that its kernel leaves: the invariant of the grid, the body's triple at a
   point, the launch, and that the arguments end unchanged. -/
module

public import proofs.«01_k».proof.Proof.Run.Data
public import Idealize.ShloMosaic.Lib.Pipeline.TableIdle
public import Idealize.ShloMosaic.Lib.Claim

@[expose] public section

set_option maxRecDepth 16384

noncomputable section

namespace Cert.KernelIdeal.Gen

open Idealize.ShloMosaic Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ
attribute [local irreducible] ptA ptB ptC

/-- The region's invariant before position `n`: before the first point the scratch at anything; afterwards the scratch at
    what the point before left (`st`), and the generator register at some state. -/
def PhiS (hO : Ok m) (hH : Hyps m hO) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (st m hO hH c n hn).1 ∗ owns (c : Thread nD τ) scM0_1 fullShare (st m hO hH c n hn).2.1 ∗ owns (c : Thread nD τ) scM0_2 fullShare (st m hO hH c n hn).2.2) ∗ (∃ r, prngReg c r)) ∗ Pipeline.ΦT pre0 (tbl m) c)

theorem PhiS_zero (hO : Ok m) (hH : Hyps m hO) (c : Dev nD) (n : ℕ) (h : n ≤ (cfgM m hO).N) (hz : n = 0) : PhiS m hO hH c n h = iprop(Pipeline.ΦA spec0 c ∗ Pipeline.ΦT pre0 (tbl m) c) := by
  subst hz; rfl

theorem PhiS_succ (hO : Ok m) (hH : Hyps m hO) (c : Dev nD) (n : ℕ) (hn : n < (cfgM m hO).N) :
    PhiS m hO hH c (n + 1) hn = iprop(iprop(iprop(owns (c : Thread nD τ) scM0_0 fullShare (st m hO hH c n hn).1 ∗ owns (c : Thread nD τ) scM0_1 fullShare (st m hO hH c n hn).2.1 ∗ owns (c : Thread nD τ) scM0_2 fullShare (st m hO hH c n hn).2.2) ∗ (∃ r, prngReg c r)) ∗ Pipeline.ΦT pre0 (tbl m) c) := rfl

theorem PhiS_pos (hO : Ok m) (hH : Hyps m hO) (c : Dev nD) (n : ℕ) (h : n ≤ (cfgM m hO).N) (hz : n ≠ 0) :
    PhiS m hO hH c n h = iprop(iprop(iprop(owns (c : Thread nD τ) scM0_0 fullShare (st m hO hH c (n - 1) (by omega)).1 ∗ owns (c : Thread nD τ) scM0_1 fullShare (st m hO hH c (n - 1) (by omega)).2.1 ∗ owns (c : Thread nD τ) scM0_2 fullShare (st m hO hH c (n - 1) (by omega)).2.2) ∗ (∃ r, prngReg c r)) ∗ Pipeline.ΦT pre0 (tbl m) c) := by
  cases n with
  | zero => exact absurd rfl hz
  | succ n => rfl

/-- The proof data of the pipeline: the arrays as the region finds them; after the body at point `t` each input's buffer at its
    block and the outputs at what the body leaves; full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => out8 m hO hH c
    | ⟨9, _⟩ => out9 m hO hH c
    | ⟨10, _⟩ => out10 m hO hH c t
    | ⟨11, _⟩ => out11 m hO hH c
    | ⟨12, _⟩ => out12 m hO hH c
  Φ t := PhiS m hO hH c t.val (Nat.le_of_lt_succ t.isLt)
  q _ := fullShare
  owed _ := 0

theorem A_eq (hO : Ok m) (hH : Hyps m hO) (c : Dev nD) (w : Fin (cfgM m hO).W) : (dats m hO hH 0 c).A w = V m c (Pipeline.arrRef spec0 w) := by
  dsimp only [dats]

theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

/-- What the body leaves, window by window. -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = out8 m hO hH c := by dsimp only [dats]; try rfl
theorem after0_9 (hO : Ok m) (hH : Hyps m hO) (c : Dev nD) (t : Fin (cfgM m hO).N) : (dats m hO hH 0 c).after 9 t = out9 m hO hH c := by dsimp only [dats]; try rfl
theorem after0_10 (hO : Ok m) (hH : Hyps m hO) (c : Dev nD) (t : Fin (cfgM m hO).N) : (dats m hO hH 0 c).after 10 t = out10 m hO hH c t := by dsimp only [dats]; try rfl
theorem after0_11 (hO : Ok m) (hH : Hyps m hO) (c : Dev nD) (t : Fin (cfgM m hO).N) : (dats m hO hH 0 c).after 11 t = out11 m hO hH c := by dsimp only [dats]; try rfl
theorem after0_12 (hO : Ok m) (hH : Hyps m hO) (c : Dev nD) (t : Fin (cfgM m hO).N) : (dats m hO hH 0 c).after 12 t = out12 m hO hH c := by dsimp only [dats]; try rfl

/-- Each input's staging buffer holds its block at every point. -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d

/-! ## Where the output windows are idle -/

theorem idleAt_8 (hO : Ok m) (t : Fin (cfgM m hO).N) (h : ¬t.val % 16 = 15) : (cfgM m hO).idle 8 (grid0.coords t) = true := by
  have h' : ¬k0_cond2 (grid0.coords t) = 1#1 := fun e => h ((hcond0_1 t).mp e)
  show (!(k0_cond2 (grid0.coords t) == 1#1)) = true
  simp [h']
theorem liveAt_8 (hO : Ok m) (t : Fin (cfgM m hO).N) (h : t.val % 16 = 15) : (cfgM m hO).idle 8 (grid0.coords t) = false := by
  have h' : k0_cond2 (grid0.coords t) = 1#1 := (hcond0_1 t).mpr h
  show (!(k0_cond2 (grid0.coords t) == 1#1)) = false
  simp [h']
theorem idleAt_9 (hO : Ok m) (t : Fin (cfgM m hO).N) (h : ¬t.val % 16 = 15) : (cfgM m hO).idle 9 (grid0.coords t) = true := by
  have h' : ¬k0_cond2 (grid0.coords t) = 1#1 := fun e => h ((hcond0_1 t).mp e)
  show (!(k0_cond2 (grid0.coords t) == 1#1)) = true
  simp [h']
theorem liveAt_9 (hO : Ok m) (t : Fin (cfgM m hO).N) (h : t.val % 16 = 15) : (cfgM m hO).idle 9 (grid0.coords t) = false := by
  have h' : k0_cond2 (grid0.coords t) = 1#1 := (hcond0_1 t).mpr h
  show (!(k0_cond2 (grid0.coords t) == 1#1)) = false
  simp [h']
theorem idleAt_11 (hO : Ok m) (t : Fin (cfgM m hO).N) (h : ¬t.val % 16 = 15) : (cfgM m hO).idle 11 (grid0.coords t) = true := by
  have h' : ¬k0_cond2 (grid0.coords t) = 1#1 := fun e => h ((hcond0_1 t).mp e)
  show (!(k0_cond2 (grid0.coords t) == 1#1)) = true
  simp [h']
theorem liveAt_11 (hO : Ok m) (t : Fin (cfgM m hO).N) (h : t.val % 16 = 15) : (cfgM m hO).idle 11 (grid0.coords t) = false := by
  have h' : k0_cond2 (grid0.coords t) = 1#1 := (hcond0_1 t).mpr h
  show (!(k0_cond2 (grid0.coords t) == 1#1)) = false
  simp [h']
theorem idleAt_12 (hO : Ok m) (t : Fin (cfgM m hO).N) (h : ¬t.val % 16 = 0) : (cfgM m hO).idle 12 (grid0.coords t) = true := by
  have h' : ¬k0_cond1 (grid0.coords t) = 1#1 := fun e => h ((hcond0_0 t).mp e)
  show (!(k0_cond1 (grid0.coords t) == 1#1)) = true
  simp [h']
theorem liveAt_12 (hO : Ok m) (t : Fin (cfgM m hO).N) (h : t.val % 16 = 0) : (cfgM m hO).idle 12 (grid0.coords t) = false := by
  have h' : k0_cond1 (grid0.coords t) = 1#1 := (hcond0_0 t).mpr h
  show (!(k0_cond1 (grid0.coords t) == 1#1)) = false
  simp [h']
theorem noFlush_8 (hO : Ok m) (t : Fin (cfgM m hO).N) (h : ¬t.val % 16 = 15) : ((cfgM m hO).win 8).flush t = false :=
  Bool.eq_false_iff.mpr fun e => h ((flush0_8 (adm m hO) t).mp e)
theorem noFlush_9 (hO : Ok m) (t : Fin (cfgM m hO).N) (h : ¬t.val % 16 = 15) : ((cfgM m hO).win 9).flush t = false :=
  Bool.eq_false_iff.mpr fun e => h ((flush0_9 (adm m hO) t).mp e)
theorem noFlush_11 (hO : Ok m) (t : Fin (cfgM m hO).N) (h : ¬t.val % 16 = 15) : ((cfgM m hO).win 11).flush t = false :=
  Bool.eq_false_iff.mpr fun e => h ((flush0_11 (adm m hO) t).mp e)
theorem noFlush_12 (hO : Ok m) (t : Fin (cfgM m hO).N) (h : ¬t.val % 16 = 15) : ((cfgM m hO).win 12).flush t = false :=
  Bool.eq_false_iff.mpr fun e => h ((flush0_12 (adm m hO) t).mp e)
theorem fresh_12 (hO : Ok m) : ∀ n : ℕ, n ≤ 15 → n ≠ 0 → (cfgM m hO).fresh 12 n = false
  | 0, _, h => absurd rfl h
  | n + 1, hn, _ => by
    have hN : n < (cfgM m hO).N := by rw [show (cfgM m hO).N = 16 from N_0]; omega
    rw [Pipeline.Cfg.fresh_succ (cfgM m hO) 12 n hN, noFlush_12 m hO ⟨n, hN⟩ (by show ¬n % 16 = 15; omega)]
    by_cases hz : n = 0
    · subst hz; rw [liveAt_12 m hO ⟨0, hN⟩ rfl]; rfl
    · rw [fresh_12 hO n (by omega) hz, Bool.and_false]; rfl

theorem before0_12 (hO : Ok m) (hH : Hyps m hO) (c : Dev nD) (t : Fin (cfgM m hO).N) (ht : t.val ≠ 0) (d) : (dats m hO hH 0 c).before 12 t d = out12 m hO hH c := by
  have hN : t.val < 16 := lt_of_lt_of_eq t.isLt (show (cfgM m hO).N = 16 from N_0)
  rw [(dats m hO hH 0 c).before_out_traj 12 rfl (fun _ _ => rfl) (fun _ _ _ _ => rfl) t.val t rfl d,
    fresh_12 m hO t.val (by omega) ht, if_neg Bool.false_ne_true, after0_12]

/-! ## The body obligation, at a generic point -/

/-- What the body is called with at point `t`, window by window, -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d))
    ∗ (∃ d, owns (c : Thread nD τ) (ms0_10 m hO t) fullShare ((dats m hO hH 0 c).before 10 t d))
    ∗ (∃ d, owns (c : Thread nD τ) (ms0_11 m hO t) fullShare ((dats m hO hH 0 c).before 11 t d))
    ∗ (∃ d, owns (c : Thread nD τ) (ms0_12 m hO t) fullShare ((dats m hO hH 0 c).before 12 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ (dats m hO hH 0 c).leavesExact 0 t
    ∗ (dats m hO hH 0 c).leavesExact 1 t
    ∗ (dats m hO hH 0 c).leavesExact 2 t
    ∗ (dats m hO hH 0 c).leavesExact 3 t
    ∗ (dats m hO hH 0 c).leavesExact 4 t
    ∗ (dats m hO hH 0 c).leavesExact 5 t
    ∗ (dats m hO hH 0 c).leavesExact 6 t
    ∗ (dats m hO hH 0 c).leavesExact 7 t
    ∗ (dats m hO hH 0 c).leavesExact 8 t
    ∗ (dats m hO hH 0 c).leavesExact 9 t
    ∗ (dats m hO hH 0 c).leavesExact 10 t
    ∗ (dats m hO hH 0 c).leavesExact 11 t
    ∗ (dats m hO hH 0 c).leavesExact 12 t)

theorem leaves_0 (hO : Ok m) (hH : Hyps m hO) (c : Dev nD) (t : Fin (cfgM m hO).N) : (dats m hO hH 0 c).leavesExact 0 t = owns (c : Thread nD τ) (ms0_0 m hO t) fullShare (iblk m hO c 0 t) := by
  rw [← after0_0]; unfold Dat.leavesExact; rw [show (cfgM m hO).idle 0 (grid0.coords t) = false from rfl]; try rfl
theorem leaves_1 (hO : Ok m) (hH : Hyps m hO) (c : Dev nD) (t : Fin (cfgM m hO).N) : (dats m hO hH 0 c).leavesExact 1 t = owns (c : Thread nD τ) (ms0_1 m hO t) fullShare (iblk m hO c 1 t) := by
  rw [← after0_1]; unfold Dat.leavesExact; rw [show (cfgM m hO).idle 1 (grid0.coords t) = false from rfl]; try rfl
theorem leaves_2 (hO : Ok m) (hH : Hyps m hO) (c : Dev nD) (t : Fin (cfgM m hO).N) : (dats m hO hH 0 c).leavesExact 2 t = owns (c : Thread nD τ) (ms0_2 m hO t) fullShare (iblk m hO c 2 t) := by
  rw [← after0_2]; unfold Dat.leavesExact; rw [show (cfgM m hO).idle 2 (grid0.coords t) = false from rfl]; try rfl
theorem leaves_3 (hO : Ok m) (hH : Hyps m hO) (c : Dev nD) (t : Fin (cfgM m hO).N) : (dats m hO hH 0 c).leavesExact 3 t = owns (c : Thread nD τ) (ms0_3 m hO t) fullShare (iblk m hO c 3 t) := by
  rw [← after0_3]; unfold Dat.leavesExact; rw [show (cfgM m hO).idle 3 (grid0.coords t) = false from rfl]; try rfl
theorem leaves_4 (hO : Ok m) (hH : Hyps m hO) (c : Dev nD) (t : Fin (cfgM m hO).N) : (dats m hO hH 0 c).leavesExact 4 t = owns (c : Thread nD τ) (ms0_4 m hO t) fullShare (iblk m hO c 4 t) := by
  rw [← after0_4]; unfold Dat.leavesExact; rw [show (cfgM m hO).idle 4 (grid0.coords t) = false from rfl]; try rfl
theorem leaves_5 (hO : Ok m) (hH : Hyps m hO) (c : Dev nD) (t : Fin (cfgM m hO).N) : (dats m hO hH 0 c).leavesExact 5 t = owns (c : Thread nD τ) (ms0_5 m hO t) fullShare (iblk m hO c 5 t) := by
  rw [← after0_5]; unfold Dat.leavesExact; rw [show (cfgM m hO).idle 5 (grid0.coords t) = false from rfl]; try rfl
theorem leaves_6 (hO : Ok m) (hH : Hyps m hO) (c : Dev nD) (t : Fin (cfgM m hO).N) : (dats m hO hH 0 c).leavesExact 6 t = owns (c : Thread nD τ) (ms0_6 m hO t) fullShare (iblk m hO c 6 t) := by
  rw [← after0_6]; unfold Dat.leavesExact; rw [show (cfgM m hO).idle 6 (grid0.coords t) = false from rfl]; try rfl
theorem leaves_7 (hO : Ok m) (hH : Hyps m hO) (c : Dev nD) (t : Fin (cfgM m hO).N) : (dats m hO hH 0 c).leavesExact 7 t = owns (c : Thread nD τ) (ms0_7 m hO t) fullShare (iblk m hO c 7 t) := by
  rw [← after0_7]; unfold Dat.leavesExact; rw [show (cfgM m hO).idle 7 (grid0.coords t) = false from rfl]; try rfl
theorem leaves_10 (hO : Ok m) (hH : Hyps m hO) (c : Dev nD) (t : Fin (cfgM m hO).N) : (dats m hO hH 0 c).leavesExact 10 t = owns (c : Thread nD τ) (ms0_10 m hO t) fullShare (out10 m hO hH c t) := by
  rw [← after0_10]; unfold Dat.leavesExact; rw [show (cfgM m hO).idle 10 (grid0.coords t) = false from rfl]; try rfl
theorem leaves_8 (hO : Ok m) (hH : Hyps m hO) (c : Dev nD) (t : Fin (cfgM m hO).N) (h : t.val % 16 = 15) : (dats m hO hH 0 c).leavesExact 8 t = owns (c : Thread nD τ) (ms0_8 m hO t) fullShare (out8 m hO hH c) := by
  rw [← after0_8 m hO hH c t]; unfold Dat.leavesExact; rw [liveAt_8 m hO t h]; try rfl
theorem leavesIdle_8 (hO : Ok m) (hH : Hyps m hO) (c : Dev nD) (t : Fin (cfgM m hO).N) (h : ¬t.val % 16 = 15) (h1 : ¬t.val % 16 = 15) :
    (dats m hO hH 0 c).leavesExact 8 t = iprop(∃ d, owns (c : Thread nD τ) (ms0_8 m hO t) fullShare ((dats m hO hH 0 c).before 8 t d)) :=
  (dats m hO hH 0 c).leavesExact_idle 8 t (idleAt_8 m hO t h) (noFlush_8 m hO t h1)
theorem leaves_9 (hO : Ok m) (hH : Hyps m hO) (c : Dev nD) (t : Fin (cfgM m hO).N) (h : t.val % 16 = 15) : (dats m hO hH 0 c).leavesExact 9 t = owns (c : Thread nD τ) (ms0_9 m hO t) fullShare (out9 m hO hH c) := by
  rw [← after0_9 m hO hH c t]; unfold Dat.leavesExact; rw [liveAt_9 m hO t h]; try rfl
theorem leavesIdle_9 (hO : Ok m) (hH : Hyps m hO) (c : Dev nD) (t : Fin (cfgM m hO).N) (h : ¬t.val % 16 = 15) (h1 : ¬t.val % 16 = 15) :
    (dats m hO hH 0 c).leavesExact 9 t = iprop(∃ d, owns (c : Thread nD τ) (ms0_9 m hO t) fullShare ((dats m hO hH 0 c).before 9 t d)) :=
  (dats m hO hH 0 c).leavesExact_idle 9 t (idleAt_9 m hO t h) (noFlush_9 m hO t h1)
theorem leaves_11 (hO : Ok m) (hH : Hyps m hO) (c : Dev nD) (t : Fin (cfgM m hO).N) (h : t.val % 16 = 15) : (dats m hO hH 0 c).leavesExact 11 t = owns (c : Thread nD τ) (ms0_11 m hO t) fullShare (out11 m hO hH c) := by
  rw [← after0_11 m hO hH c t]; unfold Dat.leavesExact; rw [liveAt_11 m hO t h]; try rfl
theorem leavesIdle_11 (hO : Ok m) (hH : Hyps m hO) (c : Dev nD) (t : Fin (cfgM m hO).N) (h : ¬t.val % 16 = 15) (h1 : ¬t.val % 16 = 15) :
    (dats m hO hH 0 c).leavesExact 11 t = iprop(∃ d, owns (c : Thread nD τ) (ms0_11 m hO t) fullShare ((dats m hO hH 0 c).before 11 t d)) :=
  (dats m hO hH 0 c).leavesExact_idle 11 t (idleAt_11 m hO t h) (noFlush_11 m hO t h1)
theorem leaves_12 (hO : Ok m) (hH : Hyps m hO) (c : Dev nD) (t : Fin (cfgM m hO).N) (h : t.val % 16 = 0) : (dats m hO hH 0 c).leavesExact 12 t = owns (c : Thread nD τ) (ms0_12 m hO t) fullShare (out12 m hO hH c) := by
  rw [← after0_12 m hO hH c t]; unfold Dat.leavesExact; rw [liveAt_12 m hO t h]; try rfl
theorem leavesIdle_12 (hO : Ok m) (hH : Hyps m hO) (c : Dev nD) (t : Fin (cfgM m hO).N) (h : ¬t.val % 16 = 0) (h1 : ¬t.val % 16 = 15) :
    (dats m hO hH 0 c).leavesExact 12 t = iprop(∃ d, owns (c : Thread nD τ) (ms0_12 m hO t) fullShare ((dats m hO hH 0 c).before 12 t d)) :=
  (dats m hO hH 0 c).leavesExact_idle 12 t (idleAt_12 m hO t h) (noFlush_12 m hO t h1)
theorem leavesLast_12 (hO : Ok m) (hH : Hyps m hO) (c : Dev nD) (t : Fin (cfgM m hO).N) (h : t.val % 16 = 15) : (dats m hO hH 0 c).leavesExact 12 t = owns (c : Thread nD τ) (ms0_12 m hO t) fullShare (out12 m hO hH c) := by
  rw [← after0_12 m hO hH c t]; unfold Dat.leavesExact
  rw [idleAt_12 m hO t (by omega)]; dsimp only
  rw [show ((cfgM m hO).win 12).flush t = true from (flush0_12 (adm m hO) t).mpr h]; try rfl

theorem out8_eq (hO : Ok m) (hH : Hyps m hO) (c : Dev nD) (t : Fin (cfgM m hO).N) (h0 : ¬t.val % 16 = 0) (h1 : t.val % 16 = 15) :
    out8 m hO hH c = View.canon (ptC m hO hH c t h0 h1 (stp m hO hH c t).1 (stp m hO hH c t).2.1 (stp m hO hH c t).2.2).1
    ∧ out9 m hO hH c = View.canon (ptC m hO hH c t h0 h1 (stp m hO hH c t).1 (stp m hO hH c t).2.1 (stp m hO hH c t).2.2).2.1
    ∧ out11 m hO hH c = View.canon (ptC m hO hH c t h0 h1 (stp m hO hH c t).1 (stp m hO hH c t).2.1 (stp m hO hH c t).2.2).2.2.2.1 := by
  obtain ⟨n, hn⟩ := t
  have hN : n < 16 := lt_of_lt_of_eq hn (show (cfgM m hO).N = 16 from N_0)
  have e : n = 15 := by dsimp only at h1; omega
  subst e
  unfold out8 out9 out11
  exact ⟨rfl, rfl, rfl⟩
theorem out12_eq (hO : Ok m) (hH : Hyps m hO) (c : Dev nD) (t : Fin (cfgM m hO).N) (h0 : t.val % 16 = 0) (h1 : ¬t.val % 16 = 15) : out12 m hO hH c = View.canon (ptA m hO hH c t h0 h1).2.1 := by
  obtain ⟨n, hn⟩ := t
  have hN : n < 16 := lt_of_lt_of_eq hn (show (cfgM m hO).N = 16 from N_0)
  have e : n = 0 := by dsimp only at h0; omega
  subst e
  unfold out12
  rfl

set_option maxHeartbeats 38400000 in
set_option maxRecDepth 131072 in
/-- The body at the first point: from the invariant and the staging buffers to the invariant after the point. -/
theorem sound_A (hO : Ok m) (hH : Hyps m hO) (c : Dev nD) (t : Fin (cfgM m hO).N) (h0 : t.val % 16 = 0) (h1 : ¬t.val % 16 = 15) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7]
  rw [show (dats m hO hH 0 c).owesAt () t.succ = (dats m hO hH 0 c).owesAt () t.castSucc from rfl]
  rw [show (dats m hO hH 0 c).Φ t.succ = PhiS m hO hH c (t.val + 1) t.isLt from rfl, PhiS_succ, PhiT0_eq]
  have hN : t.val < 16 := lt_of_lt_of_eq t.isLt (show (cfgM m hO).N = 16 from N_0)
  rw [leaves_0, leaves_1, leaves_2, leaves_3, leaves_4, leaves_5, leaves_6, leaves_7, leaves_10]
  have hz : t.val = 0 := by omega
  rw [PhiS_castSucc m hO hH c t, PhiS_zero m hO hH c _ _ hz, PhiT0_eq, PhiA0_eq]
  rw [leavesIdle_8 m hO hH c t h1 h1, leavesIdle_9 m hO hH c t h1 h1, leavesIdle_11 m hO hH c t h1 h1, leaves_12 m hO hH c t h0]
  rw [st_A m hO hH c t h0 h1, out10_A m hO hH c t h0 h1, out12_eq m hO hH c t h0 h1]
  unfold stA; dsimp only
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((ptA m hO hH c t h0 h1).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexists _; iexact H10
  isplitl [H12]; · iexists _; iexact H12
  isplitl [HS0]; · iexact HS0
  isplitl [HS1]; · iexact HS1
  isplitl [HS2]; · iexact HS2
  isplitl [HT0]; · iexact HT0
  iintro ⟨H0, H1, H2, H3, H4, H5, H6, H7, ⟨%e10, H10⟩, ⟨%e12, H12⟩, ⟨%eS0, HS0⟩, ⟨%eS1, HS1⟩, ⟨%eS2, HS2⟩, HT0⟩
  isplitl [HS0 HS1 HS2 Hg HT0]
  · isplitl [HS0 HS1 HS2 Hg]
    · isplitl [HS0 HS1 HS2]
      · isplitl [HS0]
        · unfold owns; iexists _; isplitr
          swap; · iexact HS0
          ipureintro; exact View.read_writes_eq_canon _ _ _ (coverA_s0 m hO hH c t h0 h1 )
        isplitl [HS1]
        · unfold owns; iexists _; isplitr
          swap; · iexact HS1
          ipureintro; exact View.read_writes_eq_canon _ _ _ (coverA_s1 m hO hH c t h0 h1 )
        unfold owns; iexists _; isplitr
        swap; · iexact HS2
        ipureintro; exact View.read_writes_eq_canon _ _ _ (coverA_s2 m hO hH c t h0 h1 )
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]
  · unfold owns; iexists _; isplitr
    swap; · iexact H10
    ipureintro; exact View.read_writes_eq_canon _ _ _ (coverA_10 m hO hH c t h0 h1 )
  isplitl [H11]; · iexists _; iexact H11
  unfold owns; iexists _; isplitr
  swap; · iexact H12
  ipureintro; exact View.read_writes_eq_canon _ _ _ (coverA_12 m hO hH c t h0 h1 )

set_option maxHeartbeats 38400000 in
set_option maxRecDepth 131072 in
/-- The body at a point between the first and the last: from the invariant and the staging buffers to the invariant after the point. -/
theorem sound_B (hO : Ok m) (hH : Hyps m hO) (c : Dev nD) (t : Fin (cfgM m hO).N) (h0 : ¬t.val % 16 = 0) (h1 : ¬t.val % 16 = 15) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7]
  rw [show (dats m hO hH 0 c).owesAt () t.succ = (dats m hO hH 0 c).owesAt () t.castSucc from rfl]
  rw [show (dats m hO hH 0 c).Φ t.succ = PhiS m hO hH c (t.val + 1) t.isLt from rfl, PhiS_succ, PhiT0_eq]
  have hN : t.val < 16 := lt_of_lt_of_eq t.isLt (show (cfgM m hO).N = 16 from N_0)
  rw [leaves_0, leaves_1, leaves_2, leaves_3, leaves_4, leaves_5, leaves_6, leaves_7, leaves_10]
  have hz : t.val ≠ 0 := by omega
  rw [PhiS_castSucc m hO hH c t, PhiS_pos m hO hH c _ _ hz, PhiT0_eq]
  rw [leavesIdle_8 m hO hH c t h1 h1, leavesIdle_9 m hO hH c t h1 h1, leavesIdle_11 m hO hH c t h1 h1, leavesIdle_12 m hO hH c t h0 h1]
  rw [st_B m hO hH c t h0 h1, out10_B m hO hH c t h0 h1]
  unfold stB; dsimp only
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((ptB m hO hH c t h0 h1 (stp m hO hH c t).1 (stp m hO hH c t).2.1 (stp m hO hH c t).2.2).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexists _; iexact H10
  isplitl [HS0]; · iexact HS0
  isplitl [HS1]; · iexact HS1
  isplitl [HS2]; · iexact HS2
  isplitl [HT0]; · iexact HT0
  iintro ⟨H0, H1, H2, H3, H4, H5, H6, H7, ⟨%e10, H10⟩, ⟨%eS0, HS0⟩, ⟨%eS1, HS1⟩, HS2, HT0⟩
  isplitl [HS0 HS1 HS2 Hg HT0]
  · isplitl [HS0 HS1 HS2 Hg]
    · isplitl [HS0 HS1 HS2]
      · isplitl [HS0]
        · unfold owns; iexists _; isplitr
          swap; · iexact HS0
          ipureintro; exact View.read_writes_eq_canon _ _ _ (coverB_s0 m hO hH c t h0 h1 _ _ _)
        isplitl [HS1]
        · unfold owns; iexists _; isplitr
          swap; · iexact HS1
          ipureintro; exact View.read_writes_eq_canon _ _ _ (coverB_s1 m hO hH c t h0 h1 _ _ _)
        iexact HS2
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]
  · unfold owns; iexists _; isplitr
    swap; · iexact H10
    ipureintro; exact View.read_writes_eq_canon _ _ _ (coverB_10 m hO hH c t h0 h1 _ _ _)
  isplitl [H11]; · iexists _; iexact H11
  iexists _; iexact H12

set_option maxHeartbeats 38400000 in
set_option maxRecDepth 131072 in
/-- The body at the last point: from the invariant and the staging buffers to the invariant after the point. -/
theorem sound_C (hO : Ok m) (hH : Hyps m hO) (c : Dev nD) (t : Fin (cfgM m hO).N) (h0 : ¬t.val % 16 = 0) (h1 : t.val % 16 = 15) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7]
  rw [show (dats m hO hH 0 c).owesAt () t.succ = (dats m hO hH 0 c).owesAt () t.castSucc from rfl]
  rw [show (dats m hO hH 0 c).Φ t.succ = PhiS m hO hH c (t.val + 1) t.isLt from rfl, PhiS_succ, PhiT0_eq]
  have hN : t.val < 16 := lt_of_lt_of_eq t.isLt (show (cfgM m hO).N = 16 from N_0)
  rw [leaves_0, leaves_1, leaves_2, leaves_3, leaves_4, leaves_5, leaves_6, leaves_7, leaves_10]
  have hz : t.val ≠ 0 := by omega
  rw [PhiS_castSucc m hO hH c t, PhiS_pos m hO hH c _ _ hz, PhiT0_eq]
  simp only [before0_12 m hO hH c t hz]
  rw [leaves_8 m hO hH c t h1, leaves_9 m hO hH c t h1, leaves_11 m hO hH c t h1, leavesLast_12 m hO hH c t h1]
  rw [st_C m hO hH c t h0 h1, out10_C m hO hH c t h0 h1, (out8_eq m hO hH c t h0 h1).1, (out8_eq m hO hH c t h0 h1).2.1, (out8_eq m hO hH c t h0 h1).2.2]
  unfold stC; dsimp only
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((ptC m hO hH c t h0 h1 (stp m hO hH c t).1 (stp m hO hH c t).2.1 (stp m hO hH c t).2.2).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HT0]; · iexact HT0
  iintro ⟨H0, H1, H2, H3, H4, H5, H6, H7, ⟨%e8, H8⟩, ⟨%e9, H9⟩, ⟨%e10, H10⟩, ⟨%e11, H11⟩, ⟨%eS0, HS0⟩, ⟨%eS1, HS1⟩, HS2, HT0⟩
  isplitl [HS0 HS1 HS2 Hg HT0]
  · isplitl [HS0 HS1 HS2 Hg]
    · isplitl [HS0 HS1 HS2]
      · isplitl [HS0]
        · unfold owns; iexists _; isplitr
          swap; · iexact HS0
          ipureintro; exact View.read_writes_eq_canon _ _ _ (coverC_s0 m hO hH c t h0 h1 _ _ _)
        isplitl [HS1]
        · unfold owns; iexists _; isplitr
          swap; · iexact HS1
          ipureintro; exact View.read_writes_eq_canon _ _ _ (coverC_s1 m hO hH c t h0 h1 _ _ _)
        iexact HS2
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_eq_canon _ _ _ (coverC_8 m hO hH c t h0 h1 _ _ _)
  isplitl [H9]
  · unfold owns; iexists _; isplitr
    swap; · iexact H9
    ipureintro; exact View.read_writes_eq_canon _ _ _ (coverC_9 m hO hH c t h0 h1 _ _ _)
  isplitl [H10]
  · unfold owns; iexists _; isplitr
    swap; · iexact H10
    ipureintro; exact View.read_writes_eq_canon _ _ _ (coverC_10 m hO hH c t h0 h1 _ _ _)
  isplitl [H11]
  · unfold owns; iexists _; isplitr
    swap; · iexact H11
    ipureintro; exact View.read_writes_eq_canon _ _ _ (coverC_11 m hO hH c t h0 h1 _ _ _)
  iexact H12

/-- The body at any point. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  by_cases h0 : t.val % 16 = 0
  · exact sound_A m hO hH c t h0 (by omega)
  · by_cases h1 : t.val % 16 = 15
    · exact sound_C m hO hH c t h0 h1
    · exact sound_B m hO hH c t h0 h1

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation, at every point. -/
theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-- What the launch hands the region is the invariant before the first point. -/
theorem hin (hO : Ok m) (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

/-- After the last point the invariant gives the scratch back. -/
theorem hout (hO : Ok m) (hH : Hyps m hO) (c : Dev nD) : (dats m hO hH 0 c).Φ (Fin.last (cfgM m hO).N) ⊢ Pipeline.ΦA spec0 c := by
  have ht : (Fin.last (cfgM m hO).N).val ≠ 0 := by rw [Fin.val_last]; have : (cfgM m hO).N = 16 := N_0; omega
  rw [show (dats m hO hH 0 c).Φ (Fin.last (cfgM m hO).N) = PhiS m hO hH c (Fin.last (cfgM m hO).N).val (Nat.le_of_lt_succ (Fin.last (cfgM m hO).N).isLt) from rfl, PhiS_pos m hO hH c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

/-- What @main leaves: every array of the pipeline and every other buffer, after the region and the host lines behind it. -/
abbrev Post (hO : Ok m) (hH : Hyps m hO) := Pipeline.FramePost (Pipeline.pin pcfgs fun _ => adm m hO) (dats m hO hH) (0 : Fin 1) (Pipeline.afterTail pcfgs (fun _ => adm m hO) (dats m hO hH) (0 : Fin 1) (V0 m) [hostOps1])

set_option backward.isDefEq.respectTransparency.types false in
set_option maxHeartbeats 800000 in
/-- THE LAUNCH: every weakly fair execution of @main terminates, at the contents of `Post` and every semaphore at zero. -/
theorem run_main_quiescent (hO : Ok m) (hH : Hyps m hO) : θ_run defs (onTc (τ := τ) (main (F := F))) (s₀ m ρ) (fun r => Post m hO hH r ∧ r.2.sem = fun _ => 0) :=
  Pipeline.θ_run_frameP_around_track (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO hH) (hpf := V_pre m) (hin := hin m hO hH) (hout := hout m hO hH)

end Cert.KernelIdeal.Gen

end
-- ==== Proof.Run.Frame.lean ====
/- The frame of a run: the argument arrays end as they were launched and every semaphore is free. -/
module

public import proofs.«01_k».proof.Proof.Run.Body
public import Idealize.ShloMosaic.Lib.Pipeline.ValueKit

@[expose] public section

set_option maxRecDepth 16384

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (ρ : Dev nD → PrngReg)

/-- What the run ends in keeps every argument array as it was launched. -/
theorem args_of_post (hO : Ok m) (hH : Hyps m hO) {r} (h : Post m hO hH r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(Pipeline.FramePost.rest_eq h c main_arg0 (by decide : main_arg0 ∈ Pipeline.restRefs sig spec0)).trans (W_main_arg0 m hO (dats m hO hH) c),
    (Pipeline.FramePost.rest_eq h c main_arg1 (by decide : main_arg1 ∈ Pipeline.restRefs sig spec0)).trans (W_main_arg1 m hO (dats m hO hH) c),
    (Pipeline.FramePost.rest_eq h c main_arg2 (by decide : main_arg2 ∈ Pipeline.restRefs sig spec0)).trans (W_main_arg2 m hO (dats m hO hH) c),
    (Pipeline.FramePost.rest_eq h c main_arg3 (by decide : main_arg3 ∈ Pipeline.restRefs sig spec0)).trans (W_main_arg3 m hO (dats m hO hH) c),
    (Pipeline.FramePost.in_eq h c 4 rfl).trans ((A_eq m hO hH c 4).trans (V_main_arg4 m c)),
    (Pipeline.FramePost.rest_eq h c main_arg5 (by decide : main_arg5 ∈ Pipeline.restRefs sig spec0)).trans (W_main_arg5 m hO (dats m hO hH) c),
    (Pipeline.FramePost.rest_eq h c main_arg6 (by decide : main_arg6 ∈ Pipeline.restRefs sig spec0)).trans (W_main_arg6 m hO (dats m hO hH) c),
    (Pipeline.FramePost.in_eq h c 7 rfl).trans ((A_eq m hO hH c 7).trans (V_main_arg7 m c)),
    (Pipeline.FramePost.rest_eq h c main_arg8 (by decide : main_arg8 ∈ Pipeline.restRefs sig spec0)).trans (W_main_arg8 m hO (dats m hO hH) c)⟩

/-- From any memory whose prefetched words satisfy what the body assumes of them, every run ends, with the argument arrays
    as launched and every semaphore free. -/
theorem frame (hO : Ok m) (hH : Hyps m hO) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨args_of_post m hO hH h.1, h.2⟩) (run_main_quiescent m ρ hO hH)

end Cert.KernelIdeal.Gen

end
-- ==== Proof.Run.Words.lean ====
/- The adapter indices and the side conditions that the kernel's body assumes of them: the precondition says that each of the
   four words of `adapter_ids` names one of the five adapters, and a word below five keeps each assumed slab access inside its array. -/
module

public import proofs.«01_k».proof.Proof.Run.Frame
public import proofs.«01_k».proof.Proof.Pre

@[expose] public section

set_option maxRecDepth 16384

noncomputable section

namespace Cert.KernelIdeal.Words

open Idealize.ShloMosaic Idealize.ShloMosaic.TcCoe Cert.KernelIdeal.Gen

variable {F : FTy → Type} [FloatOps F]
variable (m : (ℓ : Loc nD τ sig) → Buf (Elt F) ℓ)

/-- Of every prefetched contents the pipeline's side condition holds: no index map reads the table. -/
theorem ok : Ok m := trivial

/-- The prefetched table is the argument array `adapter_ids` as launched. -/
theorem tbl_eq : (tbl m 0 : S4.Idx → BitVec 32) = (m (((0 : Dev nD).tc : Thread nD τ).loc main_arg8) : S4.Idx → BitVec 32) :=
  V_main_arg8 m 0

/-- A word that the body reads from the table is one of the table's words. -/
theorem readAt_lt (f : tbM0_0.view.ty.Contents (Elt F)) (h : ∀ y : S4.Idx, ((f : S4.Idx → BitVec 32) y).toNat < 5) (R : LoadRect S4) (y : R.shape.Idx) :
    (tbM0_0.view.readAt (Elt F) R f y).toNat < 5 := by
  rw [View.readAt_apply]
  exact h _

/-- A word below five keeps each of the body's slab accesses inside its array. -/
theorem hyps (h : ∀ y : S4.Idx, ((tbl m 0 : S4.Idx → BitVec 32) y).toNat < 5) : Hyps m (ok m) := by
  have rd := fun R y => readAt_lt (F := F) (tbl m 0) h R y
  have inb : ∀ (v : BitVec 32) (k l : ℕ), v.toNat < 5 → ∀ a, (![v.toNat, 0, 0] : Fin 3 → ℕ) a + (![1, k, l] : Fin 3 → ℕ) a ≤ (![5, k, l] : Fin 3 → ℕ) a := by
    intro v k l hv a
    match a with
    | 0 => exact hv
    | 1 => exact le_of_eq (Nat.zero_add _)
    | 2 => exact le_of_eq (Nat.zero_add _)
  refine Hyps.of ?_ ?_ ?_ ?_ ?_ ?_ ?_ ?_ ?_ ?_ ?_ ?_ ?_ ?_ ?_ ?_ ?_ ?_ ?_ ?_ <;> intro c t <;>
    first
    | exact inb _ _ _ (rd _ _)
    | exact fun _ => inb _ _ _ (rd _ _)
    | exact fun _ _ => inb _ _ _ (rd _ _)

/-- The precondition implies the side conditions that the body assumes. -/
theorem hyps_of_pre [Cert.Pre_in_range.Facts] {x xs dy dys w ws a b}
    (h : Cert.Pre_in_range.fn (F := F) x xs dy dys w ws a b (m (((0 : Dev nD).tc : Thread nD τ).loc main_arg8)) = fun _ => 1#1) : Hyps m (ok m) :=
  hyps m fun y => by rw [tbl_eq]; exact Cert.Pre.ids_lt h y

end Cert.KernelIdeal.Words

end
-- ==== Proof.Value.Slab.lean ====
/- Stores into one slab of a stack of matrices: what the stack holds after a store that adds to what it loaded from the same slab. -/
module

public import Idealize.ShloMosaic.Lib.Pipeline.ValueKit
public import Idealize.ShloMosaic.Lib.Pipeline.ReadBack

@[expose] public section

set_option maxRecDepth 16384

noncomputable section

namespace Cert.Slab

open Idealize.ShloMosaic Idealize.ShloMosaic.TcCoe

variable {Val : EltTy → Type} [∀ e, Nonempty (Val e)] {sig : RefSig} {κ : Kind} {sp : Space} {e : EltTy} {A R K : ℕ}

theorem emb_slab (o : Fin 3 → ℕ) (inb : ∀ a, o a + (![1, R, K] : Fin 3 → ℕ) a ≤ (⟨3, ![A, R, K]⟩ : Shape).size a) (a0 : Fin A)
    (ho : o 0 = a0.val ∧ o 1 = 0 ∧ o 2 = 0) (r : Fin R) (k : Fin K) :
    (Rect.unit (s := ⟨3, ![A, R, K]⟩) o ![1, R, K] inb).emb (ix3 (0 : Fin 1) r k) = ix3 a0 r k := by
  obtain ⟨h0, h1, h2⟩ := ho
  refine funext fun a => Fin.ext ?_
  match a with
  | 0 => show o 0 + 1 * 0 = a0.val; omega
  | 1 => show o 1 + 1 * r.val = r.val; omega
  | 2 => show o 2 + 1 * k.val = k.val; omega

/-- After a store into slab `a0`, the stack holds the stored matrix there, and elsewhere what it held before. -/
theorem canon_slab (L : List (View.Piece Val (⟨3, ![A, R, K]⟩ : Shape) e)) (o : Fin 3 → ℕ)
    (inb : ∀ a, o a + (![1, R, K] : Fin 3 → ℕ) a ≤ (⟨3, ![A, R, K]⟩ : Shape).size a) (a0 : Fin A)
    (ho : o 0 = a0.val ∧ o 1 = 0 ∧ o 2 = 0) (w : (Rect.unit (s := ⟨3, ![A, R, K]⟩) o ![1, R, K] inb).shape.Idx → Val e)
    (a : Fin A) (r : Fin R) (k : Fin K) :
    View.canon (⟨Rect.unit (s := ⟨3, ![A, R, K]⟩) o ![1, R, K] inb, w⟩ :: L) (ix3 a r k) = if a = a0 then w (ix3 (0 : Fin 1) r k) else View.canon L (ix3 a r k) := by
  by_cases h : a = a0
  · subst h
    rw [if_pos rfl, ← emb_slab o inb a ho r k]
    exact View.canon_cons_emb _ _ _ _
  · rw [if_neg h]
    refine View.canon_cons_of_not_mem _ _ ?_
    intro hm
    have h2 : o 0 ≤ a.val ∧ a.val < o 0 + 1 := (Rect.mem_set_unit (inb := inb)).mp hm 0
    exact h (Fin.ext (by have := ho.1; omega))

/-- A load of slab `a0` of what the stores left. -/
theorem read_slab (v : View sig κ sp (⟨3, ![A, R, K]⟩ : Shape) e) (L : List (View.Piece Val (⟨3, ![A, R, K]⟩ : Shape) e)) (o : Fin 3 → ℕ)
    (inb : ∀ a, o a + (![1, R, K] : Fin 3 → ℕ) a ≤ (⟨3, ![A, R, K]⟩ : Shape).size a) (a0 : Fin A)
    (ho : o 0 = a0.val ∧ o 1 = 0 ∧ o 2 = 0) (r : Fin R) (k : Fin K) :
    v.readAt Val (Rect.unit (s := ⟨3, ![A, R, K]⟩) o ![1, R, K] inb).toLoadRect (v.writes Val v.junk L) (ix3 (0 : Fin 1) r k) = View.canon L (ix3 a0 r k) := by
  rw [View.readAt_writes_junk_eq_canon]
  exact congrArg (View.canon L) (emb_slab o inb a0 ho r k)

/-- A store into slab `a0` of what was loaded from there plus `x` adds `x` to the stack, in that slab alone. -/
theorem canon_slab_add (v : View sig κ sp (⟨3, ![A, R, K]⟩ : Shape) .f32) (L : List (View.Piece (Elt Ideal) (⟨3, ![A, R, K]⟩ : Shape) .f32)) (o : Fin 3 → ℕ)
    (inb : ∀ a, o a + (![1, R, K] : Fin 3 → ℕ) a ≤ (⟨3, ![A, R, K]⟩ : Shape).size a) (a0 : Fin A)
    (ho : o 0 = a0.val ∧ o 1 = 0 ∧ o 2 = 0) (w : (Rect.unit (s := ⟨3, ![A, R, K]⟩) o ![1, R, K] inb).shape.Idx → EReal)
    (x : Fin R → Fin K → EReal)
    (hw : ∀ r k, w (ix3 (0 : Fin 1) r k) = (show EReal from v.readAt (Elt Ideal) (Rect.unit (s := ⟨3, ![A, R, K]⟩) o ![1, R, K] inb).toLoadRect (v.writes (Elt Ideal) v.junk L) (ix3 (0 : Fin 1) r k)) + x r k)
    (a : Fin A) (r : Fin R) (k : Fin K) (z : EReal) (hz : View.canon L (ix3 a r k) = z) :
    View.canon ((⟨Rect.unit (s := ⟨3, ![A, R, K]⟩) o ![1, R, K] inb, w⟩ : View.Piece (Elt Ideal) (⟨3, ![A, R, K]⟩ : Shape) .f32) :: L) (ix3 a r k) = z + if a = a0 then x r k else 0 := by
  refine (canon_slab (Val := Elt Ideal) L o inb a0 ho w a r k).trans ?_
  by_cases h : a = a0
  · subst h
    rw [if_pos rfl, if_pos rfl, hw, ← hz]
    exact congrArg (· + x r k) (read_slab v L o inb a ho r k)
  · rw [if_neg h, if_neg h, hz, add_zero]

end Cert.Slab

end
-- ==== Proof.Value.Pay.lean ====
/- What the last point computes from its loads: the three-way split of a value, a low-rank product over split values, and one block of rows of the gradient. -/
module

public import proofs.«01_k».proof.Proof.Run.Data
public import proofs.«01_k».proof.Proof.Value.Slab

@[expose] public section

set_option maxRecDepth 16384

noncomputable section

namespace Cert.KernelIdeal.Gen

open Idealize.ShloMosaic Idealize.ShloMosaic.TcCoe
open Idealize.SL.Sem

variable (m : (ℓ : Loc nD τ sig) → Buf (Elt Ideal) ℓ)

/-- The three pieces of a split of `v`: the value, what rounding dropped of it, and what rounding dropped of that. -/
def split3 (v : EReal) : Fin 3 → EReal
  | 0 => v
  | 1 => v - v
  | 2 => v - v - (v - v)

theorem sub2 {x y : EReal} (h : x = y) : x - x = y - y := by rw [h]

theorem sub3 {x y : EReal} (h : x = y) : x - x - (x - x) = y - y - (y - y) := by rw [h]

/-- Twice the contraction of split values with `x`, the three pieces one after the other. -/
def lowd {n : ℕ} (v x : Fin n → EReal) : EReal :=
  Ideal.ofBits .f32 0x40000000#32 * ((∑ j, split3 (v j) 0 * x j) + (∑ j, split3 (v j) 1 * x j) + (∑ j, split3 (v j) 2 * x j))

/-- The contraction of `a` with split values, the three pieces one after the other. -/
def lowx {n : ℕ} (a v : Fin n → EReal) : EReal :=
  (∑ r, a r * split3 (v r) 0) + ((∑ r, a r * split3 (v r) 1) + (∑ r, a r * split3 (v r) 2))

/-- A contraction over three stacked bands of rows is the sum of the three bands' contractions. -/
theorem cat_sum (a v : Fin 32 → EReal) :
    (∑ x : Fin 96, (if h : x.val < 32 then a ⟨x.val, h⟩ else if h : x.val - 32 < 32 then a ⟨x.val - 32, h⟩ else a ⟨x.val - 32 - 32, by omega⟩)
      * (if h : x.val < 32 then v ⟨x.val, h⟩ else if h : x.val - 32 < 32 then v ⟨x.val - 32, h⟩ - v ⟨x.val - 32, h⟩
        else v ⟨x.val - 32 - 32, by omega⟩ - v ⟨x.val - 32 - 32, by omega⟩ - (v ⟨x.val - 32 - 32, by omega⟩ - v ⟨x.val - 32 - 32, by omega⟩))) = lowx a v := by
  refine (Fin.sum_univ_add (a := 32) (b := 64) _).trans ?_
  refine (congrArg (_ + ·) (Fin.sum_univ_add (a := 32) (b := 32) _)).trans ?_
  unfold lowx
  refine congrArg₂ (· + ·) (Finset.sum_congr rfl fun r _ => ?_) (congrArg₂ (· + ·) (Finset.sum_congr rfl fun r _ => ?_) (Finset.sum_congr rfl fun r _ => ?_))
  · have h : (Fin.castAdd 64 r : Fin (32 + 64)).val < 32 := r.isLt
    rw [dif_pos h, dif_pos h]; rfl
  · have h : ¬(Fin.natAdd 32 (Fin.castAdd 32 r : Fin (32 + 32)) : Fin (32 + 64)).val < 32 := by simp
    have h' : (Fin.natAdd 32 (Fin.castAdd 32 r : Fin (32 + 32)) : Fin (32 + 64)).val - 32 < 32 := by simp
    rw [dif_neg h, dif_neg h, dif_pos h', dif_pos h']
    have e : (⟨(Fin.natAdd 32 (Fin.castAdd 32 r : Fin (32 + 32)) : Fin (32 + 64)).val - 32, h'⟩ : Fin 32) = r := Fin.ext (by simp)
    rw [e]; rfl
  · have h : ¬(Fin.natAdd 32 (Fin.natAdd 32 r : Fin (32 + 32)) : Fin (32 + 64)).val < 32 := by simp
    have h' : ¬(Fin.natAdd 32 (Fin.natAdd 32 r : Fin (32 + 32)) : Fin (32 + 64)).val - 32 < 32 := by simp
    rw [dif_neg h, dif_neg h, dif_neg h', dif_neg h']
    have e : (⟨(Fin.natAdd 32 (Fin.natAdd 32 r : Fin (32 + 32)) : Fin (32 + 64)).val - 32 - 32, by simp⟩ : Fin 32) = r := Fin.ext (by simp)
    rw [e]; rfl

/-- Row `64 + r` of three stacked bands of 32 rows is row `r` of the third. -/
theorem row2 (v : Fin 32 → EReal) (r : Fin 32) :
    (if h : 64 + r.val < 32 then v ⟨64 + r.val, h⟩ else if h : 64 + r.val - 32 < 32 then v ⟨64 + r.val - 32, h⟩ - v ⟨64 + r.val - 32, h⟩
      else v ⟨64 + r.val - 32 - 32, by omega⟩ - v ⟨64 + r.val - 32 - 32, by omega⟩ - (v ⟨64 + r.val - 32 - 32, by omega⟩ - v ⟨64 + r.val - 32 - 32, by omega⟩))
      = v r - v r - (v r - v r) := by
  have h : ¬(64 + r.val < 32) := by omega
  have h' : ¬(64 + r.val - 32 < 32) := by omega
  rw [dif_neg h, dif_neg h']
  have e : (⟨64 + r.val - 32 - 32, by omega⟩ : Fin 32) = r := Fin.ext (by show 64 + r.val - 32 - 32 = r.val; omega)
  rw [e]

/-- The slab of the first adapters' gradient that sequence 0 stores: the loaded one plus its low-rank product. -/
theorem dat0_at (t : Vec Ideal S1x32x384 .f32) (dys xs : Vec Ideal S1x384 .f32) (x : Vec Ideal S384x2048 .fp8e4m3) (o : Vec Ideal S1x32x2048 .f32) (r : Fin 32) (i : Fin 2048) :
    k0_pay48 (k0_pay46 t dys xs x) (k0_pay47 o) (Scalar.ofBits .f32 0x40000000#32) (ix3 0 r i) = (show EReal from o (ix3 0 r i)) + lowd (fun j : Fin 384 => (show EReal from t (ix3 0 r j)) * (show EReal from dys (ix2 0 j)) * (show EReal from xs (ix2 0 j))) (fun j => (show EReal from x (ix2 j i))) := by
  pointwise [k0_pay48, k0_pay47, k0_pay46, k0_pay44, k0_pay43]
  exact congrArg₂ (· + ·) rfl (congrArg₂ (· * ·) rfl (congrArg₂ (· + ·) rfl (Finset.sum_congr rfl fun j _ =>
    congrArg (· * (show EReal from x (ix2 j i))) (row2 (fun r : Fin 32 => ((show EReal from t (ix3 0 r j)) * (show EReal from dys (ix2 0 j)) * (show EReal from xs (ix2 0 j)))) r))))

/-- The block of rows of the gradient of the input that sequence 0 stores. -/
theorem dx0_at (t : Vec Ideal S1x32x384 .f32) (dys : Vec Ideal S1x384 .f32) (a : Vec Ideal S1x32x2048 .bf16) (g : Vec Ideal S2048x384 .f32) (j : Fin 384) (i : Fin 2048) :
    k0_pay49 (k0_pay43 t) a g dys (ix2 j i) = ((show EReal from g (ix2 i j)) + lowx (fun r : Fin 32 => (show EReal from a (ix3 0 r i))) (fun r => Ideal.ofBits .f32 0x40000000#32 * (show EReal from t (ix3 0 r j)))) * (show EReal from dys (ix2 0 j)) := by
  pointwise [k0_pay49, k0_pay43]
  exact congrArg (fun z => ((show EReal from g (ix2 i j)) + z) * (show EReal from dys (ix2 0 j))) (cat_sum (fun r : Fin 32 => (show EReal from a (ix3 0 r i))) (fun r => Ideal.ofBits .f32 0x40000000#32 * (show EReal from t (ix3 0 r j))))

/-- The scaled low-rank product that sequence 0 stores. -/
theorem tt0_at (t : Vec Ideal S1x32x384 .f32) (dys : Vec Ideal S1x384 .f32) (r : Fin 32) (j : Fin 384) :
    k0_pay45 t dys (ix3 0 r j) = (show EReal from t (ix3 0 r j)) * (show EReal from dys (ix2 0 j)) := by
  pointwise [k0_pay45, k0_pay44, k0_pay43]

/-- The slab of the first adapters' gradient that sequence 1 stores: the loaded one plus its low-rank product. -/
theorem dat1_at (t : Vec Ideal S1x32x384 .f32) (dys xs : Vec Ideal S1x384 .f32) (x : Vec Ideal S384x2048 .fp8e4m3) (o : Vec Ideal S1x32x2048 .f32) (r : Fin 32) (i : Fin 2048) :
    k0_pay53 (k0_pay51 t dys) xs x o (ix3 0 r i) = (show EReal from o (ix3 0 r i)) + lowd (fun j : Fin 384 => (show EReal from t (ix3 0 r j)) * (show EReal from dys (ix2 0 j)) * (show EReal from xs (ix2 0 j))) (fun j => (show EReal from x (ix2 j i))) := by
  pointwise [k0_pay53, k0_pay51, k0_pay50]
  exact congrArg₂ (· + ·) rfl (congrArg₂ (· * ·) rfl (congrArg₂ (· + ·) rfl (Finset.sum_congr rfl fun j _ =>
    congrArg (· * (show EReal from x (ix2 j i))) (row2 (fun r : Fin 32 => ((show EReal from t (ix3 0 r j)) * (show EReal from dys (ix2 0 j)) * (show EReal from xs (ix2 0 j)))) r))))

/-- The block of rows of the gradient of the input that sequence 1 stores. -/
theorem dx1_at (t : Vec Ideal S1x32x384 .f32) (dys : Vec Ideal S1x384 .f32) (a : Vec Ideal S1x32x2048 .bf16) (g : Vec Ideal S2048x384 .f32) (j : Fin 384) (i : Fin 2048) :
    k0_pay55 (k0_pay50 t) (k0_pay54 a) g dys (ix2 j i) = ((show EReal from g (ix2 i j)) + lowx (fun r : Fin 32 => (show EReal from a (ix3 0 r i))) (fun r => Ideal.ofBits .f32 0x40000000#32 * (show EReal from t (ix3 0 r j)))) * (show EReal from dys (ix2 0 j)) := by
  pointwise [k0_pay55, k0_pay54, k0_pay50]
  exact congrArg (fun z => ((show EReal from g (ix2 i j)) + z) * (show EReal from dys (ix2 0 j))) (cat_sum (fun r : Fin 32 => (show EReal from a (ix3 0 r i))) (fun r => Ideal.ofBits .f32 0x40000000#32 * (show EReal from t (ix3 0 r j))))

/-- The scaled low-rank product that sequence 1 stores. -/
theorem tt1_at (t : Vec Ideal S1x32x384 .f32) (dys : Vec Ideal S1x384 .f32) (r : Fin 32) (j : Fin 384) :
    k0_pay52 (k0_pay51 t dys) (ix3 0 r j) = (show EReal from t (ix3 0 r j)) * (show EReal from dys (ix2 0 j)) := by
  pointwise [k0_pay52, k0_pay51, k0_pay50]

/-- The slab of the first adapters' gradient that sequence 2 stores: the loaded one plus its low-rank product. -/
theorem dat2_at (t : Vec Ideal S1x32x384 .f32) (dys xs : Vec Ideal S1x384 .f32) (x : Vec Ideal S384x2048 .fp8e4m3) (o : Vec Ideal S1x32x2048 .f32) (r : Fin 32) (i : Fin 2048) :
    k0_pay64 (k0_pay60 t dys xs) (k0_pay61 t dys xs) (k0_pay62 t dys xs) (k0_pay63 t dys xs) x o (ix3 0 r i) = (show EReal from o (ix3 0 r i)) + lowd (fun j : Fin 384 => (show EReal from t (ix3 0 r j)) * (show EReal from dys (ix2 0 j)) * (show EReal from xs (ix2 0 j))) (fun j => (show EReal from x (ix2 j i))) := by
  pointwise [k0_pay64, k0_pay63, k0_pay62, k0_pay61, k0_pay60, k0_pay59, k0_pay57, k0_pay56]
  exact congrArg₂ (· + ·) rfl (congrArg₂ (· * ·) rfl (congrArg₂ (· + ·) rfl (Finset.sum_congr rfl fun j _ =>
    congrArg (· * (show EReal from x (ix2 j i))) (row2 (fun r : Fin 32 => ((show EReal from t (ix3 0 r j)) * (show EReal from dys (ix2 0 j)) * (show EReal from xs (ix2 0 j)))) r))))

/-- The block of rows of the gradient of the input that sequence 2 stores. -/
theorem dx2_at (t : Vec Ideal S1x32x384 .f32) (dys : Vec Ideal S1x384 .f32) (a : Vec Ideal S1x32x2048 .bf16) (g : Vec Ideal S2048x384 .f32) (j : Fin 384) (i : Fin 2048) :
    k0_pay66 g (k0_pay65 (k0_pay56 t) a) dys (ix2 j i) = ((show EReal from g (ix2 i j)) + lowx (fun r : Fin 32 => (show EReal from a (ix3 0 r i))) (fun r => Ideal.ofBits .f32 0x40000000#32 * (show EReal from t (ix3 0 r j)))) * (show EReal from dys (ix2 0 j)) := by
  pointwise [k0_pay66, k0_pay65, k0_pay56]
  exact congrArg (fun z => ((show EReal from g (ix2 i j)) + z) * (show EReal from dys (ix2 0 j))) (cat_sum (fun r : Fin 32 => (show EReal from a (ix3 0 r i))) (fun r => Ideal.ofBits .f32 0x40000000#32 * (show EReal from t (ix3 0 r j))))

/-- The scaled low-rank product that sequence 2 stores. -/
theorem tt2_at (t : Vec Ideal S1x32x384 .f32) (dys : Vec Ideal S1x384 .f32) (r : Fin 32) (j : Fin 384) :
    k0_pay58 t dys (ix3 0 r j) = (show EReal from t (ix3 0 r j)) * (show EReal from dys (ix2 0 j)) := by
  pointwise [k0_pay58, k0_pay57, k0_pay56]

/-- The slab of the first adapters' gradient that sequence 3 stores: the loaded one plus its low-rank product. -/
theorem dat3_at (t : Vec Ideal S1x32x384 .f32) (dys xs : Vec Ideal S1x384 .f32) (x : Vec Ideal S384x2048 .fp8e4m3) (o : Vec Ideal S1x32x2048 .f32) (r : Fin 32) (i : Fin 2048) :
    k0_pay71 (k0_pay70 t dys xs x) o (ix3 0 r i) = (show EReal from o (ix3 0 r i)) + lowd (fun j : Fin 384 => (show EReal from t (ix3 0 r j)) * (show EReal from dys (ix2 0 j)) * (show EReal from xs (ix2 0 j))) (fun j => (show EReal from x (ix2 j i))) := by
  pointwise [k0_pay71, k0_pay70, k0_pay68, k0_pay67]
  exact congrArg₂ (· + ·) rfl (congrArg₂ (· * ·) rfl (congrArg₂ (· + ·) rfl (Finset.sum_congr rfl fun j _ =>
    congrArg (· * (show EReal from x (ix2 j i))) (row2 (fun r : Fin 32 => ((show EReal from t (ix3 0 r j)) * (show EReal from dys (ix2 0 j)) * (show EReal from xs (ix2 0 j)))) r))))

/-- The block of rows of the gradient of the input that sequence 3 stores. -/
theorem dx3_at (t : Vec Ideal S1x32x384 .f32) (dys : Vec Ideal S1x384 .f32) (a : Vec Ideal S1x32x2048 .bf16) (g : Vec Ideal S2048x384 .f32) (j : Fin 384) (i : Fin 2048) :
    k0_pay72 (k0_pay67 t) a g dys (ix2 j i) = ((show EReal from g (ix2 i j)) + lowx (fun r : Fin 32 => (show EReal from a (ix3 0 r i))) (fun r => Ideal.ofBits .f32 0x40000000#32 * (show EReal from t (ix3 0 r j)))) * (show EReal from dys (ix2 0 j)) := by
  pointwise [k0_pay72, k0_pay67]
  exact congrArg (fun z => ((show EReal from g (ix2 i j)) + z) * (show EReal from dys (ix2 0 j))) (cat_sum (fun r : Fin 32 => (show EReal from a (ix3 0 r i))) (fun r => Ideal.ofBits .f32 0x40000000#32 * (show EReal from t (ix3 0 r j))))

/-- The scaled low-rank product that sequence 3 stores. -/
theorem tt3_at (t : Vec Ideal S1x32x384 .f32) (dys : Vec Ideal S1x384 .f32) (r : Fin 32) (j : Fin 384) :
    k0_pay69 t dys (ix3 0 r j) = (show EReal from t (ix3 0 r j)) * (show EReal from dys (ix2 0 j)) := by
  pointwise [k0_pay69, k0_pay68, k0_pay67]

/-- A load of the columns from `c0` on of what the stores left. -/
theorem read_cols {sp : Space} {A B K : ℕ} (v : View sig .tc sp (⟨2, ![A, B]⟩ : Shape) .f32) (L : List (View.Piece (Elt Ideal) (⟨2, ![A, B]⟩ : Shape) .f32)) (o : Fin 2 → ℕ)
    (inb : ∀ a, o a + (![A, K] : Fin 2 → ℕ) a ≤ (⟨2, ![A, B]⟩ : Shape).size a) (c0 : ℕ) (ho : o 0 = 0 ∧ o 1 = c0) (i : Fin A) (j : Fin K) (hc : c0 + j.val < B) :
    v.readAt (Elt Ideal) (Rect.unit (s := ⟨2, ![A, B]⟩) o ![A, K] inb).toLoadRect (v.writes (Elt Ideal) v.junk L) (ix2 i j) = View.canon L (ix2 i ⟨c0 + j.val, hc⟩) := by
  rw [View.readAt_writes_junk_eq_canon]
  refine congrArg (View.canon L) ?_
  obtain ⟨h0, h1⟩ := ho
  refine funext fun a => Fin.ext ?_
  match a with
  | 0 => show o 0 + 1 * i.val = i.val; omega
  | 1 => show o 1 + 1 * j.val = c0 + j.val; omega

end Cert.KernelIdeal.Gen

end
-- ==== Proof.Value.Math.lean ====
/- The mathematics of the five results over extended reals: as the reference computes them, and that the kernel's arrangement
   of the same sums agrees when the factors are real numbers. -/
module

public import proofs.«01_k».proof.Proof.Value.Pay

@[expose] public section

set_option maxRecDepth 16384

noncomputable section

namespace Cert.Lora

open Idealize.ShloMosaic Cert.KernelIdeal.Gen

/-- The constant 2 that both programs multiply by. -/
abbrev two : EReal := Ideal.ofBits .f32 0x40000000#32

/-- An extended real that is a real number. -/
def IsR (x : EReal) : Prop := ∃ r : ℝ, x = r

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

/-- The sum of real numbers, as an extended real. -/
theorem coe_sum {n : ℕ} (f : Fin n → ℝ) : ∑ i, (f i : EReal) = ((∑ i, f i : ℝ) : EReal) := by
  induction n with
  | zero => simp
  | succ n ih => rw [Fin.sum_univ_succ, Fin.sum_univ_succ, ih, EReal.coe_add]

theorem IsR.sum {n : ℕ} {f : Fin n → EReal} (h : ∀ i, IsR (f i)) : IsR (∑ i, f i) := by
  choose g hg using h
  exact ⟨∑ i, g i, by rw [← coe_sum]; exact Finset.sum_congr rfl fun i _ => hg i⟩

/-- A code whose exponent is not all ones denotes a real number. -/
theorem isR_ieee {e m w : ℕ} (b : BitVec w) (h : ¬(b.extractLsb' m e).toNat = 2 ^ e - 1) : IsR (Ideal.ieee e m b) := by
  unfold Ideal.ieee
  dsimp only
  rw [if_neg h]
  split <;> exact ⟨_, rfl⟩

/-- A code of the narrower format that is not the one NaN denotes a real number. -/
theorem isR_e4m3 (b : BitVec 8) (h : ¬((b.extractLsb' 3 4).toNat = 15 ∧ (b.extractLsb' 0 3).toNat = 7)) : IsR (Ideal.e4m3fn b) := by
  unfold Ideal.e4m3fn
  dsimp only
  rw [if_neg h]
  split <;> exact ⟨_, rfl⟩

theorem isR_two : IsR two := isR_ieee (e := 8) (m := 23) 0x40000000#32 (by decide)

/-- The pieces of a real number are the number itself and twice zero. -/
theorem split3_0 (v : EReal) : split3 v 0 = v := rfl
theorem split3_1 {v : EReal} (h : IsR v) : split3 v 1 = 0 := by
  obtain ⟨r, rfl⟩ := h
  show (r : EReal) - r = 0
  rw [← EReal.coe_sub, sub_self]; rfl
theorem split3_2 {v : EReal} (h : IsR v) : split3 v 2 = 0 := by
  obtain ⟨r, rfl⟩ := h
  show (r : EReal) - r - (r - r) = 0
  rw [← EReal.coe_sub, sub_self]; simp

/-- A contraction with split real values is twice the plain contraction. -/
theorem lowd_eq {n : ℕ} {v x : Fin n → EReal} (h : ∀ j, IsR (v j)) : lowd v x = two * ∑ j, v j * x j := by
  unfold lowd
  rw [Finset.sum_congr rfl fun j _ => show split3 (v j) 1 * x j = 0 by rw [split3_1 (h j), zero_mul],
    Finset.sum_congr rfl fun j _ => show split3 (v j) 2 * x j = 0 by rw [split3_2 (h j), zero_mul]]
  simp only [Finset.sum_const_zero, add_zero, split3_0]

/-- The same without the factor. -/
theorem lowx_eq {n : ℕ} {a v : Fin n → EReal} (h : ∀ j, IsR (v j)) : lowx a v = ∑ j, a j * v j := by
  unfold lowx
  rw [Finset.sum_congr rfl fun j _ => show a j * split3 (v j) 1 = 0 by rw [split3_1 (h j), mul_zero],
    Finset.sum_congr rfl fun j _ => show a j * split3 (v j) 2 = 0 by rw [split3_2 (h j), mul_zero]]
  simp only [Finset.sum_const_zero, add_zero, split3_0]

/-- A real factor distributes over a sum of which one term is real. -/
theorem add_mul_real (G : EReal) {L D : EReal} (hL : IsR L) (hD : IsR D) : (G + L) * D = G * D + L * D := by
  obtain ⟨l, rfl⟩ := hL
  obtain ⟨d, rfl⟩ := hD
  induction G with
  | coe g => rw [← EReal.coe_add, ← EReal.coe_mul, ← EReal.coe_mul, ← EReal.coe_mul, ← EReal.coe_add, add_mul]
  | top =>
    rw [EReal.top_add_coe, ← EReal.coe_mul]
    rcases lt_trichotomy d 0 with h | h | h
    · rw [EReal.top_mul_coe_of_neg h, EReal.bot_add]
    · subst h; simp
    · rw [EReal.top_mul_coe_of_pos h, EReal.top_add_coe]
  | bot =>
    rw [EReal.bot_add, ← EReal.coe_mul]
    rcases lt_trichotomy d 0 with h | h | h
    · rw [EReal.bot_mul_coe_of_neg h, EReal.top_add_coe]
    · subst h; simp
    · rw [EReal.bot_mul_coe_of_pos h, EReal.bot_add]

/-- The factor of the output gradient's row moves inside the low-rank sum. -/
theorem low_mul {n : ℕ} {a t : Fin n → EReal} {D : EReal} (ha : ∀ r, IsR (a r)) (ht : ∀ r, IsR (t r)) (hD : IsR D) :
    (∑ r, a r * (two * t r)) * D = two * ∑ r, t r * D * a r := by
  choose a' ha' using ha
  choose t' ht' using ht
  obtain ⟨d, rfl⟩ := hD
  obtain ⟨c, hc⟩ := isR_two
  rw [hc]
  simp only [ha', ht', ← EReal.coe_mul, coe_sum]
  rw [Finset.sum_mul, Finset.mul_sum]
  exact congrArg _ (Finset.sum_congr rfl fun r _ => by ring)

variable (X : Fin 4 → Fin 384 → Fin 2048 → EReal) (XS : Fin 4 → Fin 384 → EReal) (DY : Fin 4 → Fin 384 → Fin 8192 → EReal) (DYS : Fin 4 → Fin 384 → EReal)
  (W : Fin 2048 → Fin 8192 → EReal) (WS : Fin 8192 → EReal) (A : Fin 5 → Fin 2048 → Fin 32 → EReal) (B : Fin 5 → Fin 32 → Fin 8192 → EReal) (ad : Fin 4 → Fin 5)

/-! ## The reference's results -/

/-- The low-rank image of the scaled output gradient, `t`. -/
def T (q : Fin 4) (j : Fin 384) (r : Fin 32) : EReal := (∑ o, DY q j o * B (ad q) r o) * DYS q j
/-- The low-rank image of the scaled activations, `xa`. -/
def XA (q : Fin 4) (j : Fin 384) (r : Fin 32) : EReal := (∑ i, X q j i * A (ad q) i r) * XS q j
/-- The gradient of the activations, `dx`. -/
def DX (q : Fin 4) (j : Fin 384) (i : Fin 2048) : EReal :=
  (∑ o, DY q j o * (W i o * WS o)) * DYS q j + two * ∑ r, T DY DYS B ad q j r * A (ad q) i r
/-- One sequence's part of the gradient of the first factors, -/
def DAs (q : Fin 4) (i : Fin 2048) (r : Fin 32) : EReal := two * ∑ j, X q j i * (XS q j * T DY DYS B ad q j r)
/-- one sequence's part of the gradient of the second factors, -/
def DBs (q : Fin 4) (r : Fin 32) (o : Fin 8192) : EReal := two * ∑ j, (XA X XS A ad q j r * DYS q j) * DY q j o
/-- and a gradient of one adapter from the sequences' parts: the sum over the sequences that name the adapter. -/
def seg (a : Fin 5) (f : Fin 4 → EReal) : EReal := ∑ q, if a = ad q then f q else 0

/-! ## The kernel's sums -/

/-- The unscaled low-rank image of the output gradient. -/
def kT (q : Fin 4) (r : Fin 32) (j : Fin 384) : EReal := ∑ o, B (ad q) r o * DY q j o
/-- The frozen weight's part of the gradient of the activations, unscaled. -/
def kG (i : Fin 2048) (q : Fin 4) (j : Fin 384) : EReal := ∑ o, W i o * WS o * DY q j o
/-- The low-rank image of the scaled activations. -/
def kXA (q : Fin 4) (r : Fin 32) (j : Fin 384) : EReal := (∑ i, A (ad q) i r * X q j i) * XS q j

theorem kT_mul (q : Fin 4) (r : Fin 32) (j : Fin 384) : kT DY B ad q r j * DYS q j = T DY DYS B ad q j r :=
  congrArg (· * DYS q j) (Finset.sum_congr rfl fun _ _ => mul_comm _ _)

theorem kXA_eq (q : Fin 4) (r : Fin 32) (j : Fin 384) : kXA X XS A ad q r j = XA X XS A ad q j r :=
  congrArg (· * XS q j) (Finset.sum_congr rfl fun _ _ => mul_comm _ _)

theorem seg_eq (a : Fin 5) (f g : Fin 4 → EReal) (h : ∀ q, f q = g q) :
    (0 : EReal) + (if a = ad 0 then f 0 else 0) + (if a = ad 1 then f 1 else 0) + (if a = ad 2 then f 2 else 0) + (if a = ad 3 then f 3 else 0) = seg ad a g := by
  unfold seg
  rw [Fin.sum_univ_four, zero_add, h, h, h, h]

variable {X XS DY DYS W WS A B ad}

/-- The activations' gradient as the kernel computes it is the reference's. -/
theorem dx_eq (hDY : ∀ q j o, IsR (DY q j o)) (hDYS : ∀ q j, IsR (DYS q j)) (hA : ∀ a i r, IsR (A a i r)) (hB : ∀ a r o, IsR (B a r o))
    (q : Fin 4) (j : Fin 384) (i : Fin 2048) :
    (kG DY W WS i q j + lowx (fun r => A (ad q) i r) (fun r => two * kT DY B ad q r j)) * DYS q j = DX DY DYS W WS A B ad q j i := by
  have ht : ∀ r, IsR (kT DY B ad q r j) := fun r => IsR.sum fun o => (hB _ _ _).mul (hDY _ _ _)
  have hl : ∀ r, IsR (two * kT DY B ad q r j) := fun r => isR_two.mul (ht r)
  rw [lowx_eq hl, add_mul_real _ (IsR.sum fun r => (hA _ _ _).mul (hl r)) (hDYS q j), low_mul (fun r => hA _ _ _) ht (hDYS q j)]
  unfold DX kG
  simp only [kT_mul]
  exact congrArg (fun z => z * DYS q j + _) (Finset.sum_congr rfl fun o _ => mul_comm _ _)

/-- One sequence's part of the first factors' gradient as the kernel computes it is the reference's. -/
theorem da_eq (hXS : ∀ q j, IsR (XS q j)) (hDY : ∀ q j o, IsR (DY q j o)) (hDYS : ∀ q j, IsR (DYS q j)) (hB : ∀ a r o, IsR (B a r o))
    (q : Fin 4) (r : Fin 32) (i : Fin 2048) :
    lowd (fun j => kT DY B ad q r j * DYS q j * XS q j) (fun j => X q j i) = DAs X XS DY DYS B ad q i r := by
  have ht : ∀ j, IsR (kT DY B ad q r j) := fun j => IsR.sum fun o => (hB _ _ _).mul (hDY _ _ _)
  rw [lowd_eq fun j => ((ht j).mul (hDYS q j)).mul (hXS q j)]
  unfold DAs
  refine congrArg (two * ·) (Finset.sum_congr rfl fun j _ => ?_)
  rw [kT_mul, mul_comm (T DY DYS B ad q j r) (XS q j), mul_comm]

/-- One sequence's part of the second factors' gradient as the kernel computes it is the reference's. -/
theorem db_eq (hX : ∀ q j i, IsR (X q j i)) (hXS : ∀ q j, IsR (XS q j)) (hDYS : ∀ q j, IsR (DYS q j)) (hA : ∀ a i r, IsR (A a i r))
    (q : Fin 4) (r : Fin 32) (o : Fin 8192) :
    lowd (fun j => kXA X XS A ad q r j * DYS q j) (fun j => DY q j o) = DBs X XS DY DYS A ad q r o := by
  have hx : ∀ j, IsR (kXA X XS A ad q r j) := fun j => (IsR.sum fun i => (hA _ _ _).mul (hX _ _ _)).mul (hXS q j)
  rw [lowd_eq fun j => (hx j).mul (hDYS q j)]
  unfold DBs
  simp only [kXA_eq]

end Cert.Lora

end
-- ==== Proof.Value.Blocks.lean ====
/- What the staged blocks hold, in terms of the argument arrays: each input window's block at a grid point, read at an index. -/
module

public import proofs.«01_k».proof.Proof.Run.Data
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ)

/-- The samples' activations: the codes of `x` read as floats. -/
def aX (c : Dev nD) (q : Fin 4) (j : Fin 384) (i : Fin 2048) : EReal := bitcastToFloat (F := Ideal) .fp8e4m3 (m ((c.tc : Thread nD τ).loc main_arg0)) (ix3 q j i)
/-- The scale of each row of `x`. -/
def aXS (c : Dev nD) (q : Fin 4) (j : Fin 384) : EReal := (m ((c.tc : Thread nD τ).loc main_arg1) : S4x384.Idx → EReal) (ix2 q j)
/-- The output gradients: the codes of `dy` read as floats. -/
def aDY (c : Dev nD) (q : Fin 4) (j : Fin 384) (o : Fin 8192) : EReal := bitcastToFloat (F := Ideal) .fp8e5m2 (m ((c.tc : Thread nD τ).loc main_arg2)) (ix3 q j o)
/-- The scale of each row of `dy`. -/
def aDYS (c : Dev nD) (q : Fin 4) (j : Fin 384) : EReal := (m ((c.tc : Thread nD τ).loc main_arg3) : S4x384.Idx → EReal) (ix2 q j)
/-- The frozen weight. -/
def aW (c : Dev nD) (i : Fin 2048) (o : Fin 8192) : EReal := (m ((c.tc : Thread nD τ).loc main_arg4) : S2048x8192.Idx → EReal) (ix2 i o)
/-- The scale of each column of the frozen weight. -/
def aWS (c : Dev nD) (o : Fin 8192) : EReal := (m ((c.tc : Thread nD τ).loc main_arg5) : S8192.Idx → EReal) (ix1 o)
/-- The adapters' first factors. -/
def aA (c : Dev nD) (a : Fin 5) (i : Fin 2048) (r : Fin 32) : EReal := (m ((c.tc : Thread nD τ).loc main_arg6) : S5x2048x32.Idx → EReal) (ix3 a i r)
/-- The adapters' second factors. -/
def aB (c : Dev nD) (a : Fin 5) (r : Fin 32) (o : Fin 8192) : EReal := (m ((c.tc : Thread nD τ).loc main_arg7) : S5x32x8192.Idx → EReal) (ix3 a r o)

/-- The word that moves the column blocks is the grid point. -/
theorem tr (t : Fin grid0.N) : (BitVec.ofNat 32 (grid0.coords t 0).val).toNat = t.val := (by decide +kernel : ∀ t : Fin grid0.N, (BitVec.ofNat 32 (grid0.coords t 0).val).toNat = t.val) t

/-- A column of the block of point `t` in an array of 8192 columns. -/
def col (t : Fin grid0.N) (k : Fin 512) : Fin 8192 := ⟨512 * t.val + k.val, by have := t.isLt; have h : grid0.N = 16 := N_0; omega⟩

/-- Where window 0's block at a point lies in its array. -/
theorem emb0 (hO : Ok m) (t : Fin (cfgM m hO).N) (x : S1536x2048.Idx) :
    ((((cfgM m hO).win 0).blk t).view.emb x (0 : Fin 2)).val = (x 0).val
    ∧ ((((cfgM m hO).win 0).blk t).view.emb x (1 : Fin 2)).val = (x 1).val := by
  refine ⟨?_, ?_⟩
  · refine (Pipeline.Window.rect_emb_val ((cfgM m hO).win 0) t x (0 : Fin 2)).trans ?_
    show 0 * 1536 + (x 0).val = (x 0).val
    omega
  · refine (Pipeline.Window.rect_emb_val ((cfgM m hO).win 0) t x (1 : Fin 2)).trans ?_
    show 0 * 2048 + (x 1).val = (x 1).val
    omega

/-- Where window 1's block at a point lies in its array. -/
theorem emb1 (hO : Ok m) (t : Fin (cfgM m hO).N) (x : S1x1536.Idx) :
    ((((cfgM m hO).win 1).blk t).view.emb x (0 : Fin 2)).val = (x 0).val
    ∧ ((((cfgM m hO).win 1).blk t).view.emb x (1 : Fin 2)).val = (x 1).val := by
  refine ⟨?_, ?_⟩
  · refine (Pipeline.Window.rect_emb_val ((cfgM m hO).win 1) t x (0 : Fin 2)).trans ?_
    show 0 * 1 + (x 0).val = (x 0).val
    omega
  · refine (Pipeline.Window.rect_emb_val ((cfgM m hO).win 1) t x (1 : Fin 2)).trans ?_
    show 0 * 1536 + (x 1).val = (x 1).val
    omega

/-- Where window 2's block at a point lies in its array. -/
theorem emb2 (hO : Ok m) (t : Fin (cfgM m hO).N) (x : S1536x512.Idx) :
    ((((cfgM m hO).win 2).blk t).view.emb x (0 : Fin 2)).val = (x 0).val
    ∧ ((((cfgM m hO).win 2).blk t).view.emb x (1 : Fin 2)).val = 512 * t.val + (x 1).val := by
  have ht := tr t
  refine ⟨?_, ?_⟩
  · refine (Pipeline.Window.rect_emb_val ((cfgM m hO).win 2) t x (0 : Fin 2)).trans ?_
    show 0 * 1536 + (x 0).val = (x 0).val
    omega
  · refine (Pipeline.Window.rect_emb_val ((cfgM m hO).win 2) t x (1 : Fin 2)).trans ?_
    show (BitVec.ofNat 32 (grid0.coords t 0).val).toNat * 512 + (x 1).val = _
    omega

/-- Where window 3's block at a point lies in its array. -/
theorem emb3 (hO : Ok m) (t : Fin (cfgM m hO).N) (x : S1x1536.Idx) :
    ((((cfgM m hO).win 3).blk t).view.emb x (0 : Fin 2)).val = (x 0).val
    ∧ ((((cfgM m hO).win 3).blk t).view.emb x (1 : Fin 2)).val = (x 1).val := by
  refine ⟨?_, ?_⟩
  · refine (Pipeline.Window.rect_emb_val ((cfgM m hO).win 3) t x (0 : Fin 2)).trans ?_
    show 0 * 1 + (x 0).val = (x 0).val
    omega
  · refine (Pipeline.Window.rect_emb_val ((cfgM m hO).win 3) t x (1 : Fin 2)).trans ?_
    show 0 * 1536 + (x 1).val = (x 1).val
    omega

/-- Where window 4's block at a point lies in its array. -/
theorem emb4 (hO : Ok m) (t : Fin (cfgM m hO).N) (x : S2048x512.Idx) :
    ((((cfgM m hO).win 4).blk t).view.emb x (0 : Fin 2)).val = (x 0).val
    ∧ ((((cfgM m hO).win 4).blk t).view.emb x (1 : Fin 2)).val = 512 * t.val + (x 1).val := by
  have ht := tr t
  refine ⟨?_, ?_⟩
  · refine (Pipeline.Window.rect_emb_val ((cfgM m hO).win 4) t x (0 : Fin 2)).trans ?_
    show 0 * 2048 + (x 0).val = (x 0).val
    omega
  · refine (Pipeline.Window.rect_emb_val ((cfgM m hO).win 4) t x (1 : Fin 2)).trans ?_
    show (BitVec.ofNat 32 (grid0.coords t 0).val).toNat * 512 + (x 1).val = _
    omega

/-- Where window 5's block at a point lies in its array. -/
theorem emb5 (hO : Ok m) (t : Fin (cfgM m hO).N) (x : S1x512.Idx) :
    ((((cfgM m hO).win 5).blk t).view.emb x (0 : Fin 2)).val = (x 0).val
    ∧ ((((cfgM m hO).win 5).blk t).view.emb x (1 : Fin 2)).val = 512 * t.val + (x 1).val := by
  have ht := tr t
  refine ⟨?_, ?_⟩
  · refine (Pipeline.Window.rect_emb_val ((cfgM m hO).win 5) t x (0 : Fin 2)).trans ?_
    show 0 * 1 + (x 0).val = (x 0).val
    omega
  · refine (Pipeline.Window.rect_emb_val ((cfgM m hO).win 5) t x (1 : Fin 2)).trans ?_
    show (BitVec.ofNat 32 (grid0.coords t 0).val).toNat * 512 + (x 1).val = _
    omega

/-- Where window 6's block at a point lies in its array. -/
theorem emb6 (hO : Ok m) (t : Fin (cfgM m hO).N) (x : S5x32x2048.Idx) :
    ((((cfgM m hO).win 6).blk t).view.emb x (0 : Fin 3)).val = (x 0).val
    ∧ ((((cfgM m hO).win 6).blk t).view.emb x (1 : Fin 3)).val = (x 1).val
    ∧ ((((cfgM m hO).win 6).blk t).view.emb x (2 : Fin 3)).val = (x 2).val := by
  refine ⟨?_, ?_, ?_⟩
  · refine (Pipeline.Window.rect_emb_val ((cfgM m hO).win 6) t x (0 : Fin 3)).trans ?_
    show 0 * 5 + (x 0).val = (x 0).val
    omega
  · refine (Pipeline.Window.rect_emb_val ((cfgM m hO).win 6) t x (1 : Fin 3)).trans ?_
    show 0 * 32 + (x 1).val = (x 1).val
    omega
  · refine (Pipeline.Window.rect_emb_val ((cfgM m hO).win 6) t x (2 : Fin 3)).trans ?_
    show 0 * 2048 + (x 2).val = (x 2).val
    omega

/-- Where window 7's block at a point lies in its array. -/
theorem emb7 (hO : Ok m) (t : Fin (cfgM m hO).N) (x : S5x32x512.Idx) :
    ((((cfgM m hO).win 7).blk t).view.emb x (0 : Fin 3)).val = (x 0).val
    ∧ ((((cfgM m hO).win 7).blk t).view.emb x (1 : Fin 3)).val = (x 1).val
    ∧ ((((cfgM m hO).win 7).blk t).view.emb x (2 : Fin 3)).val = 512 * t.val + (x 2).val := by
  have ht := tr t
  refine ⟨?_, ?_, ?_⟩
  · refine (Pipeline.Window.rect_emb_val ((cfgM m hO).win 7) t x (0 : Fin 3)).trans ?_
    show 0 * 5 + (x 0).val = (x 0).val
    omega
  · refine (Pipeline.Window.rect_emb_val ((cfgM m hO).win 7) t x (1 : Fin 3)).trans ?_
    show 0 * 32 + (x 1).val = (x 1).val
    omega
  · refine (Pipeline.Window.rect_emb_val ((cfgM m hO).win 7) t x (2 : Fin 3)).trans ?_
    show (BitVec.ofNat 32 (grid0.coords t 0).val).toNat * 512 + (x 2).val = _
    omega

/-- Where window 8's block at a point lies in its array. -/
theorem emb8 (hO : Ok m) (t : Fin (cfgM m hO).N) (x : S1536x2048.Idx) :
    ((((cfgM m hO).win 8).blk t).view.emb x (0 : Fin 2)).val = (x 0).val
    ∧ ((((cfgM m hO).win 8).blk t).view.emb x (1 : Fin 2)).val = (x 1).val := by
  refine ⟨?_, ?_⟩
  · refine (Pipeline.Window.rect_emb_val ((cfgM m hO).win 8) t x (0 : Fin 2)).trans ?_
    show 0 * 1536 + (x 0).val = (x 0).val
    omega
  · refine (Pipeline.Window.rect_emb_val ((cfgM m hO).win 8) t x (1 : Fin 2)).trans ?_
    show 0 * 2048 + (x 1).val = (x 1).val
    omega

/-- Where window 9's block at a point lies in its array. -/
theorem emb9 (hO : Ok m) (t : Fin (cfgM m hO).N) (x : S5x32x2048.Idx) :
    ((((cfgM m hO).win 9).blk t).view.emb x (0 : Fin 3)).val = (x 0).val
    ∧ ((((cfgM m hO).win 9).blk t).view.emb x (1 : Fin 3)).val = (x 1).val
    ∧ ((((cfgM m hO).win 9).blk t).view.emb x (2 : Fin 3)).val = (x 2).val := by
  refine ⟨?_, ?_, ?_⟩
  · refine (Pipeline.Window.rect_emb_val ((cfgM m hO).win 9) t x (0 : Fin 3)).trans ?_
    show 0 * 5 + (x 0).val = (x 0).val
    omega
  · refine (Pipeline.Window.rect_emb_val ((cfgM m hO).win 9) t x (1 : Fin 3)).trans ?_
    show 0 * 32 + (x 1).val = (x 1).val
    omega
  · refine (Pipeline.Window.rect_emb_val ((cfgM m hO).win 9) t x (2 : Fin 3)).trans ?_
    show 0 * 2048 + (x 2).val = (x 2).val
    omega

/-- Where window 10's block at a point lies in its array. -/
theorem emb10 (hO : Ok m) (t : Fin (cfgM m hO).N) (x : S5x32x512.Idx) :
    ((((cfgM m hO).win 10).blk t).view.emb x (0 : Fin 3)).val = (x 0).val
    ∧ ((((cfgM m hO).win 10).blk t).view.emb x (1 : Fin 3)).val = (x 1).val
    ∧ ((((cfgM m hO).win 10).blk t).view.emb x (2 : Fin 3)).val = 512 * t.val + (x 2).val := by
  have ht := tr t
  refine ⟨?_, ?_, ?_⟩
  · refine (Pipeline.Window.rect_emb_val ((cfgM m hO).win 10) t x (0 : Fin 3)).trans ?_
    show 0 * 5 + (x 0).val = (x 0).val
    omega
  · refine (Pipeline.Window.rect_emb_val ((cfgM m hO).win 10) t x (1 : Fin 3)).trans ?_
    show 0 * 32 + (x 1).val = (x 1).val
    omega
  · refine (Pipeline.Window.rect_emb_val ((cfgM m hO).win 10) t x (2 : Fin 3)).trans ?_
    show (BitVec.ofNat 32 (grid0.coords t 0).val).toNat * 512 + (x 2).val = _
    omega

/-- Where window 11's block at a point lies in its array. -/
theorem emb11 (hO : Ok m) (t : Fin (cfgM m hO).N) (x : S4x32x384.Idx) :
    ((((cfgM m hO).win 11).blk t).view.emb x (0 : Fin 3)).val = (x 0).val
    ∧ ((((cfgM m hO).win 11).blk t).view.emb x (1 : Fin 3)).val = (x 1).val
    ∧ ((((cfgM m hO).win 11).blk t).view.emb x (2 : Fin 3)).val = (x 2).val := by
  refine ⟨?_, ?_, ?_⟩
  · refine (Pipeline.Window.rect_emb_val ((cfgM m hO).win 11) t x (0 : Fin 3)).trans ?_
    show 0 * 4 + (x 0).val = (x 0).val
    omega
  · refine (Pipeline.Window.rect_emb_val ((cfgM m hO).win 11) t x (1 : Fin 3)).trans ?_
    show 0 * 32 + (x 1).val = (x 1).val
    omega
  · refine (Pipeline.Window.rect_emb_val ((cfgM m hO).win 11) t x (2 : Fin 3)).trans ?_
    show 0 * 384 + (x 2).val = (x 2).val
    omega

/-- Where window 12's block at a point lies in its array. -/
theorem emb12 (hO : Ok m) (t : Fin (cfgM m hO).N) (x : S4x32x384.Idx) :
    ((((cfgM m hO).win 12).blk t).view.emb x (0 : Fin 3)).val = (x 0).val
    ∧ ((((cfgM m hO).win 12).blk t).view.emb x (1 : Fin 3)).val = (x 1).val
    ∧ ((((cfgM m hO).win 12).blk t).view.emb x (2 : Fin 3)).val = (x 2).val := by
  refine ⟨?_, ?_, ?_⟩
  · refine (Pipeline.Window.rect_emb_val ((cfgM m hO).win 12) t x (0 : Fin 3)).trans ?_
    show 0 * 4 + (x 0).val = (x 0).val
    omega
  · refine (Pipeline.Window.rect_emb_val ((cfgM m hO).win 12) t x (1 : Fin 3)).trans ?_
    show 0 * 32 + (x 1).val = (x 1).val
    omega
  · refine (Pipeline.Window.rect_emb_val ((cfgM m hO).win 12) t x (2 : Fin 3)).trans ?_
    show 0 * 384 + (x 2).val = (x 2).val
    omega

/-- What the host writes to window 0's array before the launch. -/
theorem entry0 (c : Dev nD) : V m c main_v2 = shapeCast S1536x2048 (bitcastToFloat (F := Ideal) .fp8e4m3 (m ((c.tc : Thread nD τ).loc main_arg0))) shapeCasts_S4x384x2048_S1536x2048 := by
  show StableHlo.after hostOps0 (fun b => m (c, b)) (Proc.devRef .tc main_v2) = _
  entry_read
  rfl

/-- What the host writes to window 1's array before the launch. -/
theorem entry1 (c : Dev nD) : V m c main_v3 = shapeCast S1x1536 (m ((c.tc : Thread nD τ).loc main_arg1)) shapeCasts_S4x384_S1x1536 := by
  show StableHlo.after hostOps0 (fun b => m (c, b)) (Proc.devRef .tc main_v3) = _
  entry_read
  rfl

/-- What the host writes to window 2's array before the launch. -/
theorem entry2 (c : Dev nD) : V m c main_v4 = shapeCast S1536x8192 (bitcastToFloat (F := Ideal) .fp8e5m2 (m ((c.tc : Thread nD τ).loc main_arg2))) shapeCasts_S4x384x8192_S1536x8192 := by
  show StableHlo.after hostOps0 (fun b => m (c, b)) (Proc.devRef .tc main_v4) = _
  entry_read
  rfl

/-- What the host writes to window 3's array before the launch. -/
theorem entry3 (c : Dev nD) : V m c main_v5 = shapeCast S1x1536 (m ((c.tc : Thread nD τ).loc main_arg3)) shapeCasts_S4x384_S1x1536 := by
  show StableHlo.after hostOps0 (fun b => m (c, b)) (Proc.devRef .tc main_v5) = _
  entry_read
  rfl

/-- What the host writes to window 5's array before the launch. -/
theorem entry5 (c : Dev nD) : V m c main_v6 = shapeCast S1x8192 (m ((c.tc : Thread nD τ).loc main_arg5)) shapeCasts_S8192_S1x8192 := by
  show StableHlo.after hostOps0 (fun b => m (c, b)) (Proc.devRef .tc main_v6) = _
  entry_read
  rfl

/-- What the host writes to window 6's array before the launch. -/
theorem entry6 (c : Dev nD) : V m c main_v7 = transpose S5x32x2048 [0, 2, 1] (m ((c.tc : Thread nD τ).loc main_arg6)) transposes_S5x2048x32_S5x32x2048_0_2_1 := by
  show StableHlo.after hostOps0 (fun b => m (c, b)) (Proc.devRef .tc main_v7) = _
  entry_read
  rfl

/-- The row-major reading of samples and rows as one axis, of an array with columns. -/
theorem cast_x {α : Type} (X : S4x384x2048.Idx → α) (q : Fin 4) (j : Fin 384) (i : Fin 2048) (h) :
    shapeCast S1536x2048 X shapeCasts_S4x384x2048_S1536x2048 (ix2 ⟨384 * q.val + j.val, h⟩ i) = X (ix3 q j i) := by
  pointwise
  blk_ext

/-- The same of the wider array. -/
theorem cast_dy {α : Type} (X : S4x384x8192.Idx → α) (q : Fin 4) (j : Fin 384) (i : Fin 8192) (h) :
    shapeCast S1536x8192 X shapeCasts_S4x384x8192_S1536x8192 (ix2 ⟨384 * q.val + j.val, h⟩ i) = X (ix3 q j i) := by
  pointwise
  blk_ext

/-- The same of the scales, a row of one array. -/
theorem cast_s {α : Type} (X : S4x384.Idx → α) (q : Fin 4) (j : Fin 384) (h) :
    shapeCast S1x1536 X shapeCasts_S4x384_S1x1536 (ix2 0 ⟨384 * q.val + j.val, h⟩) = X (ix2 q j) := by
  pointwise
  blk_ext

/-- The scale of the columns, read as one row. -/
theorem cast_ws {α : Type} (X : S8192.Idx → α) (o : Fin 8192) :
    shapeCast S1x8192 X shapeCasts_S8192_S1x8192 (ix2 0 o) = X (ix1 o) := by
  pointwise
  blk_ext

/-- An index of two axes is known by its coordinates. -/
theorem idx2 {n k : ℕ} (p : (⟨2, ![n, k]⟩ : Shape).Idx) (a : Fin n) (b : Fin k) (h : (p (0 : Fin 2)).val = a.val ∧ (p (1 : Fin 2)).val = b.val) : p = ix2 a b :=
  funext fun x => by
    match x with
    | 0 => exact Fin.ext h.1
    | 1 => exact Fin.ext h.2

/-- An index of three axes is known by its coordinates. -/
theorem idx3 {n k l : ℕ} (p : (⟨3, ![n, k, l]⟩ : Shape).Idx) (a : Fin n) (b : Fin k) (d : Fin l)
    (h : (p (0 : Fin 3)).val = a.val ∧ (p (1 : Fin 3)).val = b.val ∧ (p (2 : Fin 3)).val = d.val) : p = ix3 a b d :=
  funext fun x => by
    match x with
    | 0 => exact Fin.ext h.1
    | 1 => exact Fin.ext h.2.1
    | 2 => exact Fin.ext h.2.2

/-- Window 0's block at a point. -/
theorem iblk0_at (hO : Ok m) (c : Dev nD) (t : Fin (cfgM m hO).N) (q : Fin 4) (j : Fin 384) (i : Fin 2048) (h) :
    (iblk m hO c 0 t : S1536x2048.Idx → EReal) (ix2 ⟨384 * q.val + j.val, h⟩ i) = aX m c q j i := by
  have e := idx2 _ ⟨384 * q.val + j.val, h⟩ i (emb0 m hO t (ix2 ⟨384 * q.val + j.val, h⟩ i))
  blk_simp [iblk]
  refine (congrArg (V m c main_v2 : S1536x2048.Idx → EReal) e).trans ?_
  exact (congrFun (entry0 m c) _).trans (cast_x _ q j i h)

/-- Window 1's block at a point. -/
theorem iblk1_at (hO : Ok m) (c : Dev nD) (t : Fin (cfgM m hO).N) (q : Fin 4) (j : Fin 384) (h) :
    (iblk m hO c 1 t : S1x1536.Idx → EReal) (ix2 0 ⟨384 * q.val + j.val, h⟩) = aXS m c q j := by
  have e := idx2 _ 0 ⟨384 * q.val + j.val, h⟩ (emb1 m hO t (ix2 0 ⟨384 * q.val + j.val, h⟩))
  blk_simp [iblk]
  refine (congrArg (V m c main_v3 : S1x1536.Idx → EReal) e).trans ?_
  exact (congrFun (entry1 m c) _).trans (cast_s _ q j h)

/-- Window 2's block at a point. -/
theorem iblk2_at (hO : Ok m) (c : Dev nD) (t : Fin (cfgM m hO).N) (q : Fin 4) (j : Fin 384) (k : Fin 512) (h) :
    (iblk m hO c 2 t : S1536x512.Idx → EReal) (ix2 ⟨384 * q.val + j.val, h⟩ k) = aDY m c q j (col t k) := by
  have e := idx2 _ ⟨384 * q.val + j.val, h⟩ (col t k) (emb2 m hO t (ix2 ⟨384 * q.val + j.val, h⟩ k))
  blk_simp [iblk]
  refine (congrArg (V m c main_v4 : S1536x8192.Idx → EReal) e).trans ?_
  exact (congrFun (entry2 m c) _).trans (cast_dy _ q j (col t k) h)

/-- Window 3's block at a point. -/
theorem iblk3_at (hO : Ok m) (c : Dev nD) (t : Fin (cfgM m hO).N) (q : Fin 4) (j : Fin 384) (h) :
    (iblk m hO c 3 t : S1x1536.Idx → EReal) (ix2 0 ⟨384 * q.val + j.val, h⟩) = aDYS m c q j := by
  have e := idx2 _ 0 ⟨384 * q.val + j.val, h⟩ (emb3 m hO t (ix2 0 ⟨384 * q.val + j.val, h⟩))
  blk_simp [iblk]
  refine (congrArg (V m c main_v5 : S1x1536.Idx → EReal) e).trans ?_
  exact (congrFun (entry3 m c) _).trans (cast_s _ q j h)

/-- Window 4's block at a point. -/
theorem iblk4_at (hO : Ok m) (c : Dev nD) (t : Fin (cfgM m hO).N) (i : Fin 2048) (k : Fin 512) :
    (iblk m hO c 4 t : S2048x512.Idx → EReal) (ix2 i k) = aW m c i (col t k) := by
  have e := idx2 _ i (col t k) (emb4 m hO t (ix2 i k))
  blk_simp [iblk]
  refine (congrArg (V m c main_arg4 : S2048x8192.Idx → EReal) e).trans ?_
  exact congrFun (V_main_arg4 m c) _

/-- Window 5's block at a point. -/
theorem iblk5_at (hO : Ok m) (c : Dev nD) (t : Fin (cfgM m hO).N) (k : Fin 512) :
    (iblk m hO c 5 t : S1x512.Idx → EReal) (ix2 0 k) = aWS m c (col t k) := by
  have e := idx2 _ 0 (col t k) (emb5 m hO t (ix2 0 k))
  blk_simp [iblk]
  refine (congrArg (V m c main_v6 : S1x8192.Idx → EReal) e).trans ?_
  exact (congrFun (entry5 m c) _).trans (cast_ws _ (col t k))

/-- Window 6's block at a point. -/
theorem iblk6_at (hO : Ok m) (c : Dev nD) (t : Fin (cfgM m hO).N) (a : Fin 5) (r : Fin 32) (i : Fin 2048) :
    (iblk m hO c 6 t : S5x32x2048.Idx → EReal) (ix3 a r i) = aA m c a i r := by
  have e := idx3 _ a r i (emb6 m hO t (ix3 a r i))
  blk_simp [iblk]
  refine (congrArg (V m c main_v7 : S5x32x2048.Idx → EReal) e).trans ?_
  refine (congrFun (entry6 m c) _).trans ?_
  pointwise [aA]
  blk_ext

/-- Window 7's block at a point. -/
theorem iblk7_at (hO : Ok m) (c : Dev nD) (t : Fin (cfgM m hO).N) (a : Fin 5) (r : Fin 32) (k : Fin 512) :
    (iblk m hO c 7 t : S5x32x512.Idx → EReal) (ix3 a r k) = aB m c a r (col t k) := by
  have e := idx3 _ a r (col t k) (emb7 m hO t (ix3 a r k))
  blk_simp [iblk]
  refine (congrArg (V m c main_arg7 : S5x32x8192.Idx → EReal) e).trans ?_
  exact congrFun (V_main_arg7 m c) _

end Cert.KernelIdeal.Gen

end
-- ==== Proof.Value.Words.lean ====
/- The adapter words that the body reads, and what one sequence adds to a block of the second adapters' gradient. -/
module

public import proofs.«01_k».proof.Proof.Run.Data
public import proofs.«01_k».proof.Proof.Value.Slab

@[expose] public section

set_option maxRecDepth 16384

noncomputable section

namespace Cert.KernelIdeal.Gen

open Idealize.ShloMosaic Idealize.ShloMosaic.TcCoe
open Idealize.SL.Sem

variable (m : (ℓ : Loc nD τ sig) → Buf (Elt Ideal) ℓ)

/-- The adapter index of sequence `q`, as the prefetched table holds it. -/
def wd (q : Fin 4) : BitVec 32 := (tbl m 0 : S4.Idx → BitVec 32) (ix1 q)

/-- A one-word load of the table reads the word at the load's offset. -/
theorem rd (f : tbM0_0.view.ty.Contents (Elt Ideal)) (q : Fin 4) (o : Fin 1 → ℕ) (ho : o 0 = q.val) (inb) (hh) :
    View.readAt (Elt Ideal) tbM0_0.view (Rect.unit (s := S4) o ![1] inb).toLoadRect f (Shape.Idx.first hh) = (f : S4.Idx → BitVec 32) (ix1 q) := by
  rw [View.readAt_apply]
  refine congrArg (f : S4.Idx → BitVec 32) ?_
  refine funext fun a => Fin.ext ?_
  match a with
  | ⟨0, _⟩ => show o 0 + 1 * 0 = q.val; omega

/-- The table's words are the adapter numbers `ad`. -/
def Names (ad : Fin 4 → Fin 5) : Prop := ∀ q, (wd m q).toNat = (ad q).val

/-- A word that the body loads from the table, as a number. -/
theorem Names.word {ad : Fin 4 → Fin 5} (had : Names m ad) (q : Fin 4) (o : Fin 1 → ℕ) (ho : o 0 = q.val) (inb) (hh) :
    (View.readAt (Elt Ideal) tbM0_0.view (Rect.unit (s := S4) o ![1] inb).toLoadRect (tbl m 0) (Shape.Idx.first hh)).toNat = (ad q).val :=
  (congrArg BitVec.toNat (rd (tbl m 0) q o ho inb hh)).trans (had q)

/-- The three bands of a low-rank image times one sequence's rows, twice. -/
def bands (u : Vec Ideal S1x96x384 .bf16) (d : FVec Ideal S384x512 .bf16) (r : Fin 32) (k : Fin 512) : EReal :=
  Ideal.ofBits .f32 0x40000000#32 * ((∑ j : Fin 384, u (ix3 0 ⟨r.val, by omega⟩ j) * d (ix2 j k))
    + (∑ j : Fin 384, u (ix3 0 ⟨32 + r.val, by omega⟩ j) * d (ix2 j k))
    + (∑ j : Fin 384, u (ix3 0 ⟨64 + r.val, by omega⟩ j) * d (ix2 j k)))

/-- What sequence `q` adds to the block of the second adapters' gradient: the three bands of its low-rank image times its rows of the block, twice. -/
def dbv (u : FVec Ideal S4x96x384 .bf16) (dy : FVec Ideal S1536x512 .fp8e5m2) (q : Fin 4) (r : Fin 32) (k : Fin 512) : EReal :=
  Ideal.ofBits .f32 0x40000000#32 * ((∑ j : Fin 384, u (ix3 q ⟨r.val, by omega⟩ j) * dy (ix2 ⟨384 * q.val + j.val, by omega⟩ k))
    + (∑ j : Fin 384, u (ix3 q ⟨32 + r.val, by omega⟩ j) * dy (ix2 ⟨384 * q.val + j.val, by omega⟩ k))
    + (∑ j : Fin 384, u (ix3 q ⟨64 + r.val, by omega⟩ j) * dy (ix2 ⟨384 * q.val + j.val, by omega⟩ k)))

theorem bands_eq (u : Vec Ideal S1x96x384 .bf16) (d : FVec Ideal S384x512 .bf16) (U : FVec Ideal S4x96x384 .bf16) (dy : FVec Ideal S1536x512 .fp8e5m2) (q : Fin 4)
    (hu : ∀ r j, u (ix3 0 r j) = U (ix3 q r j)) (hd : ∀ (j : Fin 384) k, d (ix2 j k) = dy (ix2 ⟨384 * q.val + j.val, by omega⟩ k)) (r : Fin 32) (k : Fin 512) :
    bands u d r k = dbv U dy q r k := by
  unfold bands dbv
  simp only [hu, hd]

/-- The stored slab: the loaded one plus the bands' product. -/
theorem pay82_at (d : FVec Ideal S384x512 .bf16) (u : Vec Ideal S1x96x384 .bf16) (v : Vec Ideal S1x32x512 .f32) (r : Fin 32) (k : Fin 512) :
    k0_pay82 d u v (ix3 0 r k) = v (ix3 0 r k) + bands u d r k := by
  pointwise [k0_pay82, bands]

/-- The stored slab: the loaded one plus the bands' product. -/
theorem pay87_at (d : FVec Ideal S384x512 .bf16) (u : Vec Ideal S1x96x384 .bf16) (v : Vec Ideal S1x32x512 .f32) (r : Fin 32) (k : Fin 512) :
    k0_pay87 d u v (ix3 0 r k) = v (ix3 0 r k) + bands u d r k := by
  pointwise [k0_pay87, bands]

/-- The stored slab: the loaded one plus the bands' product. -/
theorem pay92_at (d : FVec Ideal S384x512 .bf16) (u : Vec Ideal S1x96x384 .bf16) (v : Vec Ideal S1x32x512 .f32) (r : Fin 32) (k : Fin 512) :
    k0_pay92 d u v (ix3 0 r k) = v (ix3 0 r k) + bands u d r k := by
  pointwise [k0_pay92, bands]

/-- The stored slab: the loaded one plus the bands' product. -/
theorem pay2_at (d : FVec Ideal S384x512 .bf16) (u : Vec Ideal S1x96x384 .bf16) (v : Vec Ideal S1x32x512 .f32) (r : Fin 32) (k : Fin 512) :
    k0_pay2 d u v (ix3 0 r k) = v (ix3 0 r k) + bands u d r k := by
  pointwise [k0_pay2, bands]

end Cert.KernelIdeal.Gen

end
-- ==== Proof.Value.First.lean ====
/- What the accumulators hold after the first point, entry by entry. -/
module

public import proofs.«01_k».proof.Proof.Run.Data
public import proofs.«01_k».proof.Proof.Value.Slab
public import proofs.«01_k».proof.Proof.Value.Words

@[expose] public section

set_option maxRecDepth 16384

noncomputable section

namespace Cert.KernelIdeal.Gen

open Idealize.ShloMosaic Idealize.ShloMosaic.TcCoe
open Idealize.SL.Sem

variable (m : (ℓ : Loc nD τ sig) → Buf (Elt Ideal) ℓ)

/-- The accumulated product after the first point: the block's contraction, added. -/
theorem stA_g (hO : Ok m) (hH : Hyps m hO) (c : Dev nD) (t : Fin (cfgM m hO).N) (h0 : t.val % 16 = 0) (h1 : ¬t.val % 16 = 15) (i : Fin 2048) (j : Fin 1536) :
    (stA m hO hH c t h0 h1).1 (ix2 i j) = (0 : EReal) + ∑ k : Fin 512, (show EReal from iblk m hO c 4 t (ix2 i k)) * (show EReal from iblk m hO c 5 t (ix2 0 k)) * (show EReal from iblk m hO c 2 t (ix2 j k)) := by
  unfold stA ptA kernelRun0_A
  dsimp only
  frame_out
  pointwise [k0_pay76, k0_pay74, Memref.IsWhole.read_unread, read_unread_whole]

/-- What a block adds to the accumulated low-rank product: the contraction of sequence `q`'s rows with adapter `a`. -/
def tv (hO : Ok m) (c : Dev nD) (t : Fin (cfgM m hO).N) (a : Fin 5) (q : Fin 4) (r : Fin 32) (j : Fin 384) : EReal :=
  ∑ k : Fin 512, (show EReal from iblk m hO c 7 t (ix3 a r k)) * (show EReal from iblk m hO c 2 t (ix2 ⟨384 * q.val + j.val, by omega⟩ k))

/-- The stored slab 0 of the accumulated low-rank product: the loaded one plus the contraction of the sequence's rows with its adapter. -/
theorem acc0_at (d : Vec Ideal S384x512 .fp8e5m2) (V : Vec Ideal S1x32x384 .f32) (b : Vec Ideal S1x32x512 .bf16) (r : Fin 32) (j : Fin 384) :
    k0_pay81 (k0_pay78 d) (k0_pay79 V) (k0_pay80 b) (ix3 0 r j) = (show EReal from V (ix3 0 r j)) + ∑ k : Fin 512, (show EReal from b (ix3 0 r k)) * (show EReal from d (ix2 j k)) := by
  pointwise [k0_pay81, k0_pay80, k0_pay79, k0_pay78]

/-- The stored slab 1 of the accumulated low-rank product: the loaded one plus the contraction of the sequence's rows with its adapter. -/
theorem acc1_at (d : Vec Ideal S384x512 .fp8e5m2) (V : Vec Ideal S1x32x384 .f32) (b : Vec Ideal S1x32x512 .bf16) (r : Fin 32) (j : Fin 384) :
    k0_pay86 (k0_pay83 d) (k0_pay84 V) (k0_pay85 b) (constant S32x384 .f32 0x00000000#32) (ix3 0 r j) = (show EReal from V (ix3 0 r j)) + ∑ k : Fin 512, (show EReal from b (ix3 0 r k)) * (show EReal from d (ix2 j k)) := by
  pointwise [k0_pay86, k0_pay85, k0_pay84, k0_pay83]

/-- The stored slab 2 of the accumulated low-rank product: the loaded one plus the contraction of the sequence's rows with its adapter. -/
theorem acc2_at (d : Vec Ideal S384x512 .fp8e5m2) (V : Vec Ideal S1x32x384 .f32) (b : Vec Ideal S1x32x512 .bf16) (r : Fin 32) (j : Fin 384) :
    k0_pay91 (k0_pay89 V) (k0_pay90 d b) (ix3 0 r j) = (show EReal from V (ix3 0 r j)) + ∑ k : Fin 512, (show EReal from b (ix3 0 r k)) * (show EReal from d (ix2 j k)) := by
  pointwise [k0_pay91, k0_pay90, k0_pay89, k0_pay88]

/-- The stored slab 3 of the accumulated low-rank product: the loaded one plus the contraction of the sequence's rows with its adapter. -/
theorem acc3_at (d : Vec Ideal S384x512 .fp8e5m2) (V : Vec Ideal S1x32x384 .f32) (b : Vec Ideal S1x32x512 .bf16) (r : Fin 32) (j : Fin 384) :
    k0_pay1 (k0_pay94 d V b) (ix3 0 r j) = (show EReal from V (ix3 0 r j)) + ∑ k : Fin 512, (show EReal from b (ix3 0 r k)) * (show EReal from d (ix2 j k)) := by
  pointwise [k0_pay1, k0_pay94, k0_pay93]

/-- The accumulated low-rank product after the first point: the block's contraction with the sequence's adapter. -/
theorem stA_t_slabs {ad : Fin 4 → Fin 5} (had : Names m ad) (hO : Ok m) (hH : Hyps m hO) (c : Dev nD) (t : Fin (cfgM m hO).N) (h0 : t.val % 16 = 0) (h1 : ¬t.val % 16 = 15) (q : Fin 4) (r : Fin 32) (j : Fin 384) :
    (stA m hO hH c t h0 h1).2.1 (ix3 q r j) = (0 : EReal)
      + (if q = 0 then tv m hO c t (ad 0) 0 r j else 0) + (if q = 1 then tv m hO c t (ad 1) 1 r j else 0)
      + (if q = 2 then tv m hO c t (ad 2) 2 r j else 0) + (if q = 3 then tv m hO c t (ad 3) 3 r j else 0) := by
  unfold stA ptA kernelRun0_A
  dsimp only
  refine Cert.Slab.canon_slab_add scM0_1.view _ _ _ 3 ⟨rfl, rfl, rfl⟩ _ (fun r j => tv m hO c t (ad 3) 3 r j) ?_ q r j _ ?_
  · intro r j
    refine (acc3_at _ _ _ r j).trans (congrArg₂ (· + ·) rfl ?_)
    unfold tv
    frame_out
    pointwise [k0_off5, k0_off7, k0_off9, k0_off11, Memref.IsWhole.read_unread, read_unread_whole]
    exact Finset.sum_congr rfl fun k _ => congrArg₂ (· * ·) (congrArg (fun a => iblk m hO c 7 t (ix3 a r k)) (Fin.ext (had.word m 3 _ rfl _ _))) rfl
  unfold kernelRun0_A.sl.Hs1_4
  refine Cert.Slab.canon_slab_add scM0_1.view _ _ _ 2 ⟨rfl, rfl, rfl⟩ _ (fun r j => tv m hO c t (ad 2) 2 r j) ?_ q r j _ ?_
  · intro r j
    refine (acc2_at _ _ _ r j).trans (congrArg₂ (· + ·) rfl ?_)
    unfold tv
    frame_out
    pointwise [k0_off5, k0_off7, k0_off9, k0_off11, Memref.IsWhole.read_unread, read_unread_whole]
    exact Finset.sum_congr rfl fun k _ => congrArg₂ (· * ·) (congrArg (fun a => iblk m hO c 7 t (ix3 a r k)) (Fin.ext (had.word m 2 _ rfl _ _))) rfl
  unfold kernelRun0_A.sl.Hs1_3
  refine Cert.Slab.canon_slab_add scM0_1.view _ _ _ 1 ⟨rfl, rfl, rfl⟩ _ (fun r j => tv m hO c t (ad 1) 1 r j) ?_ q r j _ ?_
  · intro r j
    refine (acc1_at _ _ _ r j).trans (congrArg₂ (· + ·) rfl ?_)
    unfold tv
    frame_out
    pointwise [k0_off5, k0_off7, k0_off9, k0_off11, Memref.IsWhole.read_unread, read_unread_whole]
    exact Finset.sum_congr rfl fun k _ => congrArg₂ (· * ·) (congrArg (fun a => iblk m hO c 7 t (ix3 a r k)) (Fin.ext (had.word m 1 _ rfl _ _))) rfl
  unfold kernelRun0_A.sl.Hs1_2
  refine Cert.Slab.canon_slab_add scM0_1.view _ _ _ 0 ⟨rfl, rfl, rfl⟩ _ (fun r j => tv m hO c t (ad 0) 0 r j) ?_ q r j _ ?_
  · intro r j
    refine (acc0_at _ _ _ r j).trans (congrArg₂ (· + ·) rfl ?_)
    unfold tv
    frame_out
    pointwise [k0_off5, k0_off7, k0_off9, k0_off11, Memref.IsWhole.read_unread, read_unread_whole]
    exact Finset.sum_congr rfl fun k _ => congrArg₂ (· * ·) (congrArg (fun a => iblk m hO c 7 t (ix3 a r k)) (Fin.ext (had.word m 0 _ rfl _ _))) rfl
  unfold kernelRun0_A.sl.Hs1_1
  frame_out
  pointwise [k0_pay75]

theorem stA_t {ad : Fin 4 → Fin 5} (had : Names m ad) (hO : Ok m) (hH : Hyps m hO) (c : Dev nD) (t : Fin (cfgM m hO).N) (h0 : t.val % 16 = 0) (h1 : ¬t.val % 16 = 15) (q : Fin 4) (r : Fin 32) (j : Fin 384) :
    (stA m hO hH c t h0 h1).2.1 (ix3 q r j) = (0 : EReal) + tv m hO c t (ad q) q r j := by
  refine (stA_t_slabs m had hO hH c t h0 h1 q r j).trans ?_
  match q with
  | 0 => simp
  | 1 => simp
  | 2 => simp
  | 3 => simp

end Cert.KernelIdeal.Gen

end
-- ==== Proof.Value.FirstDb.lean ====
/- The block of the second adapters' gradient that the first point leaves, entry by entry. -/
module

public import proofs.«01_k».proof.Proof.Run.Data
public import proofs.«01_k».proof.Proof.Value.Slab
public import proofs.«01_k».proof.Proof.Value.Words

@[expose] public section

set_option maxRecDepth 16384

noncomputable section

namespace Cert.KernelIdeal.Gen

open Idealize.ShloMosaic Idealize.ShloMosaic.TcCoe
open Idealize.SL.Sem

variable (m : (ℓ : Loc nD τ sig) → Buf (Elt Ideal) ℓ)

/-- The block of the second adapters' gradient that the point leaves: over a zero fill, each sequence adds to its adapter's slab. -/
theorem dbA_at {ad : Fin 4 → Fin 5} (had : Names m ad) (hO : Ok m) (hH : Hyps m hO) (c : Dev nD) (t : Fin (cfgM m hO).N) (h0 : t.val % 16 = 0) (h1 : ¬t.val % 16 = 15) (a : Fin 5) (r : Fin 32) (k : Fin 512) :
    View.canon (ptA m hO hH c t h0 h1).1 (ix3 a r k) = (0 : EReal)
      + (if a = ad 0 then dbv (stA m hO hH c t h0 h1).2.2 (iblk m hO c 2 t) 0 r k else 0)
      + (if a = ad 1 then dbv (stA m hO hH c t h0 h1).2.2 (iblk m hO c 2 t) 1 r k else 0)
      + (if a = ad 2 then dbv (stA m hO hH c t h0 h1).2.2 (iblk m hO c 2 t) 2 r k else 0)
      + (if a = ad 3 then dbv (stA m hO hH c t h0 h1).2.2 (iblk m hO c 2 t) 3 r k else 0) := by
  unfold stA ptA kernelRun0_A
  dsimp only
  unfold kernelRun0_A.sl.v144
  refine Cert.Slab.canon_slab_add (ms0_10 m hO t).view _ _ _ (ad 3) ⟨had.word m 3 _ rfl _ _, rfl, rfl⟩ _ (dbv _ _ 3) ?_ a r k _ ?_
  · intro r k
    refine (pay2_at _ _ _ r k).trans (congrArg₂ (· + ·) rfl (bands_eq _ _ _ _ 3 ?_ ?_ r k))
    · intro r j
      exact Cert.Slab.read_slab (Val := Elt Ideal) scM0_2.view _ ![3, 0, 0] _ 3 ⟨rfl, rfl, rfl⟩ r j
    · intro j k
      frame_out
      pointwise [k0_pay78, k0_pay83, k0_pay88, k0_pay93, Memref.IsWhole.read_unread, read_unread_whole]
  unfold kernelRun0_A.sl.H10_4
  unfold kernelRun0_A.sl.v111
  refine Cert.Slab.canon_slab_add (ms0_10 m hO t).view _ _ _ (ad 2) ⟨had.word m 2 _ rfl _ _, rfl, rfl⟩ _ (dbv _ _ 2) ?_ a r k _ ?_
  · intro r k
    refine (pay92_at _ _ _ r k).trans (congrArg₂ (· + ·) rfl (bands_eq _ _ _ _ 2 ?_ ?_ r k))
    · intro r j
      exact Cert.Slab.read_slab (Val := Elt Ideal) scM0_2.view _ ![2, 0, 0] _ 2 ⟨rfl, rfl, rfl⟩ r j
    · intro j k
      frame_out
      pointwise [k0_pay78, k0_pay83, k0_pay88, k0_pay93, Memref.IsWhole.read_unread, read_unread_whole]
  unfold kernelRun0_A.sl.H10_3
  unfold kernelRun0_A.sl.v78
  refine Cert.Slab.canon_slab_add (ms0_10 m hO t).view _ _ _ (ad 1) ⟨had.word m 1 _ rfl _ _, rfl, rfl⟩ _ (dbv _ _ 1) ?_ a r k _ ?_
  · intro r k
    refine (pay87_at _ _ _ r k).trans (congrArg₂ (· + ·) rfl (bands_eq _ _ _ _ 1 ?_ ?_ r k))
    · intro r j
      exact Cert.Slab.read_slab (Val := Elt Ideal) scM0_2.view _ ![1, 0, 0] _ 1 ⟨rfl, rfl, rfl⟩ r j
    · intro j k
      frame_out
      pointwise [k0_pay78, k0_pay83, k0_pay88, k0_pay93, Memref.IsWhole.read_unread, read_unread_whole]
  unfold kernelRun0_A.sl.H10_2
  unfold kernelRun0_A.sl.v45
  refine Cert.Slab.canon_slab_add (ms0_10 m hO t).view _ _ _ (ad 0) ⟨had.word m 0 _ rfl _ _, rfl, rfl⟩ _ (dbv _ _ 0) ?_ a r k _ ?_
  · intro r k
    refine (pay82_at _ _ _ r k).trans (congrArg₂ (· + ·) rfl (bands_eq _ _ _ _ 0 ?_ ?_ r k))
    · intro r j
      exact Cert.Slab.read_slab (Val := Elt Ideal) scM0_2.view _ ![0, 0, 0] _ 0 ⟨rfl, rfl, rfl⟩ r j
    · intro j k
      frame_out
      pointwise [k0_pay78, k0_pay83, k0_pay88, k0_pay93, Memref.IsWhole.read_unread, read_unread_whole]
  unfold kernelRun0_A.sl.H10_1
  frame_out
  pointwise [k0_pay77]

end Cert.KernelIdeal.Gen

end
-- ==== Proof.Value.FirstU.lean ====
/- The low-rank image of the activations that the first point computes, entry by entry. -/
module

public import proofs.«01_k».proof.Proof.Run.Data
public import proofs.«01_k».proof.Proof.Value.Slab
public import proofs.«01_k».proof.Proof.Value.Words
public import proofs.«01_k».proof.Proof.Value.Pay

@[expose] public section

set_option maxRecDepth 16384

noncomputable section

namespace Cert.KernelIdeal.Gen

open Idealize.ShloMosaic Idealize.ShloMosaic.TcCoe
open Idealize.SL.Sem

variable (m : (ℓ : Loc nD τ sig) → Buf (Elt Ideal) ℓ)

/-- The low-rank image of sequence `q` at the first point, before its scale: the contraction of its rows with adapter `a`. -/
def xav (hO : Ok m) (c : Dev nD) (t : Fin (cfgM m hO).N) (a : Fin 5) (q : Fin 4) (r : Fin 32) (j : Fin 384) : EReal :=
  (∑ i : Fin 2048, (show EReal from iblk m hO c 6 t (ix3 a r i)) * (show EReal from iblk m hO c 0 t (ix2 ⟨384 * q.val + j.val, by omega⟩ i))) * (show EReal from iblk m hO c 1 t (ix2 0 ⟨384 * q.val + j.val, by omega⟩))

/-- The low-rank image that the first point stores. -/
theorem outA12 {ad : Fin 4 → Fin 5} (had : Names m ad) (hO : Ok m) (hH : Hyps m hO) (c : Dev nD) (t : Fin (cfgM m hO).N) (h0 : t.val % 16 = 0) (h1 : ¬t.val % 16 = 15) (q : Fin 4) (r : Fin 32) (j : Fin 384) :
    View.canon (ptA m hO hH c t h0 h1).2.1 (ix3 q r j) = xav m hO c t (ad q) q r j := by
  unfold ptA kernelRun0_A
  dsimp only
  canon_tiles x h
  · obtain rfl : q = 3 := Fin.ext (by rw [ix3_0] at h0; show q.val = 3; omega)
    obtain rfl : x = ix3 0 r j :=
      (eq_ix3 x).trans ((ix3_inj ..).2 ⟨Fin.ext (by show (x 0).val = 0; omega), Fin.ext h1.symm, Fin.ext h2.symm⟩)
    unfold xav
    frame_out
    pointwise [k0_pay4, k0_pay14, k0_pay24, k0_pay34, k0_pay3, k0_pay13, k0_pay23, k0_pay33, k0_off1, k0_off2, k0_off3, k0_off4, Memref.IsWhole.read_unread, read_unread_whole]
    exact congrArg₂ (· * ·) (Finset.sum_congr rfl fun k _ => congrArg₂ (· * ·) (congrArg (fun a => iblk m hO c 6 t (ix3 a r k)) (Fin.ext (had.word m 3 _ rfl _ _))) rfl) rfl
  · obtain rfl : q = 2 := Fin.ext (by rw [ix3_0] at h0; show q.val = 2; omega)
    obtain rfl : x = ix3 0 r j :=
      (eq_ix3 x).trans ((ix3_inj ..).2 ⟨Fin.ext (by show (x 0).val = 0; omega), Fin.ext h1.symm, Fin.ext h2.symm⟩)
    unfold xav
    frame_out
    pointwise [k0_pay4, k0_pay14, k0_pay24, k0_pay34, k0_pay3, k0_pay13, k0_pay23, k0_pay33, k0_off1, k0_off2, k0_off3, k0_off4, Memref.IsWhole.read_unread, read_unread_whole]
    exact congrArg₂ (· * ·) (Finset.sum_congr rfl fun k _ => congrArg₂ (· * ·) (congrArg (fun a => iblk m hO c 6 t (ix3 a r k)) (Fin.ext (had.word m 2 _ rfl _ _))) rfl) rfl
  · obtain rfl : q = 1 := Fin.ext (by rw [ix3_0] at h0; show q.val = 1; omega)
    obtain rfl : x = ix3 0 r j :=
      (eq_ix3 x).trans ((ix3_inj ..).2 ⟨Fin.ext (by show (x 0).val = 0; omega), Fin.ext h1.symm, Fin.ext h2.symm⟩)
    unfold xav
    frame_out
    pointwise [k0_pay4, k0_pay14, k0_pay24, k0_pay34, k0_pay3, k0_pay13, k0_pay23, k0_pay33, k0_off1, k0_off2, k0_off3, k0_off4, Memref.IsWhole.read_unread, read_unread_whole]
    exact congrArg₂ (· * ·) (Finset.sum_congr rfl fun k _ => congrArg₂ (· * ·) (congrArg (fun a => iblk m hO c 6 t (ix3 a r k)) (Fin.ext (had.word m 1 _ rfl _ _))) rfl) rfl
  · obtain rfl : q = 0 := Fin.ext (by rw [ix3_0] at h0; show q.val = 0; omega)
    obtain rfl : x = ix3 0 r j :=
      (eq_ix3 x).trans ((ix3_inj ..).2 ⟨Fin.ext (by show (x 0).val = 0; omega), Fin.ext h1.symm, Fin.ext h2.symm⟩)
    unfold xav
    frame_out
    pointwise [k0_pay4, k0_pay14, k0_pay24, k0_pay34, k0_pay3, k0_pay13, k0_pay23, k0_pay33, k0_off1, k0_off2, k0_off3, k0_off4, Memref.IsWhole.read_unread, read_unread_whole]
    exact congrArg₂ (· * ·) (Finset.sum_congr rfl fun k _ => congrArg₂ (· * ·) (congrArg (fun a => iblk m hO c 6 t (ix3 a r k)) (Fin.ext (had.word m 0 _ rfl _ _))) rfl) rfl

set_option maxHeartbeats 1000000 in
/-- The scratch of the scaled low-rank image: its three pieces, one below the other. -/
theorem stA_u {ad : Fin 4 → Fin 5} (had : Names m ad) (hO : Ok m) (hH : Hyps m hO) (c : Dev nD) (t : Fin (cfgM m hO).N) (h0 : t.val % 16 = 0) (h1 : ¬t.val % 16 = 15) (q : Fin 4) (p : Fin 3) (r : Fin 32) (j : Fin 384) :
    (stA m hO hH c t h0 h1).2.2 (ix3 q ⟨32 * p.val + r.val, by omega⟩ j)
      = split3 (xav m hO c t (ad q) q r j * (show EReal from iblk m hO c 3 t (ix2 0 ⟨384 * q.val + j.val, by omega⟩))) p := by
  unfold stA ptA kernelRun0_A
  dsimp only
  unfold kernelRun0_A.sl.Hs2_12
  canon_tiles x h
  · obtain rfl : q = 3 := Fin.ext (by rw [ix3_0] at h0; show q.val = 3; omega)
    obtain rfl : p = 2 := Fin.ext (by rw [ix3_1] at h1; have h1' : 32 * p.val + r.val = 64 + (x 1).val := h1; show p.val = 2; omega)
    obtain rfl : x = ix3 0 r j := (eq_ix3 x).trans ((ix3_inj ..).2 ⟨Fin.ext (by show (x 0).val = 0; omega), Fin.ext (by rw [ix3_1] at h1; have h1' : 32 * 2 + r.val = 64 + (x 1).val := h1; omega), Fin.ext h2.symm⟩)
    unfold xav split3
    frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay72, k0_pay73, k0_pay74, k0_off1, k0_off2, k0_off3, k0_off4, Memref.IsWhole.read_unread, read_unread_whole]
    exact sub3 (congrArg₂ (· * ·) (congrArg₂ (· * ·) (Finset.sum_congr rfl fun k _ => congrArg₂ (· * ·) (congrArg (fun a => iblk m hO c 6 t (ix3 a r k)) (Fin.ext (had.word m 3 _ rfl _ _))) rfl) rfl) rfl)
  · obtain rfl : q = 3 := Fin.ext (by rw [ix3_0] at h0; show q.val = 3; omega)
    obtain rfl : p = 1 := Fin.ext (by rw [ix3_1] at h1; have h1' : 32 * p.val + r.val = 32 + (x 1).val := h1; show p.val = 1; omega)
    obtain rfl : x = ix3 0 r j := (eq_ix3 x).trans ((ix3_inj ..).2 ⟨Fin.ext (by show (x 0).val = 0; omega), Fin.ext (by rw [ix3_1] at h1; have h1' : 32 * 1 + r.val = 32 + (x 1).val := h1; omega), Fin.ext h2.symm⟩)
    unfold xav split3
    frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay72, k0_pay73, k0_pay74, k0_off1, k0_off2, k0_off3, k0_off4, Memref.IsWhole.read_unread, read_unread_whole]
    exact sub2 (congrArg₂ (· * ·) (congrArg₂ (· * ·) (Finset.sum_congr rfl fun k _ => congrArg₂ (· * ·) (congrArg (fun a => iblk m hO c 6 t (ix3 a r k)) (Fin.ext (had.word m 3 _ rfl _ _))) rfl) rfl) rfl)
  · obtain rfl : q = 3 := Fin.ext (by rw [ix3_0] at h0; show q.val = 3; omega)
    obtain rfl : p = 0 := Fin.ext (by rw [ix3_1] at h1; have h1' : 32 * p.val + r.val = (x 1).val := h1; show p.val = 0; omega)
    obtain rfl : x = ix3 0 r j := (eq_ix3 x).trans ((ix3_inj ..).2 ⟨Fin.ext (by show (x 0).val = 0; omega), Fin.ext (by rw [ix3_1] at h1; have h1' : 32 * 0 + r.val = (x 1).val := h1; omega), Fin.ext h2.symm⟩)
    unfold xav split3
    frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay72, k0_pay73, k0_pay74, k0_off1, k0_off2, k0_off3, k0_off4, Memref.IsWhole.read_unread, read_unread_whole]
    exact (congrArg₂ (· * ·) (congrArg₂ (· * ·) (Finset.sum_congr rfl fun k _ => congrArg₂ (· * ·) (congrArg (fun a => iblk m hO c 6 t (ix3 a r k)) (Fin.ext (had.word m 3 _ rfl _ _))) rfl) rfl) rfl)
  · obtain rfl : q = 2 := Fin.ext (by rw [ix3_0] at h0; show q.val = 2; omega)
    obtain rfl : p = 2 := Fin.ext (by rw [ix3_1] at h1; have h1' : 32 * p.val + r.val = 64 + (x 1).val := h1; show p.val = 2; omega)
    obtain rfl : x = ix3 0 r j := (eq_ix3 x).trans ((ix3_inj ..).2 ⟨Fin.ext (by show (x 0).val = 0; omega), Fin.ext (by rw [ix3_1] at h1; have h1' : 32 * 2 + r.val = 64 + (x 1).val := h1; omega), Fin.ext h2.symm⟩)
    unfold xav split3
    frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay72, k0_pay73, k0_pay74, k0_off1, k0_off2, k0_off3, k0_off4, Memref.IsWhole.read_unread, read_unread_whole]
    exact sub3 (congrArg₂ (· * ·) (congrArg₂ (· * ·) (Finset.sum_congr rfl fun k _ => congrArg₂ (· * ·) (congrArg (fun a => iblk m hO c 6 t (ix3 a r k)) (Fin.ext (had.word m 2 _ rfl _ _))) rfl) rfl) rfl)
  · obtain rfl : q = 2 := Fin.ext (by rw [ix3_0] at h0; show q.val = 2; omega)
    obtain rfl : p = 1 := Fin.ext (by rw [ix3_1] at h1; have h1' : 32 * p.val + r.val = 32 + (x 1).val := h1; show p.val = 1; omega)
    obtain rfl : x = ix3 0 r j := (eq_ix3 x).trans ((ix3_inj ..).2 ⟨Fin.ext (by show (x 0).val = 0; omega), Fin.ext (by rw [ix3_1] at h1; have h1' : 32 * 1 + r.val = 32 + (x 1).val := h1; omega), Fin.ext h2.symm⟩)
    unfold xav split3
    frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay72, k0_pay73, k0_pay74, k0_off1, k0_off2, k0_off3, k0_off4, Memref.IsWhole.read_unread, read_unread_whole]
    exact sub2 (congrArg₂ (· * ·) (congrArg₂ (· * ·) (Finset.sum_congr rfl fun k _ => congrArg₂ (· * ·) (congrArg (fun a => iblk m hO c 6 t (ix3 a r k)) (Fin.ext (had.word m 2 _ rfl _ _))) rfl) rfl) rfl)
  · obtain rfl : q = 2 := Fin.ext (by rw [ix3_0] at h0; show q.val = 2; omega)
    obtain rfl : p = 0 := Fin.ext (by rw [ix3_1] at h1; have h1' : 32 * p.val + r.val = (x 1).val := h1; show p.val = 0; omega)
    obtain rfl : x = ix3 0 r j := (eq_ix3 x).trans ((ix3_inj ..).2 ⟨Fin.ext (by show (x 0).val = 0; omega), Fin.ext (by rw [ix3_1] at h1; have h1' : 32 * 0 + r.val = (x 1).val := h1; omega), Fin.ext h2.symm⟩)
    unfold xav split3
    frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay72, k0_pay73, k0_pay74, k0_off1, k0_off2, k0_off3, k0_off4, Memref.IsWhole.read_unread, read_unread_whole]
    exact (congrArg₂ (· * ·) (congrArg₂ (· * ·) (Finset.sum_congr rfl fun k _ => congrArg₂ (· * ·) (congrArg (fun a => iblk m hO c 6 t (ix3 a r k)) (Fin.ext (had.word m 2 _ rfl _ _))) rfl) rfl) rfl)
  · obtain rfl : q = 1 := Fin.ext (by rw [ix3_0] at h0; show q.val = 1; omega)
    obtain rfl : p = 2 := Fin.ext (by rw [ix3_1] at h1; have h1' : 32 * p.val + r.val = 64 + (x 1).val := h1; show p.val = 2; omega)
    obtain rfl : x = ix3 0 r j := (eq_ix3 x).trans ((ix3_inj ..).2 ⟨Fin.ext (by show (x 0).val = 0; omega), Fin.ext (by rw [ix3_1] at h1; have h1' : 32 * 2 + r.val = 64 + (x 1).val := h1; omega), Fin.ext h2.symm⟩)
    unfold xav split3
    frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay72, k0_pay73, k0_pay74, k0_off1, k0_off2, k0_off3, k0_off4, Memref.IsWhole.read_unread, read_unread_whole]
    exact sub3 (congrArg₂ (· * ·) (congrArg₂ (· * ·) (Finset.sum_congr rfl fun k _ => congrArg₂ (· * ·) (congrArg (fun a => iblk m hO c 6 t (ix3 a r k)) (Fin.ext (had.word m 1 _ rfl _ _))) rfl) rfl) rfl)
  · obtain rfl : q = 1 := Fin.ext (by rw [ix3_0] at h0; show q.val = 1; omega)
    obtain rfl : p = 1 := Fin.ext (by rw [ix3_1] at h1; have h1' : 32 * p.val + r.val = 32 + (x 1).val := h1; show p.val = 1; omega)
    obtain rfl : x = ix3 0 r j := (eq_ix3 x).trans ((ix3_inj ..).2 ⟨Fin.ext (by show (x 0).val = 0; omega), Fin.ext (by rw [ix3_1] at h1; have h1' : 32 * 1 + r.val = 32 + (x 1).val := h1; omega), Fin.ext h2.symm⟩)
    unfold xav split3
    frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay72, k0_pay73, k0_pay74, k0_off1, k0_off2, k0_off3, k0_off4, Memref.IsWhole.read_unread, read_unread_whole]
    exact sub2 (congrArg₂ (· * ·) (congrArg₂ (· * ·) (Finset.sum_congr rfl fun k _ => congrArg₂ (· * ·) (congrArg (fun a => iblk m hO c 6 t (ix3 a r k)) (Fin.ext (had.word m 1 _ rfl _ _))) rfl) rfl) rfl)
  · obtain rfl : q = 1 := Fin.ext (by rw [ix3_0] at h0; show q.val = 1; omega)
    obtain rfl : p = 0 := Fin.ext (by rw [ix3_1] at h1; have h1' : 32 * p.val + r.val = (x 1).val := h1; show p.val = 0; omega)
    obtain rfl : x = ix3 0 r j := (eq_ix3 x).trans ((ix3_inj ..).2 ⟨Fin.ext (by show (x 0).val = 0; omega), Fin.ext (by rw [ix3_1] at h1; have h1' : 32 * 0 + r.val = (x 1).val := h1; omega), Fin.ext h2.symm⟩)
    unfold xav split3
    frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay72, k0_pay73, k0_pay74, k0_off1, k0_off2, k0_off3, k0_off4, Memref.IsWhole.read_unread, read_unread_whole]
    exact (congrArg₂ (· * ·) (congrArg₂ (· * ·) (Finset.sum_congr rfl fun k _ => congrArg₂ (· * ·) (congrArg (fun a => iblk m hO c 6 t (ix3 a r k)) (Fin.ext (had.word m 1 _ rfl _ _))) rfl) rfl) rfl)
  · obtain rfl : q = 0 := Fin.ext (by rw [ix3_0] at h0; show q.val = 0; omega)
    obtain rfl : p = 2 := Fin.ext (by rw [ix3_1] at h1; have h1' : 32 * p.val + r.val = 64 + (x 1).val := h1; show p.val = 2; omega)
    obtain rfl : x = ix3 0 r j := (eq_ix3 x).trans ((ix3_inj ..).2 ⟨Fin.ext (by show (x 0).val = 0; omega), Fin.ext (by rw [ix3_1] at h1; have h1' : 32 * 2 + r.val = 64 + (x 1).val := h1; omega), Fin.ext h2.symm⟩)
    unfold xav split3
    frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay72, k0_pay73, k0_pay74, k0_off1, k0_off2, k0_off3, k0_off4, Memref.IsWhole.read_unread, read_unread_whole]
    exact sub3 (congrArg₂ (· * ·) (congrArg₂ (· * ·) (Finset.sum_congr rfl fun k _ => congrArg₂ (· * ·) (congrArg (fun a => iblk m hO c 6 t (ix3 a r k)) (Fin.ext (had.word m 0 _ rfl _ _))) rfl) rfl) rfl)
  · obtain rfl : q = 0 := Fin.ext (by rw [ix3_0] at h0; show q.val = 0; omega)
    obtain rfl : p = 1 := Fin.ext (by rw [ix3_1] at h1; have h1' : 32 * p.val + r.val = 32 + (x 1).val := h1; show p.val = 1; omega)
    obtain rfl : x = ix3 0 r j := (eq_ix3 x).trans ((ix3_inj ..).2 ⟨Fin.ext (by show (x 0).val = 0; omega), Fin.ext (by rw [ix3_1] at h1; have h1' : 32 * 1 + r.val = 32 + (x 1).val := h1; omega), Fin.ext h2.symm⟩)
    unfold xav split3
    frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay72, k0_pay73, k0_pay74, k0_off1, k0_off2, k0_off3, k0_off4, Memref.IsWhole.read_unread, read_unread_whole]
    exact sub2 (congrArg₂ (· * ·) (congrArg₂ (· * ·) (Finset.sum_congr rfl fun k _ => congrArg₂ (· * ·) (congrArg (fun a => iblk m hO c 6 t (ix3 a r k)) (Fin.ext (had.word m 0 _ rfl _ _))) rfl) rfl) rfl)
  · obtain rfl : q = 0 := Fin.ext (by rw [ix3_0] at h0; show q.val = 0; omega)
    obtain rfl : p = 0 := Fin.ext (by rw [ix3_1] at h1; have h1' : 32 * p.val + r.val = (x 1).val := h1; show p.val = 0; omega)
    obtain rfl : x = ix3 0 r j := (eq_ix3 x).trans ((ix3_inj ..).2 ⟨Fin.ext (by show (x 0).val = 0; omega), Fin.ext (by rw [ix3_1] at h1; have h1' : 32 * 0 + r.val = (x 1).val := h1; omega), Fin.ext h2.symm⟩)
    unfold xav split3
    frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay72, k0_pay73, k0_pay74, k0_off1, k0_off2, k0_off3, k0_off4, Memref.IsWhole.read_unread, read_unread_whole]
    exact (congrArg₂ (· * ·) (congrArg₂ (· * ·) (Finset.sum_congr rfl fun k _ => congrArg₂ (· * ·) (congrArg (fun a => iblk m hO c 6 t (ix3 a r k)) (Fin.ext (had.word m 0 _ rfl _ _))) rfl) rfl) rfl)

end Cert.KernelIdeal.Gen

end
-- ==== Proof.Value.Mid.lean ====
/- What the body leaves at a point between the first and the last, entry by entry. -/
module

public import proofs.«01_k».proof.Proof.Run.Data
public import proofs.«01_k».proof.Proof.Value.Slab
public import proofs.«01_k».proof.Proof.Value.Words

@[expose] public section

set_option maxRecDepth 16384

noncomputable section

namespace Cert.KernelIdeal.Gen

open Idealize.ShloMosaic Idealize.ShloMosaic.TcCoe
open Idealize.SL.Sem

variable (m : (ℓ : Loc nD τ sig) → Buf (Elt Ideal) ℓ)

/-- The accumulated product after a middle point: the block's contraction, added. -/
theorem stB_g (hO : Ok m) (hH : Hyps m hO) (c : Dev nD) (t : Fin (cfgM m hO).N) (h0 : ¬t.val % 16 = 0) (h1 : ¬t.val % 16 = 15)
    (s : Vec Ideal S2048x1536 .f32 × Vec Ideal S4x32x384 .f32 × Vec Ideal S4x96x384 .bf16) (i : Fin 2048) (j : Fin 1536) :
    (stB m hO hH c t h0 h1 s).1 (ix2 i j) = (show EReal from s.1 (ix2 i j)) + ∑ k : Fin 512, (show EReal from iblk m hO c 4 t (ix2 i k)) * (show EReal from iblk m hO c 5 t (ix2 0 k)) * (show EReal from iblk m hO c 2 t (ix2 j k)) := by
  unfold stB ptB kernelRun0_B
  dsimp only
  frame_out
  pointwise [k0_pay76, k0_pay74, Memref.IsWhole.read_unread, read_unread_whole]

/-- The accumulated low-rank product after that point: the block's contraction with the sequence's adapter, added. -/
theorem stB_t {ad : Fin 4 → Fin 5} (had : Names m ad) (hO : Ok m) (hH : Hyps m hO) (c : Dev nD) (t : Fin (cfgM m hO).N) (h0 : ¬t.val % 16 = 0) (h1 : ¬t.val % 16 = 15)
    (s : Vec Ideal S2048x1536 .f32 × Vec Ideal S4x32x384 .f32 × Vec Ideal S4x96x384 .bf16) (q : Fin 4) (r : Fin 32) (j : Fin 384) :
    (stB m hO hH c t h0 h1 s).2.1 (ix3 q r j) = (show EReal from s.2.1 (ix3 q r j)) + ∑ k : Fin 512, (show EReal from iblk m hO c 7 t (ix3 (ad q) r k)) * (show EReal from iblk m hO c 2 t (ix2 ⟨384 * q.val + j.val, by omega⟩ k)) := by
  unfold stB ptB kernelRun0_B
  dsimp only
  canon_tiles x h
  · obtain rfl : q = 3 := Fin.ext (by rw [ix3_0] at h0; show q.val = 3; omega)
    obtain rfl : x = ix3 0 r j :=
      (eq_ix3 x).trans ((ix3_inj ..).2 ⟨Fin.ext (by show (x 0).val = 0; omega), Fin.ext h1.symm, Fin.ext h2.symm⟩)
    frame_out
    pointwise [k0_pay1, k0_pay94, k0_pay93, k0_pay75, k0_off5, k0_off7, k0_off9, k0_off11, Memref.IsWhole.read_unread, read_unread_whole]
    refine congrArg₂ (· + ·) rfl (Finset.sum_congr rfl fun k _ => congrArg₂ (· * ·) (congrArg (fun a => iblk m hO c 7 t (ix3 a r k)) (Fin.ext (had.word m 3 _ rfl _ _))) rfl)
  · obtain rfl : q = 2 := Fin.ext (by rw [ix3_0] at h0; show q.val = 2; omega)
    obtain rfl : x = ix3 0 r j :=
      (eq_ix3 x).trans ((ix3_inj ..).2 ⟨Fin.ext (by show (x 0).val = 0; omega), Fin.ext h1.symm, Fin.ext h2.symm⟩)
    frame_out
    pointwise [k0_pay91, k0_pay90, k0_pay89, k0_pay88, k0_pay75, k0_off5, k0_off7, k0_off9, k0_off11, Memref.IsWhole.read_unread, read_unread_whole]
    refine congrArg₂ (· + ·) rfl (Finset.sum_congr rfl fun k _ => congrArg₂ (· * ·) (congrArg (fun a => iblk m hO c 7 t (ix3 a r k)) (Fin.ext (had.word m 2 _ rfl _ _))) rfl)
  · obtain rfl : q = 1 := Fin.ext (by rw [ix3_0] at h0; show q.val = 1; omega)
    obtain rfl : x = ix3 0 r j :=
      (eq_ix3 x).trans ((ix3_inj ..).2 ⟨Fin.ext (by show (x 0).val = 0; omega), Fin.ext h1.symm, Fin.ext h2.symm⟩)
    frame_out
    pointwise [k0_pay86, k0_pay85, k0_pay84, k0_pay83, k0_pay75, k0_off5, k0_off7, k0_off9, k0_off11, Memref.IsWhole.read_unread, read_unread_whole]
    refine congrArg₂ (· + ·) rfl (Finset.sum_congr rfl fun k _ => congrArg₂ (· * ·) (congrArg (fun a => iblk m hO c 7 t (ix3 a r k)) (Fin.ext (had.word m 1 _ rfl _ _))) rfl)
  · obtain rfl : q = 0 := Fin.ext (by rw [ix3_0] at h0; show q.val = 0; omega)
    obtain rfl : x = ix3 0 r j :=
      (eq_ix3 x).trans ((ix3_inj ..).2 ⟨Fin.ext (by show (x 0).val = 0; omega), Fin.ext h1.symm, Fin.ext h2.symm⟩)
    frame_out
    pointwise [k0_pay81, k0_pay80, k0_pay79, k0_pay78, k0_pay75, k0_off5, k0_off7, k0_off9, k0_off11, Memref.IsWhole.read_unread, read_unread_whole]
    refine congrArg₂ (· + ·) rfl (Finset.sum_congr rfl fun k _ => congrArg₂ (· * ·) (congrArg (fun a => iblk m hO c 7 t (ix3 a r k)) (Fin.ext (had.word m 0 _ rfl _ _))) rfl)

/-- The block of the second adapters' gradient that the point leaves: over a zero fill, each sequence adds to its adapter's slab. -/
theorem dbB_at {ad : Fin 4 → Fin 5} (had : Names m ad) (hO : Ok m) (hH : Hyps m hO) (c : Dev nD) (t : Fin (cfgM m hO).N) (h0 : ¬t.val % 16 = 0) (h1 : ¬t.val % 16 = 15)
    (s : Vec Ideal S2048x1536 .f32 × Vec Ideal S4x32x384 .f32 × Vec Ideal S4x96x384 .bf16) (a : Fin 5) (r : Fin 32) (k : Fin 512) :
    View.canon (ptB m hO hH c t h0 h1 s.1 s.2.1 s.2.2).1 (ix3 a r k) = (0 : EReal)
      + (if a = ad 0 then dbv s.2.2 (iblk m hO c 2 t) 0 r k else 0)
      + (if a = ad 1 then dbv s.2.2 (iblk m hO c 2 t) 1 r k else 0)
      + (if a = ad 2 then dbv s.2.2 (iblk m hO c 2 t) 2 r k else 0)
      + (if a = ad 3 then dbv s.2.2 (iblk m hO c 2 t) 3 r k else 0) := by
  unfold ptB kernelRun0_B
  dsimp only
  unfold kernelRun0_B.sl.v144
  refine Cert.Slab.canon_slab_add (ms0_10 m hO t).view _ _ _ (ad 3) ⟨had.word m 3 _ rfl _ _, rfl, rfl⟩ _ (dbv s.2.2 (iblk m hO c 2 t) 3) ?_ a r k _ ?_
  · intro r k
    refine (pay2_at _ _ _ r k).trans (congrArg₂ (· + ·) rfl (bands_eq _ _ _ _ 3 ?_ ?_ r k))
    · intro r j
      frame_out
      pointwise [Memref.IsWhole.read_unread, read_unread_whole]
    · intro j k
      frame_out
      pointwise [k0_pay78, k0_pay83, k0_pay88, k0_pay93, Memref.IsWhole.read_unread, read_unread_whole]
  unfold kernelRun0_B.sl.H10_4
  unfold kernelRun0_B.sl.v111
  refine Cert.Slab.canon_slab_add (ms0_10 m hO t).view _ _ _ (ad 2) ⟨had.word m 2 _ rfl _ _, rfl, rfl⟩ _ (dbv s.2.2 (iblk m hO c 2 t) 2) ?_ a r k _ ?_
  · intro r k
    refine (pay92_at _ _ _ r k).trans (congrArg₂ (· + ·) rfl (bands_eq _ _ _ _ 2 ?_ ?_ r k))
    · intro r j
      frame_out
      pointwise [Memref.IsWhole.read_unread, read_unread_whole]
    · intro j k
      frame_out
      pointwise [k0_pay78, k0_pay83, k0_pay88, k0_pay93, Memref.IsWhole.read_unread, read_unread_whole]
  unfold kernelRun0_B.sl.H10_3
  unfold kernelRun0_B.sl.v78
  refine Cert.Slab.canon_slab_add (ms0_10 m hO t).view _ _ _ (ad 1) ⟨had.word m 1 _ rfl _ _, rfl, rfl⟩ _ (dbv s.2.2 (iblk m hO c 2 t) 1) ?_ a r k _ ?_
  · intro r k
    refine (pay87_at _ _ _ r k).trans (congrArg₂ (· + ·) rfl (bands_eq _ _ _ _ 1 ?_ ?_ r k))
    · intro r j
      frame_out
      pointwise [Memref.IsWhole.read_unread, read_unread_whole]
    · intro j k
      frame_out
      pointwise [k0_pay78, k0_pay83, k0_pay88, k0_pay93, Memref.IsWhole.read_unread, read_unread_whole]
  unfold kernelRun0_B.sl.H10_2
  unfold kernelRun0_B.sl.v45
  refine Cert.Slab.canon_slab_add (ms0_10 m hO t).view _ _ _ (ad 0) ⟨had.word m 0 _ rfl _ _, rfl, rfl⟩ _ (dbv s.2.2 (iblk m hO c 2 t) 0) ?_ a r k _ ?_
  · intro r k
    refine (pay82_at _ _ _ r k).trans (congrArg₂ (· + ·) rfl (bands_eq _ _ _ _ 0 ?_ ?_ r k))
    · intro r j
      frame_out
      pointwise [Memref.IsWhole.read_unread, read_unread_whole]
    · intro j k
      frame_out
      pointwise [k0_pay78, k0_pay83, k0_pay88, k0_pay93, Memref.IsWhole.read_unread, read_unread_whole]
  unfold kernelRun0_B.sl.H10_1
  frame_out
  pointwise [k0_pay77]

end Cert.KernelIdeal.Gen

end
-- ==== Proof.Value.Last.lean ====
/- What the scratch and the block of the second adapters' gradient hold after the last point, entry by entry. -/
module

public import proofs.«01_k».proof.Proof.Run.Data
public import proofs.«01_k».proof.Proof.Value.Slab
public import proofs.«01_k».proof.Proof.Value.Words

@[expose] public section

set_option maxRecDepth 16384

noncomputable section

namespace Cert.KernelIdeal.Gen

open Idealize.ShloMosaic Idealize.ShloMosaic.TcCoe
open Idealize.SL.Sem

variable (m : (ℓ : Loc nD τ sig) → Buf (Elt Ideal) ℓ)

/-- The accumulated product after the last point: the block's contraction, added. -/
theorem stC_g (hO : Ok m) (hH : Hyps m hO) (c : Dev nD) (t : Fin (cfgM m hO).N) (h0 : ¬t.val % 16 = 0) (h1 : t.val % 16 = 15)
    (s : Vec Ideal S2048x1536 .f32 × Vec Ideal S4x32x384 .f32 × Vec Ideal S4x96x384 .bf16) (i : Fin 2048) (j : Fin 1536) :
    (stC m hO hH c t h0 h1 s).1 (ix2 i j) = (show EReal from s.1 (ix2 i j)) + ∑ k : Fin 512, (show EReal from iblk m hO c 4 t (ix2 i k)) * (show EReal from iblk m hO c 5 t (ix2 0 k)) * (show EReal from iblk m hO c 2 t (ix2 j k)) := by
  unfold stC ptC kernelRun0_C
  dsimp only
  frame_out
  pointwise [k0_pay76, k0_pay74, Memref.IsWhole.read_unread, read_unread_whole]

/-- The accumulated low-rank product after that point: the block's contraction with the sequence's adapter, added. -/
theorem stC_t {ad : Fin 4 → Fin 5} (had : Names m ad) (hO : Ok m) (hH : Hyps m hO) (c : Dev nD) (t : Fin (cfgM m hO).N) (h0 : ¬t.val % 16 = 0) (h1 : t.val % 16 = 15)
    (s : Vec Ideal S2048x1536 .f32 × Vec Ideal S4x32x384 .f32 × Vec Ideal S4x96x384 .bf16) (q : Fin 4) (r : Fin 32) (j : Fin 384) :
    (stC m hO hH c t h0 h1 s).2.1 (ix3 q r j) = (show EReal from s.2.1 (ix3 q r j)) + ∑ k : Fin 512, (show EReal from iblk m hO c 7 t (ix3 (ad q) r k)) * (show EReal from iblk m hO c 2 t (ix2 ⟨384 * q.val + j.val, by omega⟩ k)) := by
  unfold stC ptC kernelRun0_C
  dsimp only
  unfold kernelRun0_C.sl.Hs1_4
  canon_tiles x h
  · obtain rfl : q = 3 := Fin.ext (by rw [ix3_0] at h0; show q.val = 3; omega)
    obtain rfl : x = ix3 0 r j :=
      (eq_ix3 x).trans ((ix3_inj ..).2 ⟨Fin.ext (by show (x 0).val = 0; omega), Fin.ext h1.symm, Fin.ext h2.symm⟩)
    frame_out
    pointwise [k0_pay1, k0_pay94, k0_pay93, k0_pay75, k0_off5, k0_off7, k0_off9, k0_off11, Memref.IsWhole.read_unread, read_unread_whole]
    refine congrArg₂ (· + ·) rfl (Finset.sum_congr rfl fun k _ => congrArg₂ (· * ·) (congrArg (fun a => iblk m hO c 7 t (ix3 a r k)) (Fin.ext (had.word m 3 _ rfl _ _))) rfl)
  · obtain rfl : q = 2 := Fin.ext (by rw [ix3_0] at h0; show q.val = 2; omega)
    obtain rfl : x = ix3 0 r j :=
      (eq_ix3 x).trans ((ix3_inj ..).2 ⟨Fin.ext (by show (x 0).val = 0; omega), Fin.ext h1.symm, Fin.ext h2.symm⟩)
    frame_out
    pointwise [k0_pay91, k0_pay90, k0_pay89, k0_pay88, k0_pay75, k0_off5, k0_off7, k0_off9, k0_off11, Memref.IsWhole.read_unread, read_unread_whole]
    refine congrArg₂ (· + ·) rfl (Finset.sum_congr rfl fun k _ => congrArg₂ (· * ·) (congrArg (fun a => iblk m hO c 7 t (ix3 a r k)) (Fin.ext (had.word m 2 _ rfl _ _))) rfl)
  · obtain rfl : q = 1 := Fin.ext (by rw [ix3_0] at h0; show q.val = 1; omega)
    obtain rfl : x = ix3 0 r j :=
      (eq_ix3 x).trans ((ix3_inj ..).2 ⟨Fin.ext (by show (x 0).val = 0; omega), Fin.ext h1.symm, Fin.ext h2.symm⟩)
    frame_out
    pointwise [k0_pay86, k0_pay85, k0_pay84, k0_pay83, k0_pay75, k0_off5, k0_off7, k0_off9, k0_off11, Memref.IsWhole.read_unread, read_unread_whole]
    refine congrArg₂ (· + ·) rfl (Finset.sum_congr rfl fun k _ => congrArg₂ (· * ·) (congrArg (fun a => iblk m hO c 7 t (ix3 a r k)) (Fin.ext (had.word m 1 _ rfl _ _))) rfl)
  · obtain rfl : q = 0 := Fin.ext (by rw [ix3_0] at h0; show q.val = 0; omega)
    obtain rfl : x = ix3 0 r j :=
      (eq_ix3 x).trans ((ix3_inj ..).2 ⟨Fin.ext (by show (x 0).val = 0; omega), Fin.ext h1.symm, Fin.ext h2.symm⟩)
    frame_out
    pointwise [k0_pay81, k0_pay80, k0_pay79, k0_pay78, k0_pay75, k0_off5, k0_off7, k0_off9, k0_off11, Memref.IsWhole.read_unread, read_unread_whole]
    refine congrArg₂ (· + ·) rfl (Finset.sum_congr rfl fun k _ => congrArg₂ (· * ·) (congrArg (fun a => iblk m hO c 7 t (ix3 a r k)) (Fin.ext (had.word m 0 _ rfl _ _))) rfl)

/-- The block of the second adapters' gradient that the point leaves: over a zero fill, each sequence adds to its adapter's slab. -/
theorem dbC_at {ad : Fin 4 → Fin 5} (had : Names m ad) (hO : Ok m) (hH : Hyps m hO) (c : Dev nD) (t : Fin (cfgM m hO).N) (h0 : ¬t.val % 16 = 0) (h1 : t.val % 16 = 15)
    (s : Vec Ideal S2048x1536 .f32 × Vec Ideal S4x32x384 .f32 × Vec Ideal S4x96x384 .bf16) (a : Fin 5) (r : Fin 32) (k : Fin 512) :
    View.canon (ptC m hO hH c t h0 h1 s.1 s.2.1 s.2.2).2.2.1 (ix3 a r k) = (0 : EReal)
      + (if a = ad 0 then dbv s.2.2 (iblk m hO c 2 t) 0 r k else 0)
      + (if a = ad 1 then dbv s.2.2 (iblk m hO c 2 t) 1 r k else 0)
      + (if a = ad 2 then dbv s.2.2 (iblk m hO c 2 t) 2 r k else 0)
      + (if a = ad 3 then dbv s.2.2 (iblk m hO c 2 t) 3 r k else 0) := by
  unfold ptC kernelRun0_C
  dsimp only
  unfold kernelRun0_C.sl.v144
  refine Cert.Slab.canon_slab_add (ms0_10 m hO t).view _ _ _ (ad 3) ⟨had.word m 3 _ rfl _ _, rfl, rfl⟩ _ (dbv s.2.2 (iblk m hO c 2 t) 3) ?_ a r k _ ?_
  · intro r k
    refine (pay2_at _ _ _ r k).trans (congrArg₂ (· + ·) rfl (bands_eq _ _ _ _ 3 ?_ ?_ r k))
    · intro r j
      frame_out
      pointwise [Memref.IsWhole.read_unread, read_unread_whole]
    · intro j k
      frame_out
      pointwise [k0_pay78, k0_pay83, k0_pay88, k0_pay93, Memref.IsWhole.read_unread, read_unread_whole]
  unfold kernelRun0_C.sl.H10_4
  unfold kernelRun0_C.sl.v111
  refine Cert.Slab.canon_slab_add (ms0_10 m hO t).view _ _ _ (ad 2) ⟨had.word m 2 _ rfl _ _, rfl, rfl⟩ _ (dbv s.2.2 (iblk m hO c 2 t) 2) ?_ a r k _ ?_
  · intro r k
    refine (pay92_at _ _ _ r k).trans (congrArg₂ (· + ·) rfl (bands_eq _ _ _ _ 2 ?_ ?_ r k))
    · intro r j
      frame_out
      pointwise [Memref.IsWhole.read_unread, read_unread_whole]
    · intro j k
      frame_out
      pointwise [k0_pay78, k0_pay83, k0_pay88, k0_pay93, Memref.IsWhole.read_unread, read_unread_whole]
  unfold kernelRun0_C.sl.H10_3
  unfold kernelRun0_C.sl.v78
  refine Cert.Slab.canon_slab_add (ms0_10 m hO t).view _ _ _ (ad 1) ⟨had.word m 1 _ rfl _ _, rfl, rfl⟩ _ (dbv s.2.2 (iblk m hO c 2 t) 1) ?_ a r k _ ?_
  · intro r k
    refine (pay87_at _ _ _ r k).trans (congrArg₂ (· + ·) rfl (bands_eq _ _ _ _ 1 ?_ ?_ r k))
    · intro r j
      frame_out
      pointwise [Memref.IsWhole.read_unread, read_unread_whole]
    · intro j k
      frame_out
      pointwise [k0_pay78, k0_pay83, k0_pay88, k0_pay93, Memref.IsWhole.read_unread, read_unread_whole]
  unfold kernelRun0_C.sl.H10_2
  unfold kernelRun0_C.sl.v45
  refine Cert.Slab.canon_slab_add (ms0_10 m hO t).view _ _ _ (ad 0) ⟨had.word m 0 _ rfl _ _, rfl, rfl⟩ _ (dbv s.2.2 (iblk m hO c 2 t) 0) ?_ a r k _ ?_
  · intro r k
    refine (pay82_at _ _ _ r k).trans (congrArg₂ (· + ·) rfl (bands_eq _ _ _ _ 0 ?_ ?_ r k))
    · intro r j
      frame_out
      pointwise [Memref.IsWhole.read_unread, read_unread_whole]
    · intro j k
      frame_out
      pointwise [k0_pay78, k0_pay83, k0_pay88, k0_pay93, Memref.IsWhole.read_unread, read_unread_whole]
  unfold kernelRun0_C.sl.H10_1
  frame_out
  pointwise [k0_pay77]

end Cert.KernelIdeal.Gen

end
-- ==== Proof.Value.FinTt.lean ====
/- The scaled low-rank products of the output gradient that the last point stores, entry by entry. -/
module

public import proofs.«01_k».proof.Proof.Run.Data
public import proofs.«01_k».proof.Proof.Value.Slab
public import proofs.«01_k».proof.Proof.Value.Words
public import proofs.«01_k».proof.Proof.Value.Pay

@[expose] public section

set_option maxRecDepth 16384

noncomputable section

namespace Cert.KernelIdeal.Gen

open Idealize.ShloMosaic Idealize.ShloMosaic.TcCoe
open Idealize.SL.Sem

variable (m : (ℓ : Loc nD τ sig) → Buf (Elt Ideal) ℓ)

/-- The scaled low-rank products that the last point stores. -/
theorem ttC_at (hO : Ok m) (hH : Hyps m hO) (c : Dev nD) (t : Fin (cfgM m hO).N) (h0 : ¬t.val % 16 = 0) (h1 : t.val % 16 = 15)
    (s : Vec Ideal S2048x1536 .f32 × Vec Ideal S4x32x384 .f32 × Vec Ideal S4x96x384 .bf16) (q : Fin 4) (r : Fin 32) (j : Fin 384) :
    View.canon (ptC m hO hH c t h0 h1 s.1 s.2.1 s.2.2).2.2.2.1 (ix3 q r j) = (show EReal from (stC m hO hH c t h0 h1 s).2.1 (ix3 q r j)) * (show EReal from iblk m hO c 3 t (ix2 0 ⟨384 * q.val + j.val, by omega⟩)) := by
  unfold stC ptC kernelRun0_C
  dsimp only
  canon_tiles x h
  · obtain rfl : q = 3 := Fin.ext (by rw [ix3_0] at h0; show q.val = 3; omega)
    obtain rfl : x = ix3 0 r j := (eq_ix3 x).trans ((ix3_inj ..).2 ⟨Fin.ext (by show (x 0).val = 0; omega), Fin.ext h1.symm, Fin.ext h2.symm⟩)
    refine (tt3_at _ _ r j).trans (congrArg₂ (· * ·) (Cert.Slab.read_slab (Val := Elt Ideal) scM0_1.view _ ![3, 0, 0] _ 3 ⟨rfl, rfl, rfl⟩ _ _) ?_)
    frame_out
    pointwise [Memref.IsWhole.read_unread, read_unread_whole]
  · obtain rfl : q = 2 := Fin.ext (by rw [ix3_0] at h0; show q.val = 2; omega)
    obtain rfl : x = ix3 0 r j := (eq_ix3 x).trans ((ix3_inj ..).2 ⟨Fin.ext (by show (x 0).val = 0; omega), Fin.ext h1.symm, Fin.ext h2.symm⟩)
    refine (tt2_at _ _ r j).trans (congrArg₂ (· * ·) (Cert.Slab.read_slab (Val := Elt Ideal) scM0_1.view _ ![2, 0, 0] _ 2 ⟨rfl, rfl, rfl⟩ _ _) ?_)
    frame_out
    pointwise [Memref.IsWhole.read_unread, read_unread_whole]
  · obtain rfl : q = 1 := Fin.ext (by rw [ix3_0] at h0; show q.val = 1; omega)
    obtain rfl : x = ix3 0 r j := (eq_ix3 x).trans ((ix3_inj ..).2 ⟨Fin.ext (by show (x 0).val = 0; omega), Fin.ext h1.symm, Fin.ext h2.symm⟩)
    refine (tt1_at _ _ r j).trans (congrArg₂ (· * ·) (Cert.Slab.read_slab (Val := Elt Ideal) scM0_1.view _ ![1, 0, 0] _ 1 ⟨rfl, rfl, rfl⟩ _ _) ?_)
    frame_out
    pointwise [Memref.IsWhole.read_unread, read_unread_whole]
  · obtain rfl : q = 0 := Fin.ext (by rw [ix3_0] at h0; show q.val = 0; omega)
    obtain rfl : x = ix3 0 r j := (eq_ix3 x).trans ((ix3_inj ..).2 ⟨Fin.ext (by show (x 0).val = 0; omega), Fin.ext h1.symm, Fin.ext h2.symm⟩)
    refine (tt0_at _ _ r j).trans (congrArg₂ (· * ·) (Cert.Slab.read_slab (Val := Elt Ideal) scM0_1.view _ ![0, 0, 0] _ 0 ⟨rfl, rfl, rfl⟩ _ _) ?_)
    frame_out
    pointwise [Memref.IsWhole.read_unread, read_unread_whole]

end Cert.KernelIdeal.Gen

end
-- ==== Proof.Value.FinDx.lean ====
/- The gradient of the input that the last point stores, entry by entry. -/
module

public import proofs.«01_k».proof.Proof.Run.Data
public import proofs.«01_k».proof.Proof.Value.Slab
public import proofs.«01_k».proof.Proof.Value.Words
public import proofs.«01_k».proof.Proof.Value.Pay

@[expose] public section

set_option maxRecDepth 16384

noncomputable section

namespace Cert.KernelIdeal.Gen

open Idealize.ShloMosaic Idealize.ShloMosaic.TcCoe
open Idealize.SL.Sem

variable (m : (ℓ : Loc nD τ sig) → Buf (Elt Ideal) ℓ)

/-- The gradient of the input that the last point stores. -/
theorem dxC_at {ad : Fin 4 → Fin 5} (had : Names m ad) (hO : Ok m) (hH : Hyps m hO) (c : Dev nD) (t : Fin (cfgM m hO).N) (h0 : ¬t.val % 16 = 0) (h1 : t.val % 16 = 15)
    (s : Vec Ideal S2048x1536 .f32 × Vec Ideal S4x32x384 .f32 × Vec Ideal S4x96x384 .bf16) (q : Fin 4) (j : Fin 384) (i : Fin 2048) :
    View.canon (ptC m hO hH c t h0 h1 s.1 s.2.1 s.2.2).1 (ix2 ⟨384 * q.val + j.val, by omega⟩ i)
      = ((show EReal from (stC m hO hH c t h0 h1 s).1 (ix2 i ⟨384 * q.val + j.val, by omega⟩)) + lowx (fun r : Fin 32 => (show EReal from iblk m hO c 6 t (ix3 (ad q) r i))) (fun r => Ideal.ofBits .f32 0x40000000#32 * (show EReal from (stC m hO hH c t h0 h1 s).2.1 (ix3 q r j))))
        * (show EReal from iblk m hO c 3 t (ix2 0 ⟨384 * q.val + j.val, by omega⟩)) := by
  unfold stC ptC kernelRun0_C
  dsimp only
  canon_tiles x h
  · have hx := (x 0).isLt
    have h0' : 384 * q.val + j.val = 1152 + (x 0).val := h0
    have hx' : (x 0).val < 384 := hx
    obtain rfl : q = 3 := Fin.ext (by show q.val = 3; omega)
    obtain rfl : x = ix2 j i := (eq_ix2 x).trans ((ix2_inj ..).2 ⟨Fin.ext (by have h0'' : 384 * 3 + j.val = 1152 + (x 0).val := h0; show (x 0).val = j.val; omega), Fin.ext h1.symm⟩)
    refine (dx3_at _ _ _ _ j i).trans (congrArg₂ (· * ·) (congrArg₂ (· + ·) (read_cols scM0_0.view _ ![0, 1152] _ 1152 ⟨rfl, rfl⟩ _ _ _)
      (congrArg₂ lowx (funext fun r => ?_) (funext fun r => congrArg₂ (· * ·) rfl (Cert.Slab.read_slab (Val := Elt Ideal) scM0_1.view _ ![3, 0, 0] _ 3 ⟨rfl, rfl, rfl⟩ _ _)))) ?_)
    · frame_out
      pointwise [k0_off14, k0_off16, k0_off18, k0_off20, Memref.IsWhole.read_unread, read_unread_whole]
      exact congrArg (fun a => iblk m hO c 6 t (ix3 a r i)) (Fin.ext (had.word m 3 _ rfl _ _))
    · frame_out
      pointwise [Memref.IsWhole.read_unread, read_unread_whole]
  · have hx := (x 0).isLt
    have h0' : 384 * q.val + j.val = 768 + (x 0).val := h0
    have hx' : (x 0).val < 384 := hx
    obtain rfl : q = 2 := Fin.ext (by show q.val = 2; omega)
    obtain rfl : x = ix2 j i := (eq_ix2 x).trans ((ix2_inj ..).2 ⟨Fin.ext (by have h0'' : 384 * 2 + j.val = 768 + (x 0).val := h0; show (x 0).val = j.val; omega), Fin.ext h1.symm⟩)
    refine (dx2_at _ _ _ _ j i).trans (congrArg₂ (· * ·) (congrArg₂ (· + ·) (read_cols scM0_0.view _ ![0, 768] _ 768 ⟨rfl, rfl⟩ _ _ _)
      (congrArg₂ lowx (funext fun r => ?_) (funext fun r => congrArg₂ (· * ·) rfl (Cert.Slab.read_slab (Val := Elt Ideal) scM0_1.view _ ![2, 0, 0] _ 2 ⟨rfl, rfl, rfl⟩ _ _)))) ?_)
    · frame_out
      pointwise [k0_off14, k0_off16, k0_off18, k0_off20, Memref.IsWhole.read_unread, read_unread_whole]
      exact congrArg (fun a => iblk m hO c 6 t (ix3 a r i)) (Fin.ext (had.word m 2 _ rfl _ _))
    · frame_out
      pointwise [Memref.IsWhole.read_unread, read_unread_whole]
  · have hx := (x 0).isLt
    have h0' : 384 * q.val + j.val = 384 + (x 0).val := h0
    have hx' : (x 0).val < 384 := hx
    obtain rfl : q = 1 := Fin.ext (by show q.val = 1; omega)
    obtain rfl : x = ix2 j i := (eq_ix2 x).trans ((ix2_inj ..).2 ⟨Fin.ext (by have h0'' : 384 * 1 + j.val = 384 + (x 0).val := h0; show (x 0).val = j.val; omega), Fin.ext h1.symm⟩)
    refine (dx1_at _ _ _ _ j i).trans (congrArg₂ (· * ·) (congrArg₂ (· + ·) (read_cols scM0_0.view _ ![0, 384] _ 384 ⟨rfl, rfl⟩ _ _ _)
      (congrArg₂ lowx (funext fun r => ?_) (funext fun r => congrArg₂ (· * ·) rfl (Cert.Slab.read_slab (Val := Elt Ideal) scM0_1.view _ ![1, 0, 0] _ 1 ⟨rfl, rfl, rfl⟩ _ _)))) ?_)
    · frame_out
      pointwise [k0_off14, k0_off16, k0_off18, k0_off20, Memref.IsWhole.read_unread, read_unread_whole]
      exact congrArg (fun a => iblk m hO c 6 t (ix3 a r i)) (Fin.ext (had.word m 1 _ rfl _ _))
    · frame_out
      pointwise [Memref.IsWhole.read_unread, read_unread_whole]
  · have hx := (x 0).isLt
    have h0' : 384 * q.val + j.val = (x 0).val := h0
    have hx' : (x 0).val < 384 := hx
    obtain rfl : q = 0 := Fin.ext (by show q.val = 0; omega)
    obtain rfl : x = ix2 j i := (eq_ix2 x).trans ((ix2_inj ..).2 ⟨Fin.ext (by have h0'' : 384 * 0 + j.val = (x 0).val := h0; show (x 0).val = j.val; omega), Fin.ext h1.symm⟩)
    refine (dx0_at _ _ _ _ j i).trans (congrArg₂ (· * ·) (congrArg₂ (· + ·) (read_cols scM0_0.view _ ![0, 0] _ 0 ⟨rfl, rfl⟩ _ _ _)
      (congrArg₂ lowx (funext fun r => ?_) (funext fun r => congrArg₂ (· * ·) rfl (Cert.Slab.read_slab (Val := Elt Ideal) scM0_1.view _ ![0, 0, 0] _ 0 ⟨rfl, rfl, rfl⟩ _ _)))) ?_)
    · frame_out
      pointwise [k0_off14, k0_off16, k0_off18, k0_off20, Memref.IsWhole.read_unread, read_unread_whole]
      exact congrArg (fun a => iblk m hO c 6 t (ix3 a r i)) (Fin.ext (had.word m 0 _ rfl _ _))
    · frame_out
      pointwise [Memref.IsWhole.read_unread, read_unread_whole]

end Cert.KernelIdeal.Gen

end
-- ==== Proof.Value.FinDat.lean ====
/- The first adapters' gradient that the last point stores, entry by entry. -/
module

public import proofs.«01_k».proof.Proof.Run.Data
public import proofs.«01_k».proof.Proof.Value.Slab
public import proofs.«01_k».proof.Proof.Value.Words
public import proofs.«01_k».proof.Proof.Value.Pay

@[expose] public section

set_option maxRecDepth 16384

noncomputable section

namespace Cert.KernelIdeal.Gen

open Idealize.ShloMosaic Idealize.ShloMosaic.TcCoe
open Idealize.SL.Sem

variable (m : (ℓ : Loc nD τ sig) → Buf (Elt Ideal) ℓ)

/-- What sequence `q` adds to the first adapters' gradient, transposed: twice the contraction of its doubly scaled low-rank products `T` with its activations. -/
def datv (T : Vec Ideal S4x32x384 .f32) (hO : Ok m) (c : Dev nD) (t : Fin (cfgM m hO).N) (q : Fin 4) (r : Fin 32) (i : Fin 2048) : EReal :=
  lowd (fun j : Fin 384 => (show EReal from T (ix3 q r j)) * (show EReal from iblk m hO c 3 t (ix2 0 ⟨384 * q.val + j.val, by omega⟩)) * (show EReal from iblk m hO c 1 t (ix2 0 ⟨384 * q.val + j.val, by omega⟩)))
    (fun j => (show EReal from iblk m hO c 0 t (ix2 ⟨384 * q.val + j.val, by omega⟩ i)))

/-- The first adapters' gradient that the last point stores: over a zero fill, each sequence adds to its adapter's slab. -/
theorem datC_at {ad : Fin 4 → Fin 5} (had : Names m ad) (hO : Ok m) (hH : Hyps m hO) (c : Dev nD) (t : Fin (cfgM m hO).N) (h0 : ¬t.val % 16 = 0) (h1 : t.val % 16 = 15)
    (s : Vec Ideal S2048x1536 .f32 × Vec Ideal S4x32x384 .f32 × Vec Ideal S4x96x384 .bf16) (a : Fin 5) (r : Fin 32) (i : Fin 2048) :
    View.canon (ptC m hO hH c t h0 h1 s.1 s.2.1 s.2.2).2.1 (ix3 a r i) = (0 : EReal)
      + (if a = ad 0 then datv m (stC m hO hH c t h0 h1 s).2.1 hO c t 0 r i else 0)
      + (if a = ad 1 then datv m (stC m hO hH c t h0 h1 s).2.1 hO c t 1 r i else 0)
      + (if a = ad 2 then datv m (stC m hO hH c t h0 h1 s).2.1 hO c t 2 r i else 0)
      + (if a = ad 3 then datv m (stC m hO hH c t h0 h1 s).2.1 hO c t 3 r i else 0) := by
  unfold stC ptC kernelRun0_C
  dsimp only
  unfold kernelRun0_C.sl.v391
  refine Cert.Slab.canon_slab_add (ms0_9 m hO t).view _ _ _ (ad 3) ⟨had.word m 3 _ rfl _ _, rfl, rfl⟩ _ (datv m _ hO c t 3) ?_ a r i _ ?_
  · intro r i
    refine (dat3_at _ _ _ _ _ r i).trans (congrArg₂ (· + ·) rfl (congrArg₂ lowd (funext fun j => congrArg₂ (· * ·) (congrArg₂ (· * ·) (Cert.Slab.read_slab (Val := Elt Ideal) scM0_1.view _ ![3, 0, 0] _ 3 ⟨rfl, rfl, rfl⟩ _ _) ?_) ?_) (funext fun j => ?_)))
    · frame_out
      pointwise [Memref.IsWhole.read_unread, read_unread_whole]
    · frame_out
      pointwise [Memref.IsWhole.read_unread, read_unread_whole]
    · frame_out
      pointwise [Memref.IsWhole.read_unread, read_unread_whole]
  unfold kernelRun0_C.sl.H9_4
  unfold kernelRun0_C.sl.v324
  refine Cert.Slab.canon_slab_add (ms0_9 m hO t).view _ _ _ (ad 2) ⟨had.word m 2 _ rfl _ _, rfl, rfl⟩ _ (datv m _ hO c t 2) ?_ a r i _ ?_
  · intro r i
    refine (dat2_at _ _ _ _ _ r i).trans (congrArg₂ (· + ·) rfl (congrArg₂ lowd (funext fun j => congrArg₂ (· * ·) (congrArg₂ (· * ·) (Cert.Slab.read_slab (Val := Elt Ideal) scM0_1.view _ ![2, 0, 0] _ 2 ⟨rfl, rfl, rfl⟩ _ _) ?_) ?_) (funext fun j => ?_)))
    · frame_out
      pointwise [Memref.IsWhole.read_unread, read_unread_whole]
    · frame_out
      pointwise [Memref.IsWhole.read_unread, read_unread_whole]
    · frame_out
      pointwise [Memref.IsWhole.read_unread, read_unread_whole]
  unfold kernelRun0_C.sl.H9_3
  unfold kernelRun0_C.sl.v257
  refine Cert.Slab.canon_slab_add (ms0_9 m hO t).view _ _ _ (ad 1) ⟨had.word m 1 _ rfl _ _, rfl, rfl⟩ _ (datv m _ hO c t 1) ?_ a r i _ ?_
  · intro r i
    refine (dat1_at _ _ _ _ _ r i).trans (congrArg₂ (· + ·) rfl (congrArg₂ lowd (funext fun j => congrArg₂ (· * ·) (congrArg₂ (· * ·) (Cert.Slab.read_slab (Val := Elt Ideal) scM0_1.view _ ![1, 0, 0] _ 1 ⟨rfl, rfl, rfl⟩ _ _) ?_) ?_) (funext fun j => ?_)))
    · frame_out
      pointwise [Memref.IsWhole.read_unread, read_unread_whole]
    · frame_out
      pointwise [Memref.IsWhole.read_unread, read_unread_whole]
    · frame_out
      pointwise [Memref.IsWhole.read_unread, read_unread_whole]
  unfold kernelRun0_C.sl.H9_2
  refine Cert.Slab.canon_slab_add (ms0_9 m hO t).view _ _ _ (ad 0) ⟨had.word m 0 _ rfl _ _, rfl, rfl⟩ _ (datv m _ hO c t 0) ?_ a r i _ ?_
  · intro r i
    refine (dat0_at _ _ _ _ _ r i).trans (congrArg₂ (· + ·) rfl (congrArg₂ lowd (funext fun j => congrArg₂ (· * ·) (congrArg₂ (· * ·) (Cert.Slab.read_slab (Val := Elt Ideal) scM0_1.view _ ![0, 0, 0] _ 0 ⟨rfl, rfl, rfl⟩ _ _) ?_) ?_) (funext fun j => ?_)))
    · frame_out
      pointwise [Memref.IsWhole.read_unread, read_unread_whole]
    · frame_out
      pointwise [Memref.IsWhole.read_unread, read_unread_whole]
    · frame_out
      pointwise [Memref.IsWhole.read_unread, read_unread_whole]
  unfold kernelRun0_C.sl.H9_1
  frame_out
  pointwise [k0_pay42]

end Cert.KernelIdeal.Gen

end
-- ==== Proof.Value.Arrays.lean ====
/- What the arrays hold after a run: each output window's array from the blocks that the body leaves, and the results after
   the host's reshapes and transposes. -/
module

public import proofs.«01_k».proof.Proof.Run.Frame
public import proofs.«01_k».proof.Proof.Value.Blocks
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ)

/-- An index of two axes from its coordinates. -/
theorem ix2_self {n k : ℕ} (x : (⟨2, ![n, k]⟩ : Shape).Idx) : ix2 (x 0) (x 1) = x :=
  (idx2 x (x 0) (x 1) ⟨rfl, rfl⟩).symm

/-- An index of three axes from its coordinates. -/
theorem ix3_self {n k l : ℕ} (x : (⟨3, ![n, k, l]⟩ : Shape).Idx) : ix3 (x 0) (x 1) (x 2) = x :=
  (idx3 x (x 0) (x 1) (x 2) ⟨rfl, rfl, rfl⟩).symm

/-- Window 8's array is what the last point leaves. -/
theorem arr8 (hO : Ok m) (hH : Hyps m hO) (c : Dev nD) :
    (dats m hO hH 0 c).arrAt 8 (cfgM m hO).N = out8 m hO hH c := by
  have emb_id : ∀ (t : Fin (cfgM m hO).N) (x : S1536x2048.Idx), (((cfgM m hO).win 8).blk t).view.emb x = x := fun t x =>
    (idx2 _ (x 0) (x 1) (emb8 m hO t x)).trans (ix2_self x)
  refine Pipeline.Dat.arrAt_eq_of_emb (dats m hO hH 0 c) 8 (out8 m hO hH c) (fun t _ y => ?_) (fun i => ?_)
  · rw [after0_8]
    generalize out8 m hO hH c = Z
    exact (congrArg Z (emb_id t y)).symm
  · refine ⟨tLst m hO, (flush0_8 (adm m hO) _).mpr (by show 15 % 16 = 15; decide), ?_⟩
    exact Eq.mp (congrArg (fun z => z ∈ (((cfgM m hO).win 8).blk (tLst m hO)).view.set) (emb_id (tLst m hO) i))
      (View.emb_mem_set (v := (((cfgM m hO).win 8).blk (tLst m hO)).view) i)

/-- Window 9's array is what the last point leaves. -/
theorem arr9 (hO : Ok m) (hH : Hyps m hO) (c : Dev nD) :
    (dats m hO hH 0 c).arrAt 9 (cfgM m hO).N = out9 m hO hH c := by
  have emb_id : ∀ (t : Fin (cfgM m hO).N) (x : S5x32x2048.Idx), (((cfgM m hO).win 9).blk t).view.emb x = x := fun t x =>
    (idx3 _ (x 0) (x 1) (x 2) (emb9 m hO t x)).trans (ix3_self x)
  refine Pipeline.Dat.arrAt_eq_of_emb (dats m hO hH 0 c) 9 (out9 m hO hH c) (fun t _ y => ?_) (fun i => ?_)
  · rw [after0_9]
    generalize out9 m hO hH c = Z
    exact (congrArg Z (emb_id t y)).symm
  · refine ⟨tLst m hO, (flush0_9 (adm m hO) _).mpr (by show 15 % 16 = 15; decide), ?_⟩
    exact Eq.mp (congrArg (fun z => z ∈ (((cfgM m hO).win 9).blk (tLst m hO)).view.set) (emb_id (tLst m hO) i))
      (View.emb_mem_set (v := (((cfgM m hO).win 9).blk (tLst m hO)).view) i)

/-- Window 11's array is what the last point leaves. -/
theorem arr11 (hO : Ok m) (hH : Hyps m hO) (c : Dev nD) :
    (dats m hO hH 0 c).arrAt 11 (cfgM m hO).N = out11 m hO hH c := by
  have emb_id : ∀ (t : Fin (cfgM m hO).N) (x : S4x32x384.Idx), (((cfgM m hO).win 11).blk t).view.emb x = x := fun t x =>
    (idx3 _ (x 0) (x 1) (x 2) (emb11 m hO t x)).trans (ix3_self x)
  refine Pipeline.Dat.arrAt_eq_of_emb (dats m hO hH 0 c) 11 (out11 m hO hH c) (fun t _ y => ?_) (fun i => ?_)
  · rw [after0_11]
    generalize out11 m hO hH c = Z
    exact (congrArg Z (emb_id t y)).symm
  · refine ⟨tLst m hO, (flush0_11 (adm m hO) _).mpr (by show 15 % 16 = 15; decide), ?_⟩
    exact Eq.mp (congrArg (fun z => z ∈ (((cfgM m hO).win 11).blk (tLst m hO)).view.set) (emb_id (tLst m hO) i))
      (View.emb_mem_set (v := (((cfgM m hO).win 11).blk (tLst m hO)).view) i)

/-- Window 12's array is what the last point leaves. -/
theorem arr12 (hO : Ok m) (hH : Hyps m hO) (c : Dev nD) :
    (dats m hO hH 0 c).arrAt 12 (cfgM m hO).N = out12 m hO hH c := by
  have emb_id : ∀ (t : Fin (cfgM m hO).N) (x : S4x32x384.Idx), (((cfgM m hO).win 12).blk t).view.emb x = x := fun t x =>
    (idx3 _ (x 0) (x 1) (x 2) (emb12 m hO t x)).trans (ix3_self x)
  refine Pipeline.Dat.arrAt_eq_of_emb (dats m hO hH 0 c) 12 (out12 m hO hH c) (fun t _ y => ?_) (fun i => ?_)
  · rw [after0_12]
    generalize out12 m hO hH c = Z
    exact (congrArg Z (emb_id t y)).symm
  · refine ⟨tLst m hO, (flush0_12 (adm m hO) _).mpr (by show 15 % 16 = 15; decide), ?_⟩
    exact Eq.mp (congrArg (fun z => z ∈ (((cfgM m hO).win 12).blk (tLst m hO)).view.set) (emb_id (tLst m hO) i))
      (View.emb_mem_set (v := (((cfgM m hO).win 12).blk (tLst m hO)).view) i)

/-- The point whose block holds a column. -/
noncomputable def ptOf (hO : Ok m) (o : Fin 8192) : Fin (cfgM m hO).N := ⟨o.val / 512, by have h : (cfgM m hO).N = 16 := N_0; omega⟩
/-- The column inside its block. -/
noncomputable def colIn (o : Fin 8192) : Fin 512 := ⟨o.val % 512, Nat.mod_lt _ (by decide)⟩

/-- The gradient of the second low-rank factors: its column blocks are what the points leave. -/
noncomputable def out10w (hO : Ok m) (hH : Hyps m hO) (c : Dev nD) : Vec Ideal S5x32x8192 .f32 :=
  fun i => out10 m hO hH c (ptOf m hO (i 2)) (ix3 (i 0) (i 1) (colIn (i 2)))

/-- Window 10's array has at every column block what that block's point leaves. -/
theorem arr10 (hO : Ok m) (hH : Hyps m hO) (c : Dev nD) :
    (dats m hO hH 0 c).arrAt 10 (cfgM m hO).N = out10w m hO hH c := by
  have emb_at : ∀ (t : Fin (cfgM m hO).N) (x : S5x32x512.Idx), (((cfgM m hO).win 10).blk t).view.emb x = ix3 (x 0) (x 1) (col t (x 2)) := fun t x =>
    idx3 _ (x 0) (x 1) (col t (x 2)) (emb10 m hO t x)
  refine Pipeline.Dat.arrAt_eq_of_emb (dats m hO hH 0 c) 10 (out10w m hO hH c) (fun t _ y => ?_) (fun i => ?_)
  · rw [after0_10]
    refine Eq.trans ?_ (congrArg (out10w m hO hH c) (emb_at t y)).symm
    have hy : (y (2 : Fin 3)).val < 512 := (y (2 : Fin 3)).isLt
    have e1 : ptOf m hO (col t (y (2 : Fin 3))) = t := Fin.ext (by show (512 * t.val + (y (2 : Fin 3)).val) / 512 = t.val; omega)
    have e2 : colIn (col t (y (2 : Fin 3))) = y (2 : Fin 3) := Fin.ext (by show (512 * t.val + (y (2 : Fin 3)).val) % 512 = (y (2 : Fin 3)).val; omega)
    have e3 : ix3 (y (0 : Fin 3)) (y (1 : Fin 3)) (colIn (col t (y (2 : Fin 3)))) = y := by rw [e2]; exact ix3_self y
    show out10 m hO hH c t y = out10 m hO hH c (ptOf m hO (col t (y (2 : Fin 3)))) (ix3 (y (0 : Fin 3)) (y (1 : Fin 3)) (colIn (col t (y (2 : Fin 3)))))
    rw [e1]
    exact congrArg (out10 m hO hH c t) e3.symm
  · refine ⟨ptOf m hO (i (2 : Fin 3)), flush0_10 (adm m hO) _, ?_⟩
    have h := View.emb_mem_set (v := (((cfgM m hO).win 10).blk (ptOf m hO (i (2 : Fin 3)))).view) (ix3 (i (0 : Fin 3)) (i (1 : Fin 3)) (colIn (i (2 : Fin 3))))
    have e : (((cfgM m hO).win 10).blk (ptOf m hO (i (2 : Fin 3)))).view.emb (ix3 (i (0 : Fin 3)) (i (1 : Fin 3)) (colIn (i (2 : Fin 3)))) = i :=
      (emb_at _ _).trans ((idx3 i (i (0 : Fin 3)) (i (1 : Fin 3)) _ ⟨rfl, rfl, (Nat.div_add_mod (i (2 : Fin 3)).val 512).symm⟩).symm)
    exact Eq.mp (congrArg (fun z => z ∈ (((cfgM m hO).win 10).blk (ptOf m hO (i (2 : Fin 3)))).view.set) e) h

/-- What the run ends in, at the five results: the output windows' arrays, reshaped and transposed by the host. -/
theorem results_of_post (hO : Ok m) (hH : Hyps m hO) {r} (h : Post m hO hH r) (c : Dev nD) :
    r.2.mem ((c.tc : Thread nD τ).loc main_v9) = shapeCast S4x384x2048 (out8 m hO hH c) shapeCasts_S1536x2048_S4x384x2048
      ∧ r.2.mem ((c.tc : Thread nD τ).loc main_v10) = transpose S5x2048x32 [0, 2, 1] (out9 m hO hH c) transposes_S5x32x2048_S5x2048x32_0_2_1
      ∧ r.2.mem ((c.tc : Thread nD τ).loc main_v8_2) = out10w m hO hH c
      ∧ r.2.mem ((c.tc : Thread nD τ).loc main_v11) = transpose S4x384x32 [0, 2, 1] (out11 m hO hH c) transposes_S4x32x384_S4x384x32_0_2_1
      ∧ r.2.mem ((c.tc : Thread nD τ).loc main_v12) = transpose S4x384x32 [0, 2, 1] (out12 m hO hH c) transposes_S4x32x384_S4x384x32_0_2_1 := by
  refine ⟨?_, ?_, (Pipeline.FramePost.out_eq h c 10).trans (arr10 m hO hH c), ?_, ?_⟩
  · refine (Pipeline.FramePost.rest_eq h c main_v9 (by decide : main_v9 ∈ Pipeline.restRefs sig spec0)).trans ?_
    have e := (Pipeline.withArrays_arr spec0 (by decide) c (V0 m c) (fun w => (dats m hO hH 0 c).arrAt w (cfgM m hO).N) 8).trans (arr8 m hO hH c)
    show StableHlo.after hostOps1 _ (Proc.devRef .tc main_v9) = _
    entry_read
    exact congrArg (fun X => shapeCast S4x384x2048 X shapeCasts_S1536x2048_S4x384x2048) e
  · refine (Pipeline.FramePost.rest_eq h c main_v10 (by decide : main_v10 ∈ Pipeline.restRefs sig spec0)).trans ?_
    have e := (Pipeline.withArrays_arr spec0 (by decide) c (V0 m c) (fun w => (dats m hO hH 0 c).arrAt w (cfgM m hO).N) 9).trans (arr9 m hO hH c)
    show StableHlo.after hostOps1 _ (Proc.devRef .tc main_v10) = _
    entry_read
    exact congrArg (fun X => transpose S5x2048x32 [0, 2, 1] X transposes_S5x32x2048_S5x2048x32_0_2_1) e
  · refine (Pipeline.FramePost.rest_eq h c main_v11 (by decide : main_v11 ∈ Pipeline.restRefs sig spec0)).trans ?_
    have e := (Pipeline.withArrays_arr spec0 (by decide) c (V0 m c) (fun w => (dats m hO hH 0 c).arrAt w (cfgM m hO).N) 11).trans (arr11 m hO hH c)
    show StableHlo.after hostOps1 _ (Proc.devRef .tc main_v11) = _
    entry_read
    exact congrArg (fun X => transpose S4x384x32 [0, 2, 1] X transposes_S4x32x384_S4x384x32_0_2_1) e
  · refine (Pipeline.FramePost.rest_eq h c main_v12 (by decide : main_v12 ∈ Pipeline.restRefs sig spec0)).trans ?_
    have e := (Pipeline.withArrays_arr spec0 (by decide) c (V0 m c) (fun w => (dats m hO hH 0 c).arrAt w (cfgM m hO).N) 12).trans (arr12 m hO hH c)
    show StableHlo.after hostOps1 _ (Proc.devRef .tc main_v12) = _
    entry_read
    exact congrArg (fun X => transpose S4x384x32 [0, 2, 1] X transposes_S4x32x384_S4x384x32_0_2_1) e

end Cert.KernelIdeal.Gen

end
-- ==== Proof.Value.Grid.lean ====
/- The accumulators over the sixteen grid points, in terms of the argument arrays, and what each output window's array holds. -/
module

public import proofs.«01_k».proof.Proof.Value.Math
public import proofs.«01_k».proof.Proof.Value.Blocks
public import proofs.«01_k».proof.Proof.Value.First
public import proofs.«01_k».proof.Proof.Value.FirstDb
public import proofs.«01_k».proof.Proof.Value.FirstU
public import proofs.«01_k».proof.Proof.Value.Mid
public import proofs.«01_k».proof.Proof.Value.Last
public import proofs.«01_k».proof.Proof.Value.FinTt
public import proofs.«01_k».proof.Proof.Value.FinDx
public import proofs.«01_k».proof.Proof.Value.FinDat
public import proofs.«01_k».proof.Proof.Value.Arrays

@[expose] public section

set_option maxRecDepth 16384

noncomputable section

namespace Cert.KernelIdeal.Gen

open Idealize.ShloMosaic Idealize.ShloMosaic.TcCoe Idealize.SL.Sem Cert.Lora

variable (m : (ℓ : Loc nD τ sig) → Buf (Elt Ideal) ℓ)

/-! ## Sums of column blocks -/

/-- The sum over a block of 512 columns. -/
def blkSum (f : Fin 8192 → EReal) (n : ℕ) : EReal := ∑ k : Fin 512, f ⟨(512 * n + k.val) % 8192, Nat.mod_lt _ (by decide)⟩

theorem blkSum_at (f : Fin 8192 → EReal) (t : Fin grid0.N) : ∑ k : Fin 512, f (col t k) = blkSum f t.val :=
  Finset.sum_congr rfl fun k _ => congrArg f (Fin.ext (by
    have ht : t.val < 16 := lt_of_lt_of_eq t.isLt N_0
    show 512 * t.val + k.val = (512 * t.val + k.val) % 8192
    omega))

/-- The sixteen blocks' sums make the whole sum. -/
theorem blkSum_total (f : Fin 8192 → EReal) : ∑ n ∈ Finset.range 16, blkSum f n = ∑ o, f o := by
  rw [Finset.sum_range]
  unfold blkSum
  rw [← Fintype.sum_prod_type' (f := fun (n : Fin 16) (k : Fin 512) => f ⟨(512 * n.val + k.val) % 8192, Nat.mod_lt _ (by decide)⟩)]
  refine Fintype.sum_equiv (finProdFinEquiv (m := 16) (n := 512)) _ _ fun p => congrArg f (Fin.ext ?_)
  have h1 := p.1.isLt
  have h2 := p.2.isLt
  show (512 * p.1.val + p.2.val) % 8192 = p.2.val + 512 * p.1.val
  omega

/-! ## The blocks' contractions -/

/-- A point's contribution to the frozen weight's part. -/
theorem gblk (hO : Ok m) (c : Dev nD) (t : Fin (cfgM m hO).N) (i : Fin 2048) (q : Fin 4) (j : Fin 384) (h) :
    (∑ k : Fin 512, (show EReal from iblk m hO c 4 t (ix2 i k)) * (show EReal from iblk m hO c 5 t (ix2 0 k)) * (show EReal from iblk m hO c 2 t (ix2 ⟨384 * q.val + j.val, h⟩ k)))
      = blkSum (fun o => aW m c i o * aWS m c o * aDY m c q j o) t.val := by
  refine Eq.trans (Finset.sum_congr rfl fun k _ => ?_) (blkSum_at _ t)
  exact congrArg₂ (· * ·) (congrArg₂ (· * ·) (iblk4_at m hO c t i k) (iblk5_at m hO c t k)) (iblk2_at m hO c t q j k h)

/-- A point's contribution to the low-rank image of the output gradient. -/
theorem tblk (hO : Ok m) (c : Dev nD) (t : Fin (cfgM m hO).N) (a : Fin 5) (q : Fin 4) (r : Fin 32) (j : Fin 384) (h) :
    (∑ k : Fin 512, (show EReal from iblk m hO c 7 t (ix3 a r k)) * (show EReal from iblk m hO c 2 t (ix2 ⟨384 * q.val + j.val, h⟩ k)))
      = blkSum (fun o => aB m c a r o * aDY m c q j o) t.val := by
  refine Eq.trans (Finset.sum_congr rfl fun k _ => ?_) (blkSum_at _ t)
  exact congrArg₂ (· * ·) (iblk7_at m hO c t a r k) (iblk2_at m hO c t q j k h)

/-- The low-rank image of the activations in terms of the arguments. -/
theorem xav_eq (hO : Ok m) (c : Dev nD) (t : Fin (cfgM m hO).N) {ad : Fin 4 → Fin 5} (q : Fin 4) (r : Fin 32) (j : Fin 384) :
    xav m hO c t (ad q) q r j = kXA (aX m c) (aXS m c) (aA m c) ad q r j := by
  unfold xav kXA
  exact congrArg₂ (· * ·) (Finset.sum_congr rfl fun i _ => congrArg₂ (· * ·) (iblk6_at m hO c t (ad q) r i) (iblk0_at m hO c t q j i _)) (iblk1_at m hO c t q j _)

/-! ## The accumulators -/

/-- The first accumulator after the first `n + 1` points. -/
theorem st_g (hO : Ok m) (hH : Hyps m hO) (c : Dev nD) (i : Fin 2048) (q : Fin 4) (j : Fin 384) (h) :
    ∀ (n : ℕ) (hn : n < (cfgM m hO).N), (show EReal from (st m hO hH c n hn).1 (ix2 i ⟨384 * q.val + j.val, h⟩))
      = ∑ k ∈ Finset.range (n + 1), blkSum (fun o => aW m c i o * aWS m c o * aDY m c q j o) k
  | 0, hn => by
    rw [Finset.sum_range_one]
    refine (congrArg (fun s => (show EReal from s.1 (ix2 i ⟨384 * q.val + j.val, h⟩))) (st_A m hO hH c ⟨0, hn⟩ (Nat.zero_mod _) (by show ¬0 % 16 = 15; decide))).trans ?_
    refine (stA_g m hO hH c ⟨0, hn⟩ (Nat.zero_mod _) (by show ¬0 % 16 = 15; decide) i _).trans ?_
    rw [zero_add]
    exact gblk m hO c ⟨0, hn⟩ i q j h
  | n + 1, hn => by
    have ih := st_g hO hH c i q j h n (Nat.lt_of_succ_lt hn)
    have hN : n + 1 < 16 := lt_of_lt_of_eq hn (show (cfgM m hO).N = 16 from N_0)
    rw [Finset.sum_range_succ]
    have h0 : ¬(n + 1) % 16 = 0 := by omega
    by_cases h1 : (n + 1) % 16 = 15
    · refine (congrArg (fun s => (show EReal from s.1 (ix2 i ⟨384 * q.val + j.val, h⟩))) (st_C m hO hH c ⟨n + 1, hn⟩ h0 h1)).trans ?_
      exact (stC_g m hO hH c ⟨n + 1, hn⟩ h0 h1 _ i _).trans (congrArg₂ (· + ·) ih (gblk m hO c ⟨n + 1, hn⟩ i q j h))
    · refine (congrArg (fun s => (show EReal from s.1 (ix2 i ⟨384 * q.val + j.val, h⟩))) (st_B m hO hH c ⟨n + 1, hn⟩ h0 h1)).trans ?_
      exact (stB_g m hO hH c ⟨n + 1, hn⟩ h0 h1 _ i _).trans (congrArg₂ (· + ·) ih (gblk m hO c ⟨n + 1, hn⟩ i q j h))

/-- The second accumulator after the first `n + 1` points. -/
theorem st_t {ad : Fin 4 → Fin 5} (had : Names m ad) (hO : Ok m) (hH : Hyps m hO) (c : Dev nD) (q : Fin 4) (r : Fin 32) (j : Fin 384) :
    ∀ (n : ℕ) (hn : n < (cfgM m hO).N), (show EReal from (st m hO hH c n hn).2.1 (ix3 q r j))
      = ∑ k ∈ Finset.range (n + 1), blkSum (fun o => aB m c (ad q) r o * aDY m c q j o) k
  | 0, hn => by
    rw [Finset.sum_range_one]
    refine (congrArg (fun s => (show EReal from s.2.1 (ix3 q r j))) (st_A m hO hH c ⟨0, hn⟩ (Nat.zero_mod _) (by show ¬0 % 16 = 15; decide))).trans ?_
    refine (stA_t m had hO hH c ⟨0, hn⟩ (Nat.zero_mod _) (by show ¬0 % 16 = 15; decide) q r j).trans ?_
    rw [zero_add]
    exact tblk m hO c ⟨0, hn⟩ (ad q) q r j _
  | n + 1, hn => by
    have ih := st_t had hO hH c q r j n (Nat.lt_of_succ_lt hn)
    have hN : n + 1 < 16 := lt_of_lt_of_eq hn (show (cfgM m hO).N = 16 from N_0)
    rw [Finset.sum_range_succ]
    have h0 : ¬(n + 1) % 16 = 0 := by omega
    by_cases h1 : (n + 1) % 16 = 15
    · refine (congrArg (fun s => (show EReal from s.2.1 (ix3 q r j))) (st_C m hO hH c ⟨n + 1, hn⟩ h0 h1)).trans ?_
      exact (stC_t m had hO hH c ⟨n + 1, hn⟩ h0 h1 _ q r j).trans (congrArg₂ (· + ·) ih (tblk m hO c ⟨n + 1, hn⟩ (ad q) q r j _))
    · refine (congrArg (fun s => (show EReal from s.2.1 (ix3 q r j))) (st_B m hO hH c ⟨n + 1, hn⟩ h0 h1)).trans ?_
      exact (stB_t m had hO hH c ⟨n + 1, hn⟩ h0 h1 _ q r j).trans (congrArg₂ (· + ·) ih (tblk m hO c ⟨n + 1, hn⟩ (ad q) q r j _))

/-- The split low-rank image in the third scratch buffer, the same after every point. -/
theorem st_u {ad : Fin 4 → Fin 5} (had : Names m ad) (hO : Ok m) (hH : Hyps m hO) (c : Dev nD) (q : Fin 4) (p : Fin 3) (r : Fin 32) (j : Fin 384) (h) :
    ∀ (n : ℕ) (hn : n < (cfgM m hO).N), (show EReal from (st m hO hH c n hn).2.2 (ix3 q ⟨32 * p.val + r.val, h⟩ j))
      = split3 (kXA (aX m c) (aXS m c) (aA m c) ad q r j * aDYS m c q j) p
  | 0, hn => by
    refine (congrArg (fun s => (show EReal from s.2.2 (ix3 q ⟨32 * p.val + r.val, h⟩ j))) (st_A m hO hH c ⟨0, hn⟩ (Nat.zero_mod _) (by show ¬0 % 16 = 15; decide))).trans ?_
    refine (stA_u m had hO hH c ⟨0, hn⟩ (Nat.zero_mod _) (by show ¬0 % 16 = 15; decide) q p r j).trans ?_
    exact congrArg (fun z => split3 z p) (congrArg₂ (· * ·) (xav_eq m hO c ⟨0, hn⟩ q r j) (iblk3_at m hO c ⟨0, hn⟩ q j _))
  | n + 1, hn => by
    have ih := st_u had hO hH c q p r j h n (Nat.lt_of_succ_lt hn)
    have hN : n + 1 < 16 := lt_of_lt_of_eq hn (show (cfgM m hO).N = 16 from N_0)
    have h0 : ¬(n + 1) % 16 = 0 := by omega
    by_cases h1 : (n + 1) % 16 = 15
    · exact (congrArg (fun s => (show EReal from s.2.2 (ix3 q ⟨32 * p.val + r.val, h⟩ j))) (st_C m hO hH c ⟨n + 1, hn⟩ h0 h1)).trans ih
    · exact (congrArg (fun s => (show EReal from s.2.2 (ix3 q ⟨32 * p.val + r.val, h⟩ j))) (st_B m hO hH c ⟨n + 1, hn⟩ h0 h1)).trans ih

end Cert.KernelIdeal.Gen

end
-- ==== Proof.Value.Results.lean ====
/- The kernel's five results in terms of the argument arrays, and that they are the reference's mathematics where the factors
   are real numbers. -/
module

public import proofs.«01_k».proof.Proof.Value.Grid

@[expose] public section

set_option maxRecDepth 16384

noncomputable section

namespace Cert.KernelIdeal.Gen

open Idealize.ShloMosaic Idealize.ShloMosaic.TcCoe Idealize.SL.Sem Cert.Lora

variable (m : (ℓ : Loc nD τ sig) → Buf (Elt Ideal) ℓ)

/-- The factors that the claim takes to be real numbers: the codes of `x` and `dy`, the row scales and the adapters. -/
structure Tame (c : Dev nD) : Prop where
  x : ∀ q j i, IsR (aX m c q j i)
  xs : ∀ q j, IsR (aXS m c q j)
  dy : ∀ q j o, IsR (aDY m c q j o)
  dys : ∀ q j, IsR (aDYS m c q j)
  a : ∀ a i r, IsR (aA m c a i r)
  b : ∀ a r o, IsR (aB m c a r o)

theorem last0 : ¬15 % 16 = 0 := by decide
theorem last1 : 15 % 16 = 15 := by decide

/-- After the last point the first accumulator holds the whole contraction with the frozen weight, -/
theorem fin_g (hO : Ok m) (hH : Hyps m hO) (c : Dev nD) (i : Fin 2048) (q : Fin 4) (j : Fin 384) (h) :
    (show EReal from (stC m hO hH c (tLst m hO) last0 last1 (stp m hO hH c (tLst m hO))).1 (ix2 i ⟨384 * q.val + j.val, h⟩))
      = kG (aDY m c) (aW m c) (aWS m c) i q j :=
  (congrArg (fun s => (show EReal from s.1 (ix2 i ⟨384 * q.val + j.val, h⟩))) (st_C m hO hH c (tLst m hO) last0 last1).symm).trans
    ((st_g m hO hH c i q j h 15 (tLst m hO).isLt).trans (blkSum_total _))

/-- and the second the whole contraction with the second factors. -/
theorem fin_t {ad : Fin 4 → Fin 5} (had : Names m ad) (hO : Ok m) (hH : Hyps m hO) (c : Dev nD) (q : Fin 4) (r : Fin 32) (j : Fin 384) :
    (show EReal from (stC m hO hH c (tLst m hO) last0 last1 (stp m hO hH c (tLst m hO))).2.1 (ix3 q r j))
      = kT (aDY m c) (aB m c) ad q r j :=
  (congrArg (fun s => (show EReal from s.2.1 (ix3 q r j))) (st_C m hO hH c (tLst m hO) last0 last1).symm).trans
    ((st_t m had hO hH c q r j 15 (tLst m hO).isLt).trans (blkSum_total _))

/-- The low-rank image of the scaled output gradient. -/
theorem out11_at {ad : Fin 4 → Fin 5} (had : Names m ad) (hO : Ok m) (hH : Hyps m hO) (c : Dev nD) (q : Fin 4) (r : Fin 32) (j : Fin 384) :
    out11 m hO hH c (ix3 q r j) = T (aDY m c) (aDYS m c) (aB m c) ad q j r := by
  refine (ttC_at m hO hH c (tLst m hO) last0 last1 (stp m hO hH c (tLst m hO)) q r j).trans ?_
  exact (congrArg₂ (fun a b : EReal => a * b) (fin_t m had hO hH c q r j) (iblk3_at m hO c (tLst m hO) q j _)).trans (kT_mul _ _ _ _ q r j)

/-- The low-rank image of the scaled activations. -/
theorem out12_at {ad : Fin 4 → Fin 5} (had : Names m ad) (hO : Ok m) (hH : Hyps m hO) (c : Dev nD) (q : Fin 4) (r : Fin 32) (j : Fin 384) :
    out12 m hO hH c (ix3 q r j) = XA (aX m c) (aXS m c) (aA m c) ad q j r :=
  (outA12 m had hO hH c (tFst m hO) (Nat.zero_mod _) (by show ¬0 % 16 = 15; decide) q r j).trans
    ((xav_eq m hO c (tFst m hO) q r j).trans (kXA_eq _ _ _ _ q r j))

/-- The gradient of the activations. -/
theorem out8_at {ad : Fin 4 → Fin 5} (had : Names m ad) (hO : Ok m) (hH : Hyps m hO) (c : Dev nD) (hT : Tame m c) (q : Fin 4) (j : Fin 384) (i : Fin 2048) (h) :
    out8 m hO hH c (ix2 ⟨384 * q.val + j.val, h⟩ i) = DX (aDY m c) (aDYS m c) (aW m c) (aWS m c) (aA m c) (aB m c) ad q j i := by
  refine (dxC_at m had hO hH c (tLst m hO) last0 last1 (stp m hO hH c (tLst m hO)) q j i).trans ?_
  refine Eq.trans ?_ (dx_eq hT.dy hT.dys hT.a hT.b q j i)
  refine congrArg₂ (· * ·) (congrArg₂ (· + ·) (fin_g m hO hH c i q j _) (congrArg₂ lowx (funext fun r => ?_) (funext fun r => ?_))) (iblk3_at m hO c (tLst m hO) q j _)
  · exact iblk6_at m hO c (tLst m hO) (ad q) r i
  · exact congrArg (two * ·) (fin_t m had hO hH c q r j)

/-- The gradient of the first factors. -/
theorem out9_at {ad : Fin 4 → Fin 5} (had : Names m ad) (hO : Ok m) (hH : Hyps m hO) (c : Dev nD) (hT : Tame m c) (a : Fin 5) (r : Fin 32) (i : Fin 2048) :
    out9 m hO hH c (ix3 a r i) = seg ad a (fun q => DAs (aX m c) (aXS m c) (aDY m c) (aDYS m c) (aB m c) ad q i r) := by
  refine (datC_at m had hO hH c (tLst m hO) last0 last1 (stp m hO hH c (tLst m hO)) a r i).trans ?_
  refine seg_eq ad a (fun q => datv m (stC m hO hH c (tLst m hO) last0 last1 (stp m hO hH c (tLst m hO))).2.1 hO c (tLst m hO) q r i) _ fun q => ?_
  refine Eq.trans ?_ (da_eq hT.xs hT.dy hT.dys hT.b q r i)
  unfold datv
  refine congrArg₂ lowd (funext fun j => ?_) (funext fun j => iblk0_at m hO c (tLst m hO) q j i _)
  exact congrArg₂ (· * ·) (congrArg₂ (· * ·) (fin_t m had hO hH c q r j) (iblk3_at m hO c (tLst m hO) q j _)) (iblk1_at m hO c (tLst m hO) q j _)

/-- One sequence's bands times its rows of the output gradient, from the scratch of any point. -/
theorem dbv_eq {ad : Fin 4 → Fin 5} (had : Names m ad) (hO : Ok m) (hH : Hyps m hO) (c : Dev nD) (hT : Tame m c) (n : ℕ) (hn : n < (cfgM m hO).N) (t : Fin (cfgM m hO).N)
    (q : Fin 4) (r : Fin 32) (k : Fin 512) :
    dbv (st m hO hH c n hn).2.2 (iblk m hO c 2 t) q r k = DBs (aX m c) (aXS m c) (aDY m c) (aDYS m c) (aA m c) ad q r (col t k) := by
  refine Eq.trans ?_ (db_eq hT.x hT.xs hT.dys hT.a q r (col t k))
  unfold dbv lowd
  refine congrArg (two * ·) (congrArg₂ (· + ·) (congrArg₂ (· + ·) (Finset.sum_congr rfl fun j _ => ?_) (Finset.sum_congr rfl fun j _ => ?_)) (Finset.sum_congr rfl fun j _ => ?_))
  · refine congrArg₂ (· * ·) (Eq.trans ?_ (st_u m had hO hH c q 0 r j (by show 32 * 0 + r.val < 96; omega) n hn)) (iblk2_at m hO c t q j k _)
    exact congrArg (fun z => (st m hO hH c n hn).2.2 (ix3 q z j)) (Fin.ext (by show r.val = 32 * 0 + r.val; omega))
  · exact congrArg₂ (· * ·) (st_u m had hO hH c q 1 r j (by show 32 * 1 + r.val < 96; omega) n hn) (iblk2_at m hO c t q j k _)
  · exact congrArg₂ (· * ·) (st_u m had hO hH c q 2 r j (by show 32 * 2 + r.val < 96; omega) n hn) (iblk2_at m hO c t q j k _)

/-- A block of the gradient of the second factors, whatever its point. -/
theorem out10_at {ad : Fin 4 → Fin 5} (had : Names m ad) (hO : Ok m) (hH : Hyps m hO) (c : Dev nD) (hT : Tame m c) (t : Fin (cfgM m hO).N) (a : Fin 5) (r : Fin 32) (k : Fin 512) :
    out10 m hO hH c t (ix3 a r k) = seg ad a (fun q => DBs (aX m c) (aXS m c) (aDY m c) (aDYS m c) (aA m c) ad q r (col t k)) := by
  by_cases h0 : t.val % 16 = 0
  · have h1 : ¬t.val % 16 = 15 := by omega
    rw [out10_A m hO hH c t h0 h1]
    refine (dbA_at m had hO hH c t h0 h1 a r k).trans ?_
    refine seg_eq ad a (fun q => dbv (stA m hO hH c t h0 h1).2.2 (iblk m hO c 2 t) q r k) _ fun q => ?_
    have e := dbv_eq m had hO hH c hT t.val t.isLt t q r k
    rw [st_A m hO hH c t h0 h1] at e
    exact e
  · by_cases h1 : t.val % 16 = 15
    · rw [out10_C m hO hH c t h0 h1]
      refine (dbC_at m had hO hH c t h0 h1 (stp m hO hH c t) a r k).trans ?_
      exact seg_eq ad a (fun q => dbv (stp m hO hH c t).2.2 (iblk m hO c 2 t) q r k) _ fun q => dbv_eq m had hO hH c hT _ _ t q r k
    · rw [out10_B m hO hH c t h0 h1]
      refine (dbB_at m had hO hH c t h0 h1 (stp m hO hH c t) a r k).trans ?_
      exact seg_eq ad a (fun q => dbv (stp m hO hH c t).2.2 (iblk m hO c 2 t) q r k) _ fun q => dbv_eq m had hO hH c hT _ _ t q r k

/-- The gradient of the second factors. -/
theorem out10w_at {ad : Fin 4 → Fin 5} (had : Names m ad) (hO : Ok m) (hH : Hyps m hO) (c : Dev nD) (hT : Tame m c) (a : Fin 5) (r : Fin 32) (o : Fin 8192) :
    out10w m hO hH c (ix3 a r o) = seg ad a (fun q => DBs (aX m c) (aXS m c) (aDY m c) (aDYS m c) (aA m c) ad q r o) := by
  refine (out10_at m had hO hH c hT (ptOf m hO o) a r (colIn o)).trans ?_
  have e : col (ptOf m hO o) (colIn o) = o := Fin.ext (Nat.div_add_mod o.val 512)
  rw [e]

/-! ## The results, as arrays -/

/-- The five results as functions of the arguments. -/
def resDX (c : Dev nD) (ad : Fin 4 → Fin 5) : S4x384x2048.Idx → EReal := fun x => DX (aDY m c) (aDYS m c) (aW m c) (aWS m c) (aA m c) (aB m c) ad (x 0) (x 1) (x 2)
def resDA (c : Dev nD) (ad : Fin 4 → Fin 5) : S5x2048x32.Idx → EReal := fun x => seg ad (x 0) (fun q => DAs (aX m c) (aXS m c) (aDY m c) (aDYS m c) (aB m c) ad q (x 1) (x 2))
def resDB (c : Dev nD) (ad : Fin 4 → Fin 5) : S5x32x8192.Idx → EReal := fun x => seg ad (x 0) (fun q => DBs (aX m c) (aXS m c) (aDY m c) (aDYS m c) (aA m c) ad q (x 1) (x 2))
def resT (c : Dev nD) (ad : Fin 4 → Fin 5) : S4x384x32.Idx → EReal := fun x => T (aDY m c) (aDYS m c) (aB m c) ad (x 0) (x 1) (x 2)
def resXA (c : Dev nD) (ad : Fin 4 → Fin 5) : S4x384x32.Idx → EReal := fun x => XA (aX m c) (aXS m c) (aA m c) ad (x 0) (x 1) (x 2)

/-- The rows of one axis read back as samples and rows. -/
theorem uncast {α : Type} (X : S1536x2048.Idx → α) (q : Fin 4) (j : Fin 384) (i : Fin 2048) :
    shapeCast S4x384x2048 X shapeCasts_S1536x2048_S4x384x2048 (ix3 q j i) = X (ix2 ⟨384 * q.val + j.val, by omega⟩ i) := by
  pointwise
  blk_ext

theorem tr_a {α : Type} (X : S5x32x2048.Idx → α) (a : Fin 5) (i : Fin 2048) (r : Fin 32) :
    transpose S5x2048x32 [0, 2, 1] X transposes_S5x32x2048_S5x2048x32_0_2_1 (ix3 a i r) = X (ix3 a r i) := by
  pointwise
  blk_ext

theorem tr_t {α : Type} (X : S4x32x384.Idx → α) (q : Fin 4) (j : Fin 384) (r : Fin 32) :
    transpose S4x384x32 [0, 2, 1] X transposes_S4x32x384_S4x384x32_0_2_1 (ix3 q j r) = X (ix3 q r j) := by
  pointwise
  blk_ext

/-- What a run leaves in the five result arrays. -/
theorem values_of_post {ad : Fin 4 → Fin 5} (had : Names m ad) (hO : Ok m) (hH : Hyps m hO) {r} (h : Post m hO hH r) (c : Dev nD) (hT : Tame m c) :
    r.2.mem ((c.tc : Thread nD τ).loc main_v9) = resDX m c ad
      ∧ r.2.mem ((c.tc : Thread nD τ).loc main_v10) = resDA m c ad
      ∧ r.2.mem ((c.tc : Thread nD τ).loc main_v8_2) = resDB m c ad
      ∧ r.2.mem ((c.tc : Thread nD τ).loc main_v11) = resT m c ad
      ∧ r.2.mem ((c.tc : Thread nD τ).loc main_v12) = resXA m c ad := by
  obtain ⟨e0, e1, e2, e3, e4⟩ := results_of_post m hO hH h c
  refine ⟨e0.trans (funext fun x => ?_), e1.trans (funext fun x => ?_), e2.trans (funext fun x => ?_), e3.trans (funext fun x => ?_), e4.trans (funext fun x => ?_)⟩
  · exact (congrArg _ (eq_ix3 x)).trans ((uncast _ (x 0) (x 1) (x 2)).trans (out8_at m had hO hH c hT (x 0) (x 1) (x 2) _))
  · exact (congrArg _ (eq_ix3 x)).trans ((tr_a _ (x 0) (x 1) (x 2)).trans (out9_at m had hO hH c hT (x 0) (x 2) (x 1)))
  · exact (congrArg _ (eq_ix3 x)).trans (out10w_at m had hO hH c hT (x 0) (x 1) (x 2))
  · exact (congrArg _ (eq_ix3 x)).trans ((tr_t _ (x 0) (x 1) (x 2)).trans (out11_at m had hO hH c (x 0) (x 2) (x 1)))
  · exact (congrArg _ (eq_ix3 x)).trans ((tr_t _ (x 0) (x 1) (x 2)).trans (out12_at m had hO hH c (x 0) (x 2) (x 1)))

end Cert.KernelIdeal.Gen

end
-- ==== Proof.Ref.Ops.lean ====
/- Two host operations read at an index: the gather of whole matrices by a column of indices, and the accumulation of whole
   matrices into a stack by a column of indices. -/
module

public import Idealize.ShloMosaic.Lib.Pipeline.ValueKit
public import Idealize.ShloMosaic.Lib.Routing.OpsPair

@[expose] public section

set_option maxRecDepth 16384

noncomputable section

namespace Cert.RefOps

open Idealize.ShloMosaic

/-- The dimension numbers of a gather of `n` matrices of `a` by `b` from a stack of `N`. -/
abbrev slabDims (N a b n : ℕ) (wf : GatherDims.WF ⟨3, ![N, a, b]⟩ ⟨2, ![n, 1]⟩ ⟨3, ![n, a, b]⟩ [1, 2] [0] [] [0] [] 1 ![1, a, b]) :
    GatherDims ⟨3, ![N, a, b]⟩ ⟨2, ![n, 1]⟩ ⟨3, ![n, a, b]⟩ where
  offsetDims := [1, 2]
  collapsedSliceDims := [0]
  operandBatchingDims := []
  startIndicesBatchingDims := []
  startIndexMap := [0]
  indexVectorDim := 1
  sliceSizes := ![1, a, b]
  wf := wf

/-- The gather's result at `(q, i, j)` is the stack's matrix that index `q` names, at `(i, j)`. -/
theorem gather_slab {α : Type} {N a b n : ℕ} (wf : GatherDims.WF ⟨3, ![N, a, b]⟩ ⟨2, ![n, 1]⟩ ⟨3, ![n, a, b]⟩ [1, 2] [0] [] [0] [] 1 ![1, a, b])
    (x : (⟨3, ![N, a, b]⟩ : Shape).Idx → α) (idx : IVec ⟨2, ![n, 1]⟩ 32) (q : Fin n) (i : Fin a) (j : Fin b) (k : Fin N)
    (hk : (idx (ix2 q (0 : Fin 1))).toInt = (k.val : Int)) :
    Host.gather (slabDims N a b n wf) x idx (ix3 q i j) = x (ix3 k i j) := by
  have hs0 : (slabDims N a b n wf).start (ix3 q i j) idx 0 = k.val := by
    unfold GatherDims.start
    rw [dif_pos (show (0 : Fin 3) ∈ (slabDims N a b n wf).startIndexMap from List.mem_singleton.mpr rfl)]
    have hsi : (slabDims N a b n wf).siIdx (ix3 q i j) ⟨List.idxOf (0 : Fin 3) (slabDims N a b n wf).startIndexMap,
        List.idxOf_lt_length_iff.2 (List.mem_singleton.mpr rfl)⟩ = ix2 q (0 : Fin 1) := by
      funext e; refine Fin.ext ?_
      match e with
      | ⟨0, _⟩ => rfl
      | ⟨1, _⟩ => rfl
    rw [hsi, hk]
    have := k.isLt
    show min ((k.val : Int)).toNat (N - 1) = k.val
    omega
  unfold Host.gather
  refine congrArg x (funext fun d => Fin.ext ?_)
  show (slabDims N a b n wf).start (ix3 q i j) idx d + (slabDims N a b n wf).batchCoord (ix3 q i j) d
    + (slabDims N a b n wf).offCoord (ix3 q i j) d = _
  rw [GatherDims.batchCoord_eq_zero _ _ _ (List.not_mem_nil)]
  match d with
  | ⟨0, _⟩ =>
    rw [GatherDims.offCoord_eq_zero _ _ _ (fun h => ((GatherDims.mem_sKept _ _).mp h).1 (List.mem_singleton.mpr rfl))]
    show (slabDims N a b n wf).start (ix3 q i j) idx 0 + 0 + 0 = k.val
    rw [hs0]; rfl
  | ⟨1, _⟩ =>
    show 0 + 0 + i.val = i.val
    omega
  | ⟨2, _⟩ =>
    show 0 + 0 + j.val = j.val
    omega

/-- The dimension numbers of an accumulation of `n` matrices of `a` by `b` into a stack of `N`. -/
abbrev stackDims (N a b n : ℕ) (wf : ScatterDims.WF ⟨3, ![N, a, b]⟩ ⟨2, ![n, 1]⟩ ⟨3, ![n, a, b]⟩ [1, 2] [0] [0] 1) :
    ScatterDims ⟨3, ![N, a, b]⟩ ⟨2, ![n, 1]⟩ ⟨3, ![n, a, b]⟩ where
  updateWindowDims := [1, 2]
  insertedWindowDims := [0]
  scatterDimsToOperandDims := [0]
  indexVectorDim := 1
  wf := wf

/-- Where the update at `(q, i, j)` lands: at `(k, i, j)` for the `k` that index `q` names. -/
theorem lands {N a b n : ℕ} (wf : ScatterDims.WF ⟨3, ![N, a, b]⟩ ⟨2, ![n, 1]⟩ ⟨3, ![n, a, b]⟩ [1, 2] [0] [0] 1)
    (idx : IVec ⟨2, ![n, 1]⟩ 32) (q : Fin n) (i i' : Fin a) (j j' : Fin b) (k : Fin N) (z : Fin N)
    (hk : (idx (ix2 q (0 : Fin 1))).toInt = (k.val : Int)) :
    (stackDims N a b n wf).resultIdx? (ix3 q i j) idx = some (ix3 z i' j') ↔ (z = k ∧ i = i') ∧ j = j' := by
  have hs0 : (stackDims N a b n wf).start (ix3 q i j) idx 0 = (k.val : Int) := by
    unfold ScatterDims.start
    rw [dif_pos (show (0 : Fin 3) ∈ (stackDims N a b n wf).scatterDimsToOperandDims from List.mem_singleton.mpr rfl)]
    have hsi : (stackDims N a b n wf).siIdx (ix3 q i j) ⟨List.idxOf (0 : Fin 3) (stackDims N a b n wf).scatterDimsToOperandDims,
        List.idxOf_lt_length_iff.2 (List.mem_singleton.mpr rfl)⟩ = ix2 q (0 : Fin 1) := by
      funext e; refine Fin.ext ?_
      match e with
      | ⟨0, _⟩ => rfl
      | ⟨1, _⟩ => rfl
    rw [hsi, hk]
  refine (Routing.resultIdx?_eq_some _ _ _ _).trans ⟨fun h => ?_, fun h a => ?_⟩
  · have h0 := h 0
    have h1 := h 1
    have h2 := h 2
    rw [hs0] at h0
    change (k.val : Int) + ((0 : ℕ) : Int) = (z.val : Int) at h0
    change (0 : Int) + ((i.val : ℕ) : Int) = (i'.val : Int) at h1
    change (0 : Int) + ((j.val : ℕ) : Int) = (j'.val : Int) at h2
    exact ⟨⟨Fin.ext (by omega), Fin.ext (by omega)⟩, Fin.ext (by omega)⟩
  · obtain ⟨⟨rfl, rfl⟩, rfl⟩ := h
    match a with
    | ⟨0, _⟩ =>
      show (stackDims N _ b n wf).start (ix3 q i j) idx 0 + ((0 : ℕ) : Int) = (z.val : Int)
      rw [hs0]; omega
    | ⟨1, _⟩ =>
      show (0 : Int) + ((i.val : ℕ) : Int) = (i.val : Int)
      omega
    | ⟨2, _⟩ =>
      show (0 : Int) + ((j.val : ℕ) : Int) = (j.val : Int)
      omega

/-- The accumulation into zeros at `(z, i, j)` is the sum of the updates whose index names `z`, each at `(i, j)`. -/
theorem scatter_stack {N a b n : ℕ} (wf : ScatterDims.WF ⟨3, ![N, a, b]⟩ ⟨2, ![n, 1]⟩ ⟨3, ![n, a, b]⟩ [1, 2] [0] [0] 1)
    (x : (⟨3, ![N, a, b]⟩ : Shape).Idx → EReal) (hx : ∀ y, x y = 0) (idx : IVec ⟨2, ![n, 1]⟩ 32) (upd : (⟨3, ![n, a, b]⟩ : Shape).Idx → EReal)
    (ad : Fin n → Fin N) (had : ∀ q, (idx (ix2 q (0 : Fin 1))).toInt = ((ad q).val : Int)) (z : Fin N) (i : Fin a) (j : Fin b) :
    Ideal.hostScatterAdd (stackDims N a b n wf) x idx upd (ix3 z i j) = ∑ q, if z = ad q then upd (ix3 q i j) else 0 := by
  unfold Ideal.hostScatterAdd
  rw [hx, zero_add, ← Finset.sum_filter]
  symm
  refine Finset.sum_bij (fun q _ => ix3 q i j) (fun q hq => ?_) (fun q _ q' _ h => ?_) (fun y hy => ?_) (fun q _ => rfl)
  · rw [Finset.mem_filter] at hq ⊢
    exact ⟨Finset.mem_univ _, (lands wf idx q i i j j (ad q) z (had q)).mpr ⟨⟨hq.2, rfl⟩, rfl⟩⟩
  · exact congrFun h (0 : Fin 3)
  · rw [Finset.mem_filter] at hy
    obtain ⟨q, i', j', rfl⟩ : ∃ (q : Fin n) (i' : Fin a) (j' : Fin b), y = ix3 q i' j' := ⟨y 0, y 1, y 2, eq_ix3 y⟩
    obtain ⟨⟨h0, h1⟩, h2⟩ := (lands wf idx q i' i j' j (ad q) z (had q)).mp hy.2
    subst h1 h2
    exact ⟨q, Finset.mem_filter.mpr ⟨Finset.mem_univ _, h0⟩, rfl⟩

end Cert.RefOps

end
-- ==== Proof.Ref.Terms.lean ====
/- The reference's five results as terms over its arguments, and each read at an index. -/
module

public import proofs.«01_k».proof.Proof.Value.Math
public import proofs.«01_k».proof.Proof.Ref.Ops
public import proofs.«01_k».proof.Proof.Gen.ReferenceIdeal
public import Idealize.ShloMosaic.Lib.Pipeline.ReadBack

@[expose] public section

set_option maxRecDepth 16384

noncomputable section

namespace Cert.ReferenceIdeal.Gen

open Idealize.ShloMosaic Cert.RefOps Cert.ReferenceIdeal.Facts₀ Cert.ReferenceIdeal.Facts

/-- The column of adapter indices that the reference gathers by: an index below zero counts from the end. -/
def nrm (ids : IVec S4 32) : IVec S4x1 32 :=
  broadcastInDim S4x1 ![0] bcast_S4_S4x1_0
    (select (cmpi .slt ids (broadcastInDim S4 ![] bcast_S_S4 (constantI S_ 32 0#32)))
      (addi ids (broadcastInDim S4 ![] bcast_S_S4 (constantI S_ 32 5#32))) ids)
/-- The adapters' first factors, one per sample. -/
def gA (a : FVec Ideal S5x2048x32 .bf16) (ids : IVec S4 32) : FVec Ideal S4x2048x32 .bf16 :=
  Host.gather gather_S5x2048x32_S4x1_S4x2048x32_12_0_n_n_0_1_1204832 a (nrm ids)
/-- The adapters' second factors, one per sample. -/
def gB (b : FVec Ideal S5x32x8192 .bf16) (ids : IVec S4 32) : FVec Ideal S4x32x8192 .bf16 :=
  Host.gather gather_S5x32x8192_S4x1_S4x32x8192_12_0_n_n_0_1_1328192 b (nrm ids)
/-- The scale of each row, along a column of length one. -/
def sc (s : FVec Ideal S4x384 .f32) : FVec Ideal S4x384x1 .f32 := broadcastInDim S4x384x1 ![0, 1] bcast_S4x384_S4x384x1_0_1 s
/-- The scale of each row, along 32 columns. -/
def sc32 (s : FVec Ideal S4x384 .f32) : FVec Ideal S4x384x32 .f32 := broadcastInDim S4x384x32 ![0, 1, 2] bcast_S4x384x1_S4x384x32_0_1_2 (sc s)
/-- The projected gradients. -/
def tT (dy : FVec Ideal S4x384x8192 .bf16) (dys : FVec Ideal S4x384 .f32) (b : FVec Ideal S5x32x8192 .bf16) (ids : IVec S4 32) : FVec Ideal S4x384x32 .f32 :=
  mulf (Host.dotGeneral dot_S4x384x8192_S4x32x8192_S4x384x32_2_2_1_1_0_0 none dy (gB b ids)) (sc32 dys)
/-- The projected activations. -/
def tXA (x : FVec Ideal S4x384x2048 .bf16) (xs : FVec Ideal S4x384 .f32) (a : FVec Ideal S5x2048x32 .bf16) (ids : IVec S4 32) : FVec Ideal S4x384x32 .f32 :=
  mulf (Host.dotGeneral dot_S4x384x2048_S4x2048x32_S4x384x32_2_1_1_2_0_0 none x (gA a ids)) (sc32 xs)
/-- The frozen weight with its scales. -/
def tW (w : FVec Ideal S2048x8192 .bf16) (ws : FVec Ideal S8192 .f32) : FVec Ideal S2048x8192 .bf16 :=
  mulf w (broadcastInDim S2048x8192 ![0, 1] bcast_S1x8192_S2048x8192_0_1 (broadcastInDim S1x8192 ![1] bcast_S8192_S1x8192_1 (truncf .bf16 ws bitsLt_bf16_f32)))
/-- The gradient of the activations. -/
def tDX (dy : FVec Ideal S4x384x8192 .bf16) (dys : FVec Ideal S4x384 .f32) (w : FVec Ideal S2048x8192 .bf16) (ws : FVec Ideal S8192 .f32)
    (a : FVec Ideal S5x2048x32 .bf16) (b : FVec Ideal S5x32x8192 .bf16) (ids : IVec S4 32) : FVec Ideal S4x384x2048 .bf16 :=
  truncf .bf16 (addf
    (mulf (Host.dotGeneral dot_S4x384x8192_S2048x8192_S4x384x2048_2_1_01_0_n_n none dy (tW w ws))
      (broadcastInDim S4x384x2048 ![0, 1, 2] bcast_S4x384x1_S4x384x2048_0_1_2 (sc dys)))
    (mulf (broadcastInDim S4x384x2048 ![] bcast_S_S4x384x2048 (constant S_ .f32 0x40000000#32))
      (Host.dotGeneral dot_S4x384x32_S4x2048x32_S4x384x2048_2_2_1_1_0_0 (some .fp32) (tT dy dys b ids) (extf .f32 (gA a ids) bitsLt_bf16_f32)))) bitsLt_bf16_f32
/-- Each sample's gradient of its first factor. -/
def tDAs (x : FVec Ideal S4x384x2048 .bf16) (xs : FVec Ideal S4x384 .f32) (dy : FVec Ideal S4x384x8192 .bf16) (dys : FVec Ideal S4x384 .f32)
    (b : FVec Ideal S5x32x8192 .bf16) (ids : IVec S4 32) : FVec Ideal S4x2048x32 .f32 :=
  mulf (broadcastInDim S4x2048x32 ![] bcast_S_S4x2048x32 (constant S_ .f32 0x40000000#32))
    (Host.dotGeneral dot_S4x384x2048_S4x384x32_S4x2048x32_1_1_2_2_0_0 (some .fp32) (extf .f32 x bitsLt_bf16_f32) (mulf (sc32 xs) (tT dy dys b ids)))
/-- Each sample's gradient of its second factor. -/
def tDBs (x : FVec Ideal S4x384x2048 .bf16) (xs : FVec Ideal S4x384 .f32) (dy : FVec Ideal S4x384x8192 .bf16) (dys : FVec Ideal S4x384 .f32)
    (a : FVec Ideal S5x2048x32 .bf16) (ids : IVec S4 32) : FVec Ideal S4x32x8192 .f32 :=
  mulf (broadcastInDim S4x32x8192 ![] bcast_S_S4x32x8192 (constant S_ .f32 0x40000000#32))
    (Host.dotGeneral dot_S4x384x32_S4x384x8192_S4x32x8192_1_1_2_2_0_0 (some .fp32) (mulf (tXA x xs a ids) (sc32 dys)) (extf .f32 dy bitsLt_bf16_f32))
/-- The gradient of the first factors. -/
def tDA (x : FVec Ideal S4x384x2048 .bf16) (xs : FVec Ideal S4x384 .f32) (dy : FVec Ideal S4x384x8192 .bf16) (dys : FVec Ideal S4x384 .f32)
    (b : FVec Ideal S5x32x8192 .bf16) (ids : IVec S4 32) : FVec Ideal S5x2048x32 .f32 :=
  Host.scatterAdd scatter_S5x2048x32_S4x1_S4x2048x32_12_0_0_1 (broadcastInDim S5x2048x32 ![] bcast_S_S5x2048x32 (constant S_ .f32 0x00000000#32))
    (broadcastInDim S4x1 ![0] bcast_S4_S4x1_0 ids) (tDAs x xs dy dys b ids)
/-- The gradient of the second factors. -/
def tDB (x : FVec Ideal S4x384x2048 .bf16) (xs : FVec Ideal S4x384 .f32) (dy : FVec Ideal S4x384x8192 .bf16) (dys : FVec Ideal S4x384 .f32)
    (a : FVec Ideal S5x2048x32 .bf16) (ids : IVec S4 32) : FVec Ideal S5x32x8192 .f32 :=
  Host.scatterAdd scatter_S5x32x8192_S4x1_S4x32x8192_12_0_0_1 (broadcastInDim S5x32x8192 ![] bcast_S_S5x32x8192 (constant S_ .f32 0x00000000#32))
    (broadcastInDim S4x1 ![0] bcast_S4_S4x1_0 ids) (tDBs x xs dy dys a ids)

variable {x : FVec Ideal S4x384x2048 .bf16} {xs : FVec Ideal S4x384 .f32} {dy : FVec Ideal S4x384x8192 .bf16} {dys : FVec Ideal S4x384 .f32}
  {w : FVec Ideal S2048x8192 .bf16} {ws : FVec Ideal S8192 .f32} {a : FVec Ideal S5x2048x32 .bf16} {b : FVec Ideal S5x32x8192 .bf16} {ids : IVec S4 32}

/-- The word of a small number, read signed. -/
theorem toInt_of (v : BitVec 32) (k : Fin 5) (h : v.toNat = k.val) : v.toInt = (k.val : Int) := by
  have := k.isLt
  rw [BitVec.toInt_eq_toNat_of_lt (by omega), h]

/-- The column of indices, read signed. -/
theorem nrm_at {ad : Fin 4 → Fin 5} (had : ∀ q, (ids (ix1 q)).toNat = (ad q).val) (q : Fin 4) :
    (nrm ids (ix2 q (0 : Fin 1))).toInt = ((ad q).val : Int) := by
  have hi := toInt_of _ _ (had q)
  have e : nrm ids (ix2 q (0 : Fin 1)) = ids (ix1 q) := by
    pointwise [nrm]
    show (if BitVec.ofBool ((ids (ix1 q)).slt 0#32) = 1#1 then _ else _) = _
    rw [if_neg]
    rw [show (ids (ix1 q)).slt 0#32 = false by
      simp only [BitVec.slt, hi]
      exact decide_eq_false (by show ¬((ad q).val : Int) < 0; omega)]
    decide
  rw [e, hi]

/-- The column of indices as it stands, read signed. -/
theorem col_at {ad : Fin 4 → Fin 5} (had : ∀ q, (ids (ix1 q)).toNat = (ad q).val) (q : Fin 4) :
    ((broadcastInDim S4x1 ![0] bcast_S4_S4x1_0 ids : IVec S4x1 32) (ix2 q (0 : Fin 1))).toInt = ((ad q).val : Int) := by
  have e : (broadcastInDim S4x1 ![0] bcast_S4_S4x1_0 ids : IVec S4x1 32) (ix2 q (0 : Fin 1)) = ids (ix1 q) := by pointwise []
  rw [e]
  exact toInt_of _ _ (had q)

theorem gA_at {ad : Fin 4 → Fin 5} (had : ∀ q, (ids (ix1 q)).toNat = (ad q).val) (q : Fin 4) (i : Fin 2048) (r : Fin 32) :
    gA a ids (ix3 q i r) = a (ix3 (ad q) i r) :=
  gather_slab _ a (nrm ids) q i r (ad q) (nrm_at had q)

theorem gB_at {ad : Fin 4 → Fin 5} (had : ∀ q, (ids (ix1 q)).toNat = (ad q).val) (q : Fin 4) (r : Fin 32) (o : Fin 8192) :
    gB b ids (ix3 q r o) = b (ix3 (ad q) r o) :=
  gather_slab _ b (nrm ids) q r o (ad q) (nrm_at had q)

theorem sc32_at (q : Fin 4) (j : Fin 384) (r : Fin 32) : sc32 xs (ix3 q j r) = xs (ix2 q j) := by
  pointwise [sc32, sc]

theorem tT_at {ad : Fin 4 → Fin 5} (had : ∀ q, (ids (ix1 q)).toNat = (ad q).val) (q : Fin 4) (j : Fin 384) (r : Fin 32) :
    tT dy dys b ids (ix3 q j r) = Cert.Lora.T (fun q j o => dy (ix3 q j o)) (fun q j => dys (ix2 q j)) (fun c r o => b (ix3 c r o)) ad q j r := by
  pointwise [tT]
  refine congrArg₂ (fun a b : EReal => a * b) (Finset.sum_congr rfl fun o _ => ?_) (sc32_at q j r)
  exact congrArg (fun z : EReal => dy (ix3 q j o) * z) (gB_at had q r o)

theorem tXA_at {ad : Fin 4 → Fin 5} (had : ∀ q, (ids (ix1 q)).toNat = (ad q).val) (q : Fin 4) (j : Fin 384) (r : Fin 32) :
    tXA x xs a ids (ix3 q j r) = Cert.Lora.XA (fun q j i => x (ix3 q j i)) (fun q j => xs (ix2 q j)) (fun c i r => a (ix3 c i r)) ad q j r := by
  pointwise [tXA]
  refine congrArg₂ (fun a b : EReal => a * b) (Finset.sum_congr rfl fun i _ => ?_) (sc32_at q j r)
  exact congrArg (fun z : EReal => x (ix3 q j i) * z) (gA_at had q i r)

theorem tW_at (i : Fin 2048) (o : Fin 8192) : tW w ws (ix2 i o) = (w (ix2 i o) * ws (ix1 o) : EReal) := by
  pointwise [tW]

theorem tDX_at {ad : Fin 4 → Fin 5} (had : ∀ q, (ids (ix1 q)).toNat = (ad q).val) (q : Fin 4) (j : Fin 384) (i : Fin 2048) :
    tDX dy dys w ws a b ids (ix3 q j i) = Cert.Lora.DX (fun q j o => dy (ix3 q j o)) (fun q j => dys (ix2 q j)) (fun i o => w (ix2 i o)) (fun o => ws (ix1 o))
      (fun c i r => a (ix3 c i r)) (fun c r o => b (ix3 c r o)) ad q j i := by
  pointwise [tDX, sc]
  refine congrArg₂ (fun a b : EReal => a + b) (congrArg (fun z : EReal => z * dys (ix2 q j)) (Finset.sum_congr rfl fun o _ => ?_))
    (congrArg (fun z : EReal => Cert.Lora.two * z) (Finset.sum_congr rfl fun r _ => ?_))
  · exact congrArg (fun z : EReal => dy (ix3 q j o) * z) (tW_at i o)
  · exact congrArg₂ (fun a b : EReal => a * b) (tT_at had q j r) (gA_at had q i r)

theorem tDAs_at {ad : Fin 4 → Fin 5} (had : ∀ q, (ids (ix1 q)).toNat = (ad q).val) (q : Fin 4) (i : Fin 2048) (r : Fin 32) :
    tDAs x xs dy dys b ids (ix3 q i r) = Cert.Lora.DAs (fun q j i => x (ix3 q j i)) (fun q j => xs (ix2 q j)) (fun q j o => dy (ix3 q j o)) (fun q j => dys (ix2 q j))
      (fun c r o => b (ix3 c r o)) ad q i r := by
  pointwise [tDAs]
  refine congrArg (fun z : EReal => Cert.Lora.two * z) (Finset.sum_congr rfl fun j _ => ?_)
  exact congrArg (fun z : EReal => x (ix3 q j i) * z) (congrArg₂ (fun a b : EReal => a * b) (sc32_at q j r) (tT_at had q j r))

theorem tDBs_at {ad : Fin 4 → Fin 5} (had : ∀ q, (ids (ix1 q)).toNat = (ad q).val) (q : Fin 4) (r : Fin 32) (o : Fin 8192) :
    tDBs x xs dy dys a ids (ix3 q r o) = Cert.Lora.DBs (fun q j i => x (ix3 q j i)) (fun q j => xs (ix2 q j)) (fun q j o => dy (ix3 q j o)) (fun q j => dys (ix2 q j))
      (fun c i r => a (ix3 c i r)) ad q r o := by
  pointwise [tDBs]
  refine congrArg (fun z : EReal => Cert.Lora.two * z) (Finset.sum_congr rfl fun j _ => ?_)
  exact congrArg (fun z : EReal => z * dy (ix3 q j o)) (congrArg₂ (fun a b : EReal => a * b) (tXA_at had q j r) (sc32_at q j r))

/-- The word of all zeros is the number zero. -/
theorem zero_bits : Ideal.ofBits .f32 0x00000000#32 = 0 := by
  simp [Ideal.ofBits, Ideal.ieee]

theorem tDA_at {ad : Fin 4 → Fin 5} (had : ∀ q, (ids (ix1 q)).toNat = (ad q).val) (z : Fin 5) (i : Fin 2048) (r : Fin 32) :
    tDA x xs dy dys b ids (ix3 z i r) = Cert.Lora.seg ad z fun q => Cert.Lora.DAs (fun q j i => x (ix3 q j i)) (fun q j => xs (ix2 q j)) (fun q j o => dy (ix3 q j o)) (fun q j => dys (ix2 q j))
      (fun c r o => b (ix3 c r o)) ad q i r := by
  refine (scatter_stack _ _ (fun _ => zero_bits) _ _ ad (col_at had) z i r).trans (Finset.sum_congr rfl fun q _ => ?_)
  rw [tDAs_at had q i r]

theorem tDB_at {ad : Fin 4 → Fin 5} (had : ∀ q, (ids (ix1 q)).toNat = (ad q).val) (z : Fin 5) (r : Fin 32) (o : Fin 8192) :
    tDB x xs dy dys a ids (ix3 z r o) = Cert.Lora.seg ad z fun q => Cert.Lora.DBs (fun q j i => x (ix3 q j i)) (fun q j => xs (ix2 q j)) (fun q j o => dy (ix3 q j o)) (fun q j => dys (ix2 q j))
      (fun c i r => a (ix3 c i r)) ad q r o := by
  refine (scatter_stack _ _ (fun _ => zero_bits) _ _ ad (col_at had) z r o).trans (Finset.sum_congr rfl fun q _ => ?_)
  rw [tDBs_at had q r o]

end Cert.ReferenceIdeal.Gen

end
-- ==== Proof.Ref.Results.lean ====
/- What the reference leaves in its five results: the arrays of the casts, and the host operations after them. -/
module

public import proofs.«01_k».proof.Proof.Ref.Terms
public import proofs.«01_k».proof.Proof.Gen.ReferenceIdeal.Frame
public import Idealize.ShloMosaic.Lib.Pipeline.ValueKit
public import Idealize.ShloMosaic.Lib.Pipeline.ReadBack

@[expose] public section

set_option maxRecDepth 16384

noncomputable section

namespace Cert.ReferenceIdeal.Gen

open Idealize.ShloMosaic Idealize.ShloMosaic.TcCoe Idealize.SL.Sem Cert.ReferenceIdeal.Facts₀ Cert.ReferenceIdeal.Facts

variable (m : (ℓ : Loc nD τ sig) → Buf (Elt Ideal) ℓ)

/-- The codes of `x` read as floats. -/
abbrev fX (c : Dev nD) : FVec Ideal S4x384x2048 .bf16 := bitcastToFloat (F := Ideal) .fp8e4m3 (m ((c.tc : Thread nD τ).loc main_arg0))
/-- The codes of `dy` read as floats. -/
abbrev fDY (c : Dev nD) : FVec Ideal S4x384x8192 .bf16 := bitcastToFloat (F := Ideal) .fp8e5m2 (m ((c.tc : Thread nD τ).loc main_arg2))

theorem entry_x (c : Dev nD) : V m c main_v0 = (fX m c : S4x384x2048.Idx → EReal) := by
  show StableHlo.after hostOps0 (fun b => m (c, b)) (Proc.devRef .tc main_v0) = _
  entry_read
  rfl

theorem entry_dy (c : Dev nD) : V m c main_v1 = (fDY m c : S4x384x8192.Idx → EReal) := by
  show StableHlo.after hostOps0 (fun b => m (c, b)) (Proc.devRef .tc main_v1) = _
  entry_read
  rfl

/-- Each input window's one block is its whole array. -/
theorem blk0 (c : Dev nD) (j : S4x384x2048.Idx) : (iblk m c 0 t0_0 : S4x384x2048.Idx → EReal) j = (V m c main_v0 : S4x384x2048.Idx → EReal) j := by
  have e : (((cfg0.win 0).blk t0_0).view.emb j : S4x384x2048.Idx) = j := by
    funext a
    refine Fin.ext ((Pipeline.Window.rect_emb_val (cfg0.win 0) t0_0 j a).trans ?_)
    match a with
    | ⟨0, _⟩ => show 0 * 4 + (j 0).val = (j 0).val; omega
    | ⟨1, _⟩ => show 0 * 384 + (j 1).val = (j 1).val; omega
    | ⟨2, _⟩ => show 0 * 2048 + (j 2).val = (j 2).val; omega
  blk_simp [iblk]
  exact congrArg (V m c main_v0 : S4x384x2048.Idx → EReal) e

theorem blk1 (c : Dev nD) (j : S4x384x8192.Idx) : (iblk m c 1 t0_0 : S4x384x8192.Idx → EReal) j = (V m c main_v1 : S4x384x8192.Idx → EReal) j := by
  have e : (((cfg0.win 1).blk t0_0).view.emb j : S4x384x8192.Idx) = j := by
    funext a
    refine Fin.ext ((Pipeline.Window.rect_emb_val (cfg0.win 1) t0_0 j a).trans ?_)
    match a with
    | ⟨0, _⟩ => show 0 * 4 + (j 0).val = (j 0).val; omega
    | ⟨1, _⟩ => show 0 * 384 + (j 1).val = (j 1).val; omega
    | ⟨2, _⟩ => show 0 * 8192 + (j 2).val = (j 2).val; omega
  blk_simp [iblk]
  exact congrArg (V m c main_v1 : S4x384x8192.Idx → EReal) e

theorem blk2 (c : Dev nD) (j : S2048x8192.Idx) : (iblk m c 2 t0_0 : S2048x8192.Idx → EReal) j = (V m c main_arg4 : S2048x8192.Idx → EReal) j := by
  have e : (((cfg0.win 2).blk t0_0).view.emb j : S2048x8192.Idx) = j := by
    funext a
    refine Fin.ext ((Pipeline.Window.rect_emb_val (cfg0.win 2) t0_0 j a).trans ?_)
    match a with
    | ⟨0, _⟩ => show 0 * 2048 + (j 0).val = (j 0).val; omega
    | ⟨1, _⟩ => show 0 * 8192 + (j 1).val = (j 1).val; omega
  blk_simp [iblk]
  exact congrArg (V m c main_arg4 : S2048x8192.Idx → EReal) e

/-- The cast of `x` leaves its values as they are. -/
theorem arr3 (c : Dev nD) : ((dats m 0 c).arrAt 3 cfg0.N : S4x384x2048.Idx → EReal) = fX m c := by
  refine Eq.trans ?_ (entry_x m c)
  have hb := blk0 m c
  generalize V m c main_v0 = Z at hb ⊢
  refine (dats m 0 c).arrAt_eq_of_after_last 3 t0_0 (by decide +kernel) _ fun j => ?_
  blk_simp
  rw [after0_3]
  frame_out
  refine Eq.trans ?_ (hb j)
  pointwise [k0_pay1]

/-- The cast of `dy` leaves its values as they are. -/
theorem arr4 (c : Dev nD) : ((dats m 0 c).arrAt 4 cfg0.N : S4x384x8192.Idx → EReal) = fDY m c := by
  refine Eq.trans ?_ (entry_dy m c)
  have hb := blk1 m c
  generalize V m c main_v1 = Z at hb ⊢
  refine (dats m 0 c).arrAt_eq_of_after_last 4 t0_0 (by decide +kernel) _ fun j => ?_
  blk_simp
  rw [after0_4]
  frame_out
  refine Eq.trans ?_ (hb j)
  pointwise [k0_pay2]

/-- The cast of the frozen weight leaves its values as they are. -/
theorem arr5 (c : Dev nD) : ((dats m 0 c).arrAt 5 cfg0.N : S2048x8192.Idx → EReal) = m ((c.tc : Thread nD τ).loc main_arg4) := by
  refine Eq.trans ?_ (V_main_arg4 m c)
  have hb := blk2 m c
  generalize V m c main_arg4 = Z at hb ⊢
  refine (dats m 0 c).arrAt_eq_of_after_last 5 t0_0 (by decide +kernel) _ fun j => ?_
  blk_simp
  rw [after0_5]
  frame_out
  refine Eq.trans ?_ (hb j)
  pointwise [k0_pay3]

/-- The host operations after the casts, from any contents: the projected gradients. -/
theorem read_t (E : Valuation τ sig (Elt Ideal)) : StableHlo.after hostOps1 E (Proc.devRef .tc main_v21)
    = tT (E (Proc.devRef .tc main_v2_1)) (E (Proc.devRef .tc main_arg3)) (E (Proc.devRef .tc main_arg7)) (E (Proc.devRef .tc main_arg8)) := by
  entry_read
  rfl

/-- The projected activations. -/
theorem read_xa (E : Valuation τ sig (Elt Ideal)) : StableHlo.after hostOps1 E (Proc.devRef .tc main_v24)
    = tXA (E (Proc.devRef .tc main_v2_0)) (E (Proc.devRef .tc main_arg1)) (E (Proc.devRef .tc main_arg6)) (E (Proc.devRef .tc main_arg8)) := by
  entry_read
  rfl

/-- The gradient of the activations. -/
theorem read_dx (E : Valuation τ sig (Elt Ideal)) : StableHlo.after hostOps1 E (Proc.devRef .tc main_v37)
    = tDX (E (Proc.devRef .tc main_v2_1)) (E (Proc.devRef .tc main_arg3)) (E (Proc.devRef .tc main_v2_2)) (E (Proc.devRef .tc main_arg5))
        (E (Proc.devRef .tc main_arg6)) (E (Proc.devRef .tc main_arg7)) (E (Proc.devRef .tc main_arg8)) := by
  entry_read
  rfl

/-- The gradient of the first factors. -/
theorem read_da (E : Valuation τ sig (Elt Ideal)) : StableHlo.after hostOps1 E (Proc.devRef .tc main_v52)
    = tDA (E (Proc.devRef .tc main_v2_0)) (E (Proc.devRef .tc main_arg1)) (E (Proc.devRef .tc main_v2_1)) (E (Proc.devRef .tc main_arg3))
        (E (Proc.devRef .tc main_arg7)) (E (Proc.devRef .tc main_arg8)) := by
  entry_read
  rfl

/-- The gradient of the second factors. -/
theorem read_db (E : Valuation τ sig (Elt Ideal)) : StableHlo.after hostOps1 E (Proc.devRef .tc main_v55)
    = tDB (E (Proc.devRef .tc main_v2_0)) (E (Proc.devRef .tc main_arg1)) (E (Proc.devRef .tc main_v2_1)) (E (Proc.devRef .tc main_arg3))
        (E (Proc.devRef .tc main_arg6)) (E (Proc.devRef .tc main_arg8)) := by
  entry_read
  rfl

/-- What the lines after the casts find. -/
abbrev Env (c : Dev nD) : Valuation τ sig (Elt Ideal) := Pipeline.withArrays spec0 c (V0 m c) (fun w => (dats m 0 c).arrAt w cfg0.N)

theorem env_x (c : Dev nD) : Env m c (Proc.devRef .tc main_v2_0) = fX m c :=
  (Pipeline.withArrays_arr spec0 (by decide) c (V0 m c) (fun w => (dats m 0 c).arrAt w cfg0.N) 3).trans (arr3 m c)
theorem env_dy (c : Dev nD) : Env m c (Proc.devRef .tc main_v2_1) = fDY m c :=
  (Pipeline.withArrays_arr spec0 (by decide) c (V0 m c) (fun w => (dats m 0 c).arrAt w cfg0.N) 4).trans (arr4 m c)
theorem env_w (c : Dev nD) : Env m c (Proc.devRef .tc main_v2_2) = m ((c.tc : Thread nD τ).loc main_arg4) :=
  (Pipeline.withArrays_arr spec0 (by decide) c (V0 m c) (fun w => (dats m 0 c).arrAt w cfg0.N) 5).trans (arr5 m c)
theorem env_1 (c : Dev nD) : Env m c (Proc.devRef .tc main_arg1) = m ((c.tc : Thread nD τ).loc main_arg1) :=
  (Pipeline.withArrays_of_ne spec0 c (V0 m c) (fun w => (dats m 0 c).arrAt w cfg0.N) main_arg1 (by exact (by decide : ∀ w, Pipeline.arrRef spec0 w ≠ main_arg1))).trans (V_main_arg1 m c)
theorem env_3 (c : Dev nD) : Env m c (Proc.devRef .tc main_arg3) = m ((c.tc : Thread nD τ).loc main_arg3) :=
  (Pipeline.withArrays_of_ne spec0 c (V0 m c) (fun w => (dats m 0 c).arrAt w cfg0.N) main_arg3 (by exact (by decide : ∀ w, Pipeline.arrRef spec0 w ≠ main_arg3))).trans (V_main_arg3 m c)
theorem env_5 (c : Dev nD) : Env m c (Proc.devRef .tc main_arg5) = m ((c.tc : Thread nD τ).loc main_arg5) :=
  (Pipeline.withArrays_of_ne spec0 c (V0 m c) (fun w => (dats m 0 c).arrAt w cfg0.N) main_arg5 (by exact (by decide : ∀ w, Pipeline.arrRef spec0 w ≠ main_arg5))).trans (V_main_arg5 m c)
theorem env_6 (c : Dev nD) : Env m c (Proc.devRef .tc main_arg6) = m ((c.tc : Thread nD τ).loc main_arg6) :=
  (Pipeline.withArrays_of_ne spec0 c (V0 m c) (fun w => (dats m 0 c).arrAt w cfg0.N) main_arg6 (by exact (by decide : ∀ w, Pipeline.arrRef spec0 w ≠ main_arg6))).trans (V_main_arg6 m c)
theorem env_7 (c : Dev nD) : Env m c (Proc.devRef .tc main_arg7) = m ((c.tc : Thread nD τ).loc main_arg7) :=
  (Pipeline.withArrays_of_ne spec0 c (V0 m c) (fun w => (dats m 0 c).arrAt w cfg0.N) main_arg7 (by exact (by decide : ∀ w, Pipeline.arrRef spec0 w ≠ main_arg7))).trans (V_main_arg7 m c)
theorem env_8 (c : Dev nD) : Env m c (Proc.devRef .tc main_arg8) = m ((c.tc : Thread nD τ).loc main_arg8) :=
  (Pipeline.withArrays_of_ne spec0 c (V0 m c) (fun w => (dats m 0 c).arrAt w cfg0.N) main_arg8 (by exact (by decide : ∀ w, Pipeline.arrRef spec0 w ≠ main_arg8))).trans (V_main_arg8 m c)

variable {m}

/-- The launch's post: every array of the casts, and every other buffer as the lines after them leave it. -/
abbrev Post (m : (ℓ : Loc nD τ sig) → Buf (Elt Ideal) ℓ) := Pipeline.FramePost cfgs (dats m) 0 (Pipeline.afterTail₀ cfgs (dats m) 0 (V0 m) [hostOps1])

theorem post_t {r} (h : Post m r) (c : Dev nD) : r.2.mem ((c.tc : Thread nD τ).loc main_v21)
    = tT (fDY m c) (m ((c.tc : Thread nD τ).loc main_arg3)) (m ((c.tc : Thread nD τ).loc main_arg7)) (m ((c.tc : Thread nD τ).loc main_arg8)) := by
  refine (Pipeline.FramePost.rest_eq h c main_v21 (by decide : main_v21 ∈ Pipeline.restRefs sig spec0)).trans ((read_t (Env m c)).trans ?_)
  rw [env_dy, env_3, env_7, env_8]

theorem post_xa {r} (h : Post m r) (c : Dev nD) : r.2.mem ((c.tc : Thread nD τ).loc main_v24)
    = tXA (fX m c) (m ((c.tc : Thread nD τ).loc main_arg1)) (m ((c.tc : Thread nD τ).loc main_arg6)) (m ((c.tc : Thread nD τ).loc main_arg8)) := by
  refine (Pipeline.FramePost.rest_eq h c main_v24 (by decide : main_v24 ∈ Pipeline.restRefs sig spec0)).trans ((read_xa (Env m c)).trans ?_)
  rw [env_x, env_1, env_6, env_8]

theorem post_dx {r} (h : Post m r) (c : Dev nD) : r.2.mem ((c.tc : Thread nD τ).loc main_v37)
    = tDX (fDY m c) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  refine (Pipeline.FramePost.rest_eq h c main_v37 (by decide : main_v37 ∈ Pipeline.restRefs sig spec0)).trans ((read_dx (Env m c)).trans ?_)
  rw [env_dy, env_3, env_w, env_5, env_6, env_7, env_8]

theorem post_da {r} (h : Post m r) (c : Dev nD) : r.2.mem ((c.tc : Thread nD τ).loc main_v52)
    = tDA (fX m c) (m ((c.tc : Thread nD τ).loc main_arg1)) (fDY m c) (m ((c.tc : Thread nD τ).loc main_arg3))
        (m ((c.tc : Thread nD τ).loc main_arg7)) (m ((c.tc : Thread nD τ).loc main_arg8)) := by
  refine (Pipeline.FramePost.rest_eq h c main_v52 (by decide : main_v52 ∈ Pipeline.restRefs sig spec0)).trans ((read_da (Env m c)).trans ?_)
  rw [env_x, env_1, env_dy, env_3, env_7, env_8]

theorem post_db {r} (h : Post m r) (c : Dev nD) : r.2.mem ((c.tc : Thread nD τ).loc main_v55)
    = tDB (fX m c) (m ((c.tc : Thread nD τ).loc main_arg1)) (fDY m c) (m ((c.tc : Thread nD τ).loc main_arg3))
        (m ((c.tc : Thread nD τ).loc main_arg6)) (m ((c.tc : Thread nD τ).loc main_arg8)) := by
  refine (Pipeline.FramePost.rest_eq h c main_v55 (by decide : main_v55 ∈ Pipeline.restRefs sig spec0)).trans ((read_db (Env m c)).trans ?_)
  rw [env_x, env_1, env_dy, env_3, env_6, env_8]

end Cert.ReferenceIdeal.Gen

end
-- ==== Proof.Tame.lean ====
/- The precondition of the value claim read back: what `tame` says of the adapter indices and of each array's elements. -/
module

public import proofs.«01_k».proof.Proof.Gen.Pre_tame
public import proofs.«01_k».proof.Proof.Pre
public import proofs.«01_k».proof.Proof.Value.Math

@[expose] public section

set_option maxRecDepth 16384

noncomputable section

namespace Cert.Pre

open Idealize.ShloMosaic Cert.Lora Cert.Pre_tame

/-- Both of two one-bit words are one when their conjunction is. -/
theorem and_one {p q : BitVec 1} (h : IntOp.andi p q = 1#1) : p = 1#1 ∧ q = 1#1 :=
  (by decide : ∀ p q : BitVec 1, IntOp.andi p q = 1#1 → p = 1#1 ∧ q = 1#1) p q h

/-- An extended real whose absolute value is below infinity is a real number. -/
theorem isR_of_lt (v : EReal) (h : max v (-v) < ⊤) : IsR v := by
  induction v using EReal.rec with
  | bot => simp at h
  | top => simp at h
  | coe r => exact ⟨r, rfl⟩

/-- The word of the f32 infinity denotes infinity. -/
theorem inf_f32 : Ideal.ofBits .f32 0x7F800000#32 = ⊤ := by
  simp [Ideal.ofBits, Ideal.ieee]

/-- The word of the bf16 infinity denotes infinity. -/
theorem inf_bf16 : Ideal.ofBits .bf16 0x7F80#16 = ⊤ := by
  simp [Ideal.ofBits, Ideal.ieee]

/-- A comparison with infinity that holds, read back. -/
theorem isR_of_cmp (φ : FTy) (v w : Ideal φ) (hw : (w : EReal) = ⊤) (h : FloatOps.cmpf .olt (FloatOps.hostAbsf v) w = 1#1) : IsR v := by
  refine isR_of_lt v ?_
  rw [← hw]
  by_contra hn
  have : FloatOps.cmpf .olt (FloatOps.hostAbsf v) w = 0#1 := by
    show BitVec.ofBool (decide (max (v : EReal) (-v) < w)) = 0#1
    rw [decide_eq_false hn]
    rfl
  rw [this] at h
  exact absurd h (by decide)

/-- A code of the four-bit exponent format that is not a NaN denotes a real number. -/
theorem isR_x (v : BitVec 8) (h : IntOp.cmpi .ne (IntOp.andi (v.setWidth 32) 127#32) 127#32 = 1#1) : IsR (Ideal.ofBits .fp8e4m3 v) :=
  isR_e4m3 v ((by decide +kernel : ∀ v : BitVec 8, IntOp.cmpi .ne (IntOp.andi (v.setWidth 32) 127#32) 127#32 = 1#1 →
    ¬((v.extractLsb' 3 4).toNat = 15 ∧ (v.extractLsb' 0 3).toNat = 7)) v h)

/-- A code of the five-bit exponent format that is neither infinite nor a NaN denotes a real number. -/
theorem isR_dy (v : BitVec 8) (h : IntOp.cmpi .ne (IntOp.andi (v.setWidth 32) 124#32) 124#32 = 1#1) : IsR (Ideal.ofBits .fp8e5m2 v) :=
  isR_ieee (e := 5) (m := 2) v ((by decide +kernel : ∀ v : BitVec 8, IntOp.cmpi .ne (IntOp.andi (v.setWidth 32) 124#32) 124#32 = 1#1 →
    ¬(v.extractLsb' 2 5).toNat = 2 ^ 5 - 1) v h)

/-- What `tame` says of the arguments. -/
structure IsTame (x : IVec S4x384x2048 8) (xs : FVec Ideal S4x384 .f32) (dy : IVec S4x384x8192 8) (dys : FVec Ideal S4x384 .f32)
    (a : FVec Ideal S5x2048x32 .bf16) (b : FVec Ideal S5x32x8192 .bf16) (ids : IVec S4 32) : Prop where
  ids : ∀ y, (ids y).toNat < 5
  x : ∀ y, IsR (Ideal.ofBits .fp8e4m3 (x y))
  xs : ∀ y, IsR (xs y)
  dy : ∀ y, IsR (Ideal.ofBits .fp8e5m2 (dy y))
  dys : ∀ y, IsR (dys y)
  a : ∀ y, IsR (a y)
  b : ∀ y, IsR (b y)

/-- The precondition, read back. -/
theorem isTame [Cert.Pre_tame.Facts] {x xs dy dys w ws a b ids} (h : Cert.Pre_tame.fn (F := Ideal) x xs dy dys w ws a b ids = fun _ => 1#1) :
    IsTame x xs dy dys a b ids := by
  unfold Cert.Pre_tame.fn Cert.Pre_tame.fn_part1 Cert.Pre_tame.fn_part2 at h
  have e := congrFun h (fun a => a.elim0)
  have : Subsingleton Cert.Pre_tame.S_.Idx := ⟨fun _ _ => funext fun a => a.elim0⟩
  obtain ⟨e, hb⟩ := and_one e
  obtain ⟨e, ha⟩ := and_one e
  obtain ⟨e, hdys⟩ := and_one e
  obtain ⟨e, hdy⟩ := and_one e
  obtain ⟨e, hxs⟩ := and_one e
  obtain ⟨hids, hx⟩ := and_one e
  refine ⟨fun y => lt_of_cmp _ (Host.reduce_andi_all _ _ _ _ _ hids y), fun y => isR_x _ (Host.reduce_andi_all _ _ _ _ _ hx y),
    fun y => isR_of_cmp .f32 _ _ inf_f32 (Host.reduce_andi_all _ _ _ _ _ hxs y), fun y => isR_dy _ (Host.reduce_andi_all _ _ _ _ _ hdy y),
    fun y => isR_of_cmp .f32 _ _ inf_f32 (Host.reduce_andi_all _ _ _ _ _ hdys y),
    fun y => isR_of_cmp .bf16 _ _ inf_bf16 (Host.reduce_andi_all _ _ _ _ _ ha y),
    fun y => isR_of_cmp .bf16 _ _ inf_bf16 (Host.reduce_andi_all _ _ _ _ _ hb y)⟩

end Cert.Pre

end
-- ==== Proof.Equal.lean ====
/- The equation: from equal arguments that are tame, the kernel's five results and the reference's five results are the same arrays. -/
module

public import proofs.«01_k».proof.Defs
public import proofs.«01_k».proof.Proof.Run.Words
public import proofs.«01_k».proof.Proof.Value.Results
public import proofs.«01_k».proof.Proof.Ref.Results
public import proofs.«01_k».proof.Proof.Tame

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ)

/-- The adapter that each sample names. -/
def adOf (q : Fin 4) : Fin 5 := ⟨(wd m q).toNat % 5, Nat.mod_lt _ (by decide)⟩

/-- What the precondition says of the launched arguments. -/
theorem tame_of_pre (h : Cert.Pre_KernelIdeal_tame m) (c : Dev nD) :
    Cert.Pre.IsTame (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg6)) (m ((c.tc : Thread nD τ).loc main_arg7)) (m ((c.tc : Thread nD τ).loc main_arg8)) :=
  Cert.Pre.isTame (h c)

/-- The table's words are the words of `adapter_ids` on any device: there is one. -/
theorem wd_eq (c : Dev nD) (q : Fin 4) : wd m q = (m ((c.tc : Thread nD τ).loc main_arg8) : S4.Idx → BitVec 32) (ix1 q) := by
  obtain rfl : c = 0 := Subsingleton.elim _ _
  exact congrFun (Cert.KernelIdeal.Words.tbl_eq m) (ix1 q)

theorem names_of_pre (h : Cert.Pre_KernelIdeal_tame m) : Names m (adOf m) := fun q => by
  have e : (wd m q).toNat < 5 := by rw [wd_eq m 0 q]; exact (tame_of_pre m h 0).ids (ix1 q)
  exact (Nat.mod_eq_of_lt e).symm

theorem tame_of (h : Cert.Pre_KernelIdeal_tame m) (c : Dev nD) : Tame m c where
  x q j i := (tame_of_pre m h c).x (ix3 q j i)
  xs q j := (tame_of_pre m h c).xs (ix2 q j)
  dy q j o := (tame_of_pre m h c).dy (ix3 q j o)
  dys q j := (tame_of_pre m h c).dys (ix2 q j)
  a k i r := (tame_of_pre m h c).a (ix3 k i r)
  b k r o := (tame_of_pre m h c).b (ix3 k r o)

theorem hyps_of (h : Cert.Pre_KernelIdeal_tame m) : Hyps m (Cert.KernelIdeal.Words.ok m) :=
  Cert.KernelIdeal.Words.hyps m fun y => by rw [Cert.KernelIdeal.Words.tbl_eq]; exact (tame_of_pre m h 0).ids y

end Cert.KernelIdeal.Gen

namespace Cert.ReferenceIdeal.Gen

open Idealize.ShloMosaic Idealize.ShloMosaic.TcCoe Idealize.SL.Sem
open Cert.KernelIdeal.Gen (resDX resDA resDB resT resXA)

variable (m : (ℓ : Loc Cert.KernelIdeal.nD Cert.KernelIdeal.τ Cert.KernelIdeal.sig) → Buf (Elt Ideal) ℓ)
variable {x0 : IVec S4x384x2048 8} {x1 : FVec Ideal S4x384 .f32} {x2 : IVec S4x384x8192 8} {x3 : FVec Ideal S4x384 .f32}
  {x4 : FVec Ideal S2048x8192 .bf16} {x5 : FVec Ideal S8192 .f32} {x6 : FVec Ideal S5x2048x32 .bf16} {x7 : FVec Ideal S5x32x8192 .bf16} {x8 : IVec S4 32}
  {ad : Fin 4 → Fin 5} {c : Dev Cert.KernelIdeal.nD}

/-- The argument arrays of the kernel, as values that the reference's terms take. -/
structure Agree (c : Dev Cert.KernelIdeal.nD) (x0 : IVec S4x384x2048 8) (x1 : FVec Ideal S4x384 .f32) (x2 : IVec S4x384x8192 8) (x3 : FVec Ideal S4x384 .f32)
    (x4 : FVec Ideal S2048x8192 .bf16) (x5 : FVec Ideal S8192 .f32) (x6 : FVec Ideal S5x2048x32 .bf16) (x7 : FVec Ideal S5x32x8192 .bf16) (x8 : IVec S4 32) : Prop where
  h0 : x0 = m ((c.tc : Thread Cert.KernelIdeal.nD Cert.KernelIdeal.τ).loc Cert.KernelIdeal.main_arg0)
  h1 : x1 = m ((c.tc : Thread Cert.KernelIdeal.nD Cert.KernelIdeal.τ).loc Cert.KernelIdeal.main_arg1)
  h2 : x2 = m ((c.tc : Thread Cert.KernelIdeal.nD Cert.KernelIdeal.τ).loc Cert.KernelIdeal.main_arg2)
  h3 : x3 = m ((c.tc : Thread Cert.KernelIdeal.nD Cert.KernelIdeal.τ).loc Cert.KernelIdeal.main_arg3)
  h4 : x4 = m ((c.tc : Thread Cert.KernelIdeal.nD Cert.KernelIdeal.τ).loc Cert.KernelIdeal.main_arg4)
  h5 : x5 = m ((c.tc : Thread Cert.KernelIdeal.nD Cert.KernelIdeal.τ).loc Cert.KernelIdeal.main_arg5)
  h6 : x6 = m ((c.tc : Thread Cert.KernelIdeal.nD Cert.KernelIdeal.τ).loc Cert.KernelIdeal.main_arg6)
  h7 : x7 = m ((c.tc : Thread Cert.KernelIdeal.nD Cert.KernelIdeal.τ).loc Cert.KernelIdeal.main_arg7)
  h8 : x8 = m ((c.tc : Thread Cert.KernelIdeal.nD Cert.KernelIdeal.τ).loc Cert.KernelIdeal.main_arg8)

theorem eq_dx (h : Agree m c x0 x1 x2 x3 x4 x5 x6 x7 x8) (had : ∀ q, (x8 (ix1 q)).toNat = (ad q).val) :
    tDX (bitcastToFloat (F := Ideal) .fp8e5m2 x2) x3 x4 x5 x6 x7 x8 = resDX m c ad := by
  funext y
  refine (congrArg _ (eq_ix3 y)).trans ((tDX_at had (y 0) (y 1) (y 2)).trans ?_)
  obtain ⟨h0, h1, h2, h3, h4, h5, h6, h7, h8⟩ := h
  subst h0 h1 h2 h3 h4 h5 h6 h7 h8
  rfl

theorem eq_t (h : Agree m c x0 x1 x2 x3 x4 x5 x6 x7 x8) (had : ∀ q, (x8 (ix1 q)).toNat = (ad q).val) :
    tT (bitcastToFloat (F := Ideal) .fp8e5m2 x2) x3 x7 x8 = resT m c ad := by
  funext y
  refine (congrArg _ (eq_ix3 y)).trans ((tT_at had (y 0) (y 1) (y 2)).trans ?_)
  obtain ⟨h0, h1, h2, h3, h4, h5, h6, h7, h8⟩ := h
  subst h0 h1 h2 h3 h4 h5 h6 h7 h8
  rfl

theorem eq_xa (h : Agree m c x0 x1 x2 x3 x4 x5 x6 x7 x8) (had : ∀ q, (x8 (ix1 q)).toNat = (ad q).val) :
    tXA (bitcastToFloat (F := Ideal) .fp8e4m3 x0) x1 x6 x8 = resXA m c ad := by
  funext y
  refine (congrArg _ (eq_ix3 y)).trans ((tXA_at had (y 0) (y 1) (y 2)).trans ?_)
  obtain ⟨h0, h1, h2, h3, h4, h5, h6, h7, h8⟩ := h
  subst h0 h1 h2 h3 h4 h5 h6 h7 h8
  rfl

theorem eq_da (h : Agree m c x0 x1 x2 x3 x4 x5 x6 x7 x8) (had : ∀ q, (x8 (ix1 q)).toNat = (ad q).val) :
    tDA (bitcastToFloat (F := Ideal) .fp8e4m3 x0) x1 (bitcastToFloat (F := Ideal) .fp8e5m2 x2) x3 x7 x8 = resDA m c ad := by
  funext y
  refine (congrArg _ (eq_ix3 y)).trans ((tDA_at had (y 0) (y 1) (y 2)).trans ?_)
  obtain ⟨h0, h1, h2, h3, h4, h5, h6, h7, h8⟩ := h
  subst h0 h1 h2 h3 h4 h5 h6 h7 h8
  rfl

theorem eq_db (h : Agree m c x0 x1 x2 x3 x4 x5 x6 x7 x8) (had : ∀ q, (x8 (ix1 q)).toNat = (ad q).val) :
    tDB (bitcastToFloat (F := Ideal) .fp8e4m3 x0) x1 (bitcastToFloat (F := Ideal) .fp8e5m2 x2) x3 x6 x8 = resDB m c ad := by
  funext y
  refine (congrArg _ (eq_ix3 y)).trans ((tDB_at had (y 0) (y 1) (y 2)).trans ?_)
  obtain ⟨h0, h1, h2, h3, h4, h5, h6, h7, h8⟩ := h
  subst h0 h1 h2 h3 h4 h5 h6 h7 h8
  rfl

end Cert.ReferenceIdeal.Gen

namespace Cert.Proof

open Idealize.ShloMosaic Idealize.ShloMosaic.TcCoe Idealize.SL.Sem

/-- From equal tame arguments the kernel and the reference end with the same five results, their arguments unchanged. -/
theorem algebraic : Cert.algebraic_KernelIdeal_ReferenceIdeal_pre_tame := by
  intro m g m' g' hpre hagree
  have had := Cert.KernelIdeal.Gen.names_of_pre m hpre
  refine ⟨fun c => Cert.KernelIdeal.Gen.resDX m c (Cert.KernelIdeal.Gen.adOf m), fun c => Cert.KernelIdeal.Gen.resDA m c (Cert.KernelIdeal.Gen.adOf m),
    fun c => Cert.KernelIdeal.Gen.resDB m c (Cert.KernelIdeal.Gen.adOf m), fun c => Cert.KernelIdeal.Gen.resT m c (Cert.KernelIdeal.Gen.adOf m),
    fun c => Cert.KernelIdeal.Gen.resXA m c (Cert.KernelIdeal.Gen.adOf m), ?_, ?_⟩
  · refine (θ_run _ _ _).mono (fun r h c => ?_) (Cert.KernelIdeal.Gen.run_main_quiescent m g (Cert.KernelIdeal.Words.ok m) (Cert.KernelIdeal.Gen.hyps_of m hpre))
    obtain ⟨e0, e1, e2, e3, e4⟩ := Cert.KernelIdeal.Gen.values_of_post m had _ _ h.1 c (Cert.KernelIdeal.Gen.tame_of m hpre c)
    exact ⟨e0, e1, e2, e3, e4, Cert.KernelIdeal.Gen.args_of_post m _ _ h.1 c⟩
  · refine (θ_run _ _ _).mono (fun r h c => ?_) (θ_run_and (Cert.ReferenceIdeal.Gen.run_main m' g') (Cert.ReferenceIdeal.Gen.unchanged m' g'))
    obtain ⟨a0, a1, a2, a3, a4, a5, a6, a7, a8⟩ := hagree c
    have hA : Cert.ReferenceIdeal.Gen.Agree m c _ _ _ _ _ _ _ _ _ := ⟨a0, a1, a2, a3, a4, a5, a6, a7, a8⟩
    have hid : ∀ q, ((m' ((c.tc : Thread Cert.ReferenceIdeal.nD Cert.ReferenceIdeal.τ).loc Cert.ReferenceIdeal.main_arg8) : Cert.ReferenceIdeal.S4.Idx → BitVec 32) (ix1 q)).toNat
        = (Cert.KernelIdeal.Gen.adOf m q).val := fun q =>
      (congrArg BitVec.toNat ((congrFun hA.h8 (ix1 q)).trans (Cert.KernelIdeal.Gen.wd_eq m c q).symm)).trans (had q)
    exact ⟨(Cert.ReferenceIdeal.Gen.post_dx h.1 c).trans (Cert.ReferenceIdeal.Gen.eq_dx m hA hid),
      (Cert.ReferenceIdeal.Gen.post_da h.1 c).trans (Cert.ReferenceIdeal.Gen.eq_da m hA hid),
      (Cert.ReferenceIdeal.Gen.post_db h.1 c).trans (Cert.ReferenceIdeal.Gen.eq_db m hA hid),
      (Cert.ReferenceIdeal.Gen.post_t h.1 c).trans (Cert.ReferenceIdeal.Gen.eq_t m hA hid),
      (Cert.ReferenceIdeal.Gen.post_xa h.1 c).trans (Cert.ReferenceIdeal.Gen.eq_xa m hA hid), h.2 c⟩

end Cert.Proof

end
-- ==== Proof.lean ====
module

public import proofs.«01_k».proof.Proof.RunK.Words
public import proofs.«01_k».proof.Proof.RunK.Frame
public import proofs.«01_k».proof.Proof.Equal

@[expose] public section

noncomputable section

namespace Cert.Proof

open Idealize.ShloMosaic Idealize.SL.Sem

attribute [local instance] Cert.Pre.facts_in_range

/-- Every claim of the certificate. -/
theorem claim : Cert.Claim :=
  ⟨Cert.Kernel.Gen.facts, Cert.KernelIdeal.Gen.facts, Cert.ReferenceIdeal.Gen.facts, Cert.Pre.facts_in_range, Cert.Pre_tame.Gen.facts,
    fun m ρ h => Cert.Kernel.Gen.frame m ρ (Cert.Kernel.Words.ok m) (Cert.Kernel.Words.hyps_of_pre m (h 0)),
    fun m ρ h => Cert.KernelIdeal.Gen.frame m ρ (Cert.KernelIdeal.Words.ok m) (Cert.KernelIdeal.Words.hyps_of_pre m (h 0)),
    fun m ρ h => Cert.KernelIdeal.Gen.frame m ρ (Cert.KernelIdeal.Words.ok m) (Cert.KernelIdeal.Gen.hyps_of m h),
    fun m ρ _ => Cert.ReferenceIdeal.Gen.frame m ρ,
    fun m ρ _ => Cert.ReferenceIdeal.Gen.frame m ρ,
    trivial, algebraic⟩

end Cert.Proof

end
